-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scales_ok [hPre_scales_ok : Cert.Pre_scales_ok.Facts] (m : (ℓ : Loc Cert.KernelIdeal.nD Cert.KernelIdeal.τ Cert.KernelIdeal.sig) → Buf (Elt Ideal) ℓ) : Prop :=
  ∀ c : Dev Cert.KernelIdeal.nD,
    (Cert.Pre_scales_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scales_ok [hPre_scales_ok : Cert.Pre_scales_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scales_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_scales_ok [hKernelIdeal : Cert.KernelIdeal.Facts] [hPre_scales_ok : Cert.Pre_scales_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scales_ok m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_scales_ok [hReferenceIdeal : Cert.ReferenceIdeal.Facts] [hPre_scales_ok : Cert.Pre_scales_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scales_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal_pre_scales_ok [hKernelIdeal : Cert.KernelIdeal.Facts] [hReferenceIdeal : Cert.ReferenceIdeal.Facts] [hPre_scales_ok : Cert.Pre_scales_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scales_ok m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)) (v4 : (c : Dev Cert.KernelIdeal.nD) → Buf (Elt Ideal) ((c.tc : Thread Cert.KernelIdeal.nD Cert.KernelIdeal.τ).loc Cert.KernelIdeal.main_v3_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_v3_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_v68) = v1 c
          ∧ r.2.mem ((c.tc : Thread Cert.ReferenceIdeal.nD Cert.ReferenceIdeal.τ).loc Cert.ReferenceIdeal.main_v69) = v2 c
          ∧ r.2.mem ((c.tc : Thread Cert.ReferenceIdeal.nD Cert.ReferenceIdeal.τ).loc Cert.ReferenceIdeal.main_v36) = v3 c
          ∧ r.2.mem ((c.tc : Thread Cert.ReferenceIdeal.nD Cert.ReferenceIdeal.τ).loc Cert.ReferenceIdeal.main_v39) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_scales_ok : Cert.Pre_scales_ok.Facts),
    quiescent_Kernel (hKernel := hKernel)
    ∧ quiescent_KernelIdeal (hKernelIdeal := hKernelIdeal)
    ∧ quiescent_KernelIdeal_pre_scales_ok (hKernelIdeal := hKernelIdeal) (hPre_scales_ok := hPre_scales_ok)
    ∧ quiescent_ReferenceIdeal (hReferenceIdeal := hReferenceIdeal)
    ∧ quiescent_ReferenceIdeal_pre_scales_ok (hReferenceIdeal := hReferenceIdeal) (hPre_scales_ok := hPre_scales_ok)
    ∧ preserves_Kernel_KernelIdeal
    ∧ algebraic_KernelIdeal_ReferenceIdeal_pre_scales_ok (hKernelIdeal := hKernelIdeal) (hReferenceIdeal := hReferenceIdeal) (hPre_scales_ok := hPre_scales_ok)
-- ==== Pre_scales_ok.lean ====
abbrev S3x12288x24x128 : Shape := ⟨4, ![3, 12288, 24, 128]⟩
abbrev S3x24 : Shape := ⟨2, ![3, 24]⟩
abbrev S_ : Shape := ⟨0, ![]⟩

class Facts : Prop where
  bcast_S_S3x24 : S_.BroadcastsInDim S3x24 (![] : Fin 0 → Fin S3x24.rank)

variable [Facts]

def fn_part1 {F : FTy → Type} [FloatOps F] (main_v8 : IVec S3x24 1) (main_v17 : IVec S3x24 1) : IVec S3x24 1 :=
  let main_v18 : IVec S3x24 1 := andi main_v8 main_v17
  main_v18

def fn {F : FTy → Type} [FloatOps F] (main_arg0 : FVec F S3x12288x24x128 .bf16) (main_arg1 : FVec F S3x12288x24x128 .bf16) (main_arg2 : FVec F S3x12288x24x128 .bf16) (main_arg3 : FVec F S3x24 .f32) (main_arg4 : FVec F S3x24 .f32) : IVec S3x24 1 :=
  let main_v0 : FVec F S3x24 .f32 := Host.absf main_arg3
  let main_cst : FVec F S_ .f32 := constant S_ .f32 0x00000000#32
  let main_v1 : FVec F S3x24 .f32 := broadcastInDim S3x24 ![] bcast_S_S3x24 main_cst
  let main_v2 : IVec S3x24 1 := cmpf .oeq main_arg3 main_v1
  let main_cst_0 : FVec F S_ .f32 := constant S_ .f32 0x00400000#32
  let main_v3 : FVec F S3x24 .f32 := broadcastInDim S3x24 ![] bcast_S_S3x24 main_cst_0
  let main_v4 : IVec S3x24 1 := cmpf .oge main_v0 main_v3
  let main_cst_1 : FVec F S_ .f32 := constant S_ .f32 0x7F000000#32
  let main_v5 : FVec F S3x24 .f32 := broadcastInDim S3x24 ![] bcast_S_S3x24 main_cst_1
  let main_v6 : IVec S3x24 1 := cmpf .olt main_v0 main_v5
  let main_v7 : IVec S3x24 1 := andi main_v4 main_v6
  let main_v8 : IVec S3x24 1 := ori main_v2 main_v7
  let main_v9 : FVec F S3x24 .f32 := Host.absf main_arg4
  let main_cst_2 : FVec F S_ .f32 := constant S_ .f32 0x00000000#32
  let main_v10 : FVec F S3x24 .f32 := broadcastInDim S3x24 ![] bcast_S_S3x24 main_cst_2
  let main_v11 : IVec S3x24 1 := cmpf .oeq main_arg4 main_v10
  let main_cst_3 : FVec F S_ .f32 := constant S_ .f32 0x00400000#32
  let main_v12 : FVec F S3x24 .f32 := broadcastInDim S3x24 ![] bcast_S_S3x24 main_cst_3
  let main_v13 : IVec S3x24 1 := cmpf .oge main_v9 main_v12
  let main_cst_4 : FVec F S_ .f32 := constant S_ .f32 0x7F000000#32
  let main_v14 : FVec F S3x24 .f32 := broadcastInDim S3x24 ![] bcast_S_S3x24 main_cst_4
  let main_v15 : IVec S3x24 1 := cmpf .olt main_v9 main_v14
  let main_v16 : IVec S3x24 1 := andi main_v13 main_v15
  let main_v17 : IVec S3x24 1 := ori main_v11 main_v16
  fn_part1 (F := F) main_v8 main_v17
-- ==== Kernel.lean ====
abbrev S3x12288x24x128 : Shape := ⟨4, ![3, 12288, 24, 128]⟩
abbrev S3x24 : Shape := ⟨2, ![3, 24]⟩
abbrev S3x32x9216x128 : Shape := ⟨4, ![3, 32, 9216, 128]⟩
abbrev S1x32x96x128 : Shape := ⟨4, ![1, 32, 96, 128]⟩
abbrev S12x16x128 : Shape := ⟨3, ![12, 16, 128]⟩
abbrev S12x8x128 : Shape := ⟨3, ![12, 8, 128]⟩
abbrev S16x128 : Shape := ⟨2, ![16, 128]⟩
abbrev S8x128 : Shape := ⟨2, ![8, 128]⟩
abbrev S2x128 : Shape := ⟨2, ![2, 128]⟩
abbrev S1x1 : Shape := ⟨2, ![1, 1]⟩
abbrev S1x2x128 : Shape := ⟨3, ![1, 2, 128]⟩
abbrev S1 : Shape := ⟨1, ![1]⟩
abbrev S1x1x1 : Shape := ⟨3, ![1, 1, 1]⟩
abbrev S1x16x128 : Shape := ⟨3, ![1, 16, 128]⟩
abbrev S1x8x128 : Shape := ⟨3, ![1, 8, 128]⟩
abbrev S128x128 : Shape := ⟨2, ![128, 128]⟩
abbrev S1x32x2x128 : Shape := ⟨4, ![1, 32, 2, 128]⟩
abbrev S32x2x128 : Shape := ⟨3, ![32, 2, 128]⟩
abbrev S32x1x2x128 : Shape := ⟨4, ![32, 1, 2, 128]⟩
abbrev S32x2x2x128 : Shape := ⟨4, ![32, 2, 2, 128]⟩
abbrev S8x16x128 : Shape := ⟨3, ![8, 16, 128]⟩
abbrev S16x8x128 : Shape := ⟨3, ![16, 8, 128]⟩
abbrev S128 : Shape := ⟨1, ![128]⟩
abbrev S1x128 : Shape := ⟨2, ![1, 128]⟩
abbrev S32x2x4x128 : Shape := ⟨4, ![32, 2, 4, 128]⟩
abbrev S32x1x4x128 : Shape := ⟨4, ![32, 1, 4, 128]⟩
abbrev S32x4x128 : Shape := ⟨3, ![32, 4, 128]⟩
abbrev S1x32x4x128 : Shape := ⟨4, ![1, 32, 4, 128]⟩
abbrev S1x24 : Shape := ⟨2, ![1, 24]⟩

abbrev nBuf : Space → Nat
  | .hbm => 13
  | .vmem => 19
  | .smem => 2
  | _ => 0

abbrev bufTy : (tb : Table) → Fin (tcTables nBuf tb) → BufTy
  | .hbm, ⟨0, _⟩ => ⟨S3x12288x24x128, .bf16⟩
  | .hbm, ⟨1, _⟩ => ⟨S3x12288x24x128, .bf16⟩
  | .hbm, ⟨2, _⟩ => ⟨S3x12288x24x128, .bf16⟩
  | .hbm, ⟨3, _⟩ => ⟨S3x24, .f32⟩
  | .hbm, ⟨4, _⟩ => ⟨S3x24, .f32⟩
  | .hbm, ⟨5, _⟩ => ⟨S3x32x9216x128, .bf16⟩
  | .hbm, ⟨6, _⟩ => ⟨S3x32x9216x128, .bf16⟩
  | .hbm, ⟨7, _⟩ => ⟨S3x32x9216x128, .bf16⟩
  | .hbm, ⟨8, _⟩ => ⟨S3x32x9216x128, .bf16⟩
  | .hbm, ⟨9, _⟩ => ⟨S3x32x9216x128, .fp8e4m3⟩
  | .hbm, ⟨10, _⟩ => ⟨S3x32x9216x128, .fp8e4m3⟩
  | .hbm, ⟨11, _⟩ => ⟨S3x24, .f32⟩
  | .hbm, ⟨12, _⟩ => ⟨S3x24, .f32⟩
  | .local _ .vmem, ⟨0, _⟩ => ⟨S1x32x96x128, .bf16⟩
  | .local _ .vmem, ⟨1, _⟩ => ⟨S1x32x96x128, .bf16⟩
  | .local _ .vmem, ⟨2, _⟩ => ⟨S1x32x96x128, .bf16⟩
  | .local _ .vmem, ⟨3, _⟩ => ⟨S1x32x96x128, .bf16⟩
  | .local _ .vmem, ⟨4, _⟩ => ⟨S1x32x96x128, .bf16⟩
  | .local _ .vmem, ⟨5, _⟩ => ⟨S1x32x96x128, .bf16⟩
  | .local _ .vmem, ⟨6, _⟩ => ⟨S1x32x96x128, .bf16⟩
  | .local _ .vmem, ⟨7, _⟩ => ⟨S1x32x96x128, .bf16⟩
  | .local _ .vmem, ⟨8, _⟩ => ⟨S1x32x96x128, .fp8e4m3⟩
  | .local _ .vmem, ⟨9, _⟩ => ⟨S1x32x96x128, .fp8e4m3⟩
  | .local _ .vmem, ⟨10, _⟩ => ⟨S1x32x96x128, .fp8e4m3⟩
  | .local _ .vmem, ⟨11, _⟩ => ⟨S1x32x96x128, .fp8e4m3⟩
  | .local _ .vmem, ⟨12, _⟩ => ⟨S3x24, .f32⟩
  | .local _ .vmem, ⟨13, _⟩ => ⟨S3x24, .f32⟩
  | .local _ .vmem, ⟨14, _⟩ => ⟨S12x16x128, .bf16⟩
  | .local _ .vmem, ⟨15, _⟩ => ⟨S12x16x128, .bf16⟩
  | .local _ .vmem, ⟨16, _⟩ => ⟨S12x8x128, .f32⟩
  | .local _ .vmem, ⟨17, _⟩ => ⟨S12x16x128, .bf16⟩
  | .local _ .vmem, ⟨18, _⟩ => ⟨S12x16x128, .bf16⟩
  | .local _ .smem, ⟨0, _⟩ => ⟨S3x24, .f32⟩
  | .local _ .smem, ⟨1, _⟩ => ⟨S3x24, .f32⟩
  | _, _ => ⟨S3x12288x24x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v3_4 : Ref sig .tc := ⟨.hbm, 12, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨2, ![3, 96], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_off1 (i : grid0.Coords) : Fin 2 → Nat :=
  let arg0 : BitVec 32 := BitVec.ofNat 32 (i 0).val
  let v2724 : Index := Scalar.indexCast arg0
  let c0_1704 : Index := 0#32
  ![v2724.toNat, 0]
def k0_off2 (i : grid0.Coords) : Fin 2 → Nat :=
  let arg0 : BitVec 32 := BitVec.ofNat 32 (i 0).val
  let v2726 : Index := Scalar.indexCast arg0
  let c1_1705 : Index := 1#32
  ![v2726.toNat, 1]
def k0_off3 (i : grid0.Coords) : Fin 2 → Nat :=
  let arg0 : BitVec 32 := BitVec.ofNat 32 (i 0).val
  let v2802 : Index := Scalar.indexCast arg0
  let c2_1736 : Index := 2#32
  ![v2802.toNat, 2]
def k0_off4 (i : grid0.Coords) : Fin 2 → Nat :=
  let arg0 : BitVec 32 := BitVec.ofNat 32 (i 0).val
  let v2804 : Index := Scalar.indexCast arg0
  let c3_1737 : Index := 3#32
  ![v2804.toNat, 3]
def k0_off5 (i : grid0.Coords) : Fin 2 → Nat :=
  let arg0 : BitVec 32 := BitVec.ofNat 32 (i 0).val
  let v2880 : Index := Scalar.indexCast arg0
  let c4_1768 : Index := 4#32
  ![v2880.toNat, 4]
def k0_off6 (i : grid0.Coords) : Fin 2 → Nat :=
  let arg0 : BitVec 32 := BitVec.ofNat 32 (i 0).val
  let v2882 : Index := Scalar.indexCast arg0
  let c5_1769 : Index := 5#32
  ![v2882.toNat, 5]
def k0_off7 (i : grid0.Coords) : Fin 2 → Nat :=
  let arg0 : BitVec 32 := BitVec.ofNat 32 (i 0).val
  let v2958 : Index := Scalar.indexCast arg0
  let c6_1800 : Index := 6#32
  ![v2958.toNat, 6]
def k0_off8 (i : grid0.Coords) : Fin 2 → Nat :=
  let arg0 : BitVec 32 := BitVec.ofNat 32 (i 0).val
  let v2960 : Index := Scalar.indexCast arg0
  let c7_1801 : Index := 7#32
  ![v2960.toNat, 7]
def k0_off9 (i : grid0.Coords) : Fin 2 → Nat :=
  let arg0 : BitVec 32 := BitVec.ofNat 32 (i 0).val
  let v3036 : Index := Scalar.indexCast arg0
  let c8_1832 : Index := 8#32
  ![v3036.toNat, 8]
def k0_off10 (i : grid0.Coords) : Fin 2 → Nat :=
  let arg0 : BitVec 32 := BitVec.ofNat 32 (i 0).val
  let v3038 : Index := Scalar.indexCast arg0
  let c9_1833 : Index := 9#32
  ![v3038.toNat, 9]
def k0_off11 (i : grid0.Coords) : Fin 2 → Nat :=
  let arg0 : BitVec 32 := BitVec.ofNat 32 (i 0).val
  let v3114 : Index := Scalar.indexCast arg0
  let c10_1864 : Index := 10#32
  ![v3114.toNat, 10]
def k0_off12 (i : grid0.Coords) : Fin 2 → Nat :=
  let arg0 : BitVec 32 := BitVec.ofNat 32 (i 0).val
  let v3116 : Index := Scalar.indexCast arg0
  let c11_1865 : Index := 11#32
  ![v3116.toNat, 11]
def k0_off13 (i : grid0.Coords) : Fin 2 → Nat :=
  let arg0 : BitVec 32 := BitVec.ofNat 32 (i 0).val
  let v3192 : Index := Scalar.indexCast arg0
  let c12_1896 : Index := 12#32
  ![v3192.toNat, 12]
def k0_off14 (i : grid0.Coords) : Fin 2 → Nat :=
  let arg0 : BitVec 32 := BitVec.ofNat 32 (i 0).val
  let v3194 : Index := Scalar.indexCast arg0
  let c13 : Index := 13#32
  ![v3194.toNat, 13]
def k0_off15 (i : grid0.Coords) : Fin 2 → Nat :=
  let arg0 : BitVec 32 := BitVec.ofNat 32 (i 0).val
  let v3270 : Index := Scalar.indexCast arg0
  let c14_1927 : Index := 14#32
  ![v3270.toNat, 14]
def k0_off16 (i : grid0.Coords) : Fin 2 → Nat :=
  let arg0 : BitVec 32 := BitVec.ofNat 32 (i 0).val
  let v3272 : Index := Scalar.indexCast arg0
  let c15 : Index := 15#32
  ![v3272.toNat, 15]
def k0_off17 (i : grid0.Coords) : Fin 2 → Nat :=
  let arg0 : BitVec 32 := BitVec.ofNat 32 (i 0).val
  let v3348 : Index := Scalar.indexCast arg0
  let c16_1958 : Index := 16#32
  ![v3348.toNat, 16]
def k0_off18 (i : grid0.Coords) : Fin 2 → Nat :=
  let arg0 : BitVec 32 := BitVec.ofNat 32 (i 0).val
  let v3350 : Index := Scalar.indexCast arg0
  let c17 : Index := 17#32
  ![v3350.toNat, 17]
def k0_off19 (i : grid0.Coords) : Fin 2 → Nat :=
  let arg0 : BitVec 32 := BitVec.ofNat 32 (i 0).val
  let v3426 : Index := Scalar.indexCast arg0
  let c18_1989 : Index := 18#32
  ![v3426.toNat, 18]
def k0_off20 (i : grid0.Coords) : Fin 2 → Nat :=
  let arg0 : BitVec 32 := BitVec.ofNat 32 (i 0).val
  let v3428 : Index := Scalar.indexCast arg0
  let c19 : Index := 19#32
  ![v3428.toNat, 19]
def k0_off21 (i : grid0.Coords) : Fin 2 → Nat :=
  let arg0 : BitVec 32 := BitVec.ofNat 32 (i 0).val
  let v3504 : Index := Scalar.indexCast arg0
  let c20_2020 : Index := 20#32
  ![v3504.toNat, 20]
def k0_off22 (i : grid0.Coords) : Fin 2 → Nat :=
  let arg0 : BitVec 32 := BitVec.ofNat 32 (i 0).val
  let v3506 : Index := Scalar.indexCast arg0
  let c21 : Index := 21#32
  ![v3506.toNat, 21]
def k0_off23 (i : grid0.Coords) : Fin 2 → Nat :=
  let arg0 : BitVec 32 := BitVec.ofNat 32 (i 0).val
  let v3582 : Index := Scalar.indexCast arg0
  let c22_2051 : Index := 22#32
  ![v3582.toNat, 22]
def k0_off24 (i : grid0.Coords) : Fin 2 → Nat :=
  let arg0 : BitVec 32 := BitVec.ofNat 32 (i 0).val
  let v3584 : Index := Scalar.indexCast arg0
  let c23 : Index := 23#32
  ![v3584.toNat, 23]
def k0_cond2 (i : grid0.Coords) : BitVec 1 :=
  let arg1 : BitVec 32 := BitVec.ofNat 32 (i 1).val
  let c95_i32 : BitVec 32 := 95#32
  let v2698 : BitVec 1 := Scalar.cmpi .eq arg1 c95_i32
  let v2699 : BitVec 32 := Scalar.extui v2698
  let c0_i32_1699 : BitVec 32 := 0#32
  let v2700 : BitVec 1 := Scalar.cmpi .ne v2699 c0_i32_1699
  v2700

def k0_off25 (i : grid0.Coords) : Fin 2 → Nat :=
  let arg0 : BitVec 32 := BitVec.ofNat 32 (i 0).val
  let v3081 : Index := Scalar.indexCast arg0
  let c0_1835 : Index := 0#32
  ![v3081.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S3x24 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S3x24 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x32x96x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x32x96x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x32x96x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x32x96x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x32x96x128 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x32x96x128 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S3x24 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S3x24 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S3x12288x24x128 : Shape := ⟨4, ![3, 12288, 24, 128]⟩
abbrev S3x24 : Shape := ⟨2, ![3, 24]⟩
abbrev S_ : Shape := ⟨0, ![]⟩
abbrev S3x1x24x1 : Shape := ⟨4, ![3, 1, 24, 1]⟩
abbrev S3x32x384x24x128 : Shape := ⟨5, ![3, 32, 384, 24, 128]⟩
abbrev S3x384x24x32x32 : Shape := ⟨5, ![3, 384, 24, 32, 32]⟩
abbrev S3x1x24x1x1 : Shape := ⟨5, ![3, 1, 24, 1, 1]⟩
abbrev S3x384x24x32 : Shape := ⟨4, ![3, 384, 24, 32]⟩
abbrev S3x384x24x32x1 : Shape := ⟨5, ![3, 384, 24, 32, 1]⟩
abbrev S3x384x24x128x32 : Shape := ⟨5, ![3, 384, 24, 128, 32]⟩
abbrev S3x32x9216x128 : Shape := ⟨4, ![3, 32, 9216, 128]⟩

abbrev nBuf : Space → Nat
  | .hbm => 105
  | .vmem => 0
  | .smem => 0
  | _ => 0

abbrev bufTy : (tb : Table) → Fin (tcTables nBuf tb) → BufTy
  | .hbm, ⟨0, _⟩ => ⟨S3x12288x24x128, .bf16⟩
  | .hbm, ⟨1, _⟩ => ⟨S3x12288x24x128, .bf16⟩
  | .hbm, ⟨2, _⟩ => ⟨S3x12288x24x128, .bf16⟩
  | .hbm, ⟨3, _⟩ => ⟨S3x24, .f32⟩
  | .hbm, ⟨4, _⟩ => ⟨S3x24, .f32⟩
  | .hbm, ⟨5, _⟩ => ⟨S3x24, .f32⟩
  | .hbm, ⟨6, _⟩ => ⟨S3x24, .f32⟩
  | .hbm, ⟨7, _⟩ => ⟨S_, .f32⟩
  | .hbm, ⟨8, _⟩ => ⟨S_, .f32⟩
  | .hbm, ⟨9, _⟩ => ⟨S3x24, .f32⟩
  | .hbm, ⟨10, _⟩ => ⟨S3x24, .f32⟩
  | .hbm, ⟨11, _⟩ => ⟨S3x24, .f32⟩
  | .hbm, ⟨12, _⟩ => ⟨S_, .f32⟩
  | .hbm, ⟨13, _⟩ => ⟨S3x24, .f32⟩
  | .hbm, ⟨14, _⟩ => ⟨S3x24, .i1⟩
  | .hbm, ⟨15, _⟩ => ⟨S3x24, .f32⟩
  | .hbm, ⟨16, _⟩ => ⟨S_, .f32⟩
  | .hbm, ⟨17, _⟩ => ⟨S3x24, .f32⟩
  | .hbm, ⟨18, _⟩ => ⟨S3x24, .f32⟩
  | .hbm, ⟨19, _⟩ => ⟨S_, .f32⟩
  | .hbm, ⟨20, _⟩ => ⟨S3x24, .f32⟩
  | .hbm, ⟨21, _⟩ => ⟨S3x24, .f32⟩
  | .hbm, ⟨22, _⟩ => ⟨S3x12288x24x128, .f32⟩
  | .hbm, ⟨23, _⟩ => ⟨S3x1x24x1, .f32⟩
  | .hbm, ⟨24, _⟩ => ⟨S3x12288x24x128, .f32⟩
  | .hbm, ⟨25, _⟩ => ⟨S3x12288x24x128, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S3x12288x24x128, .f32⟩
  | .hbm, ⟨30, _⟩ => ⟨S3x12288x24x128, .f32⟩
  | .hbm, ⟨31, _⟩ => ⟨S_, .f32⟩
  | .hbm, ⟨32, _⟩ => ⟨S3x12288x24x128, .f32⟩
  | .hbm, ⟨33, _⟩ => ⟨S3x12288x24x128, .f32⟩
  | .hbm, ⟨34, _⟩ => ⟨S3x24, .f32⟩
  | .hbm, ⟨35, _⟩ => ⟨S3x24, .f32⟩
  | .hbm, ⟨36, _⟩ => ⟨S_, .f32⟩
  | .hbm, ⟨37, _⟩ => ⟨S_, .f32⟩
  | .hbm, ⟨38, _⟩ => ⟨S3x24, .f32⟩
  | .hbm, ⟨39, _⟩ => ⟨S3x24, .f32⟩
  | .hbm, ⟨40, _⟩ => ⟨S3x24, .f32⟩
  | .hbm, ⟨41, _⟩ => ⟨S_, .f32⟩
  | .hbm, ⟨42, _⟩ => ⟨S3x24, .f32⟩
  | .hbm, ⟨43, _⟩ => ⟨S3x24, .i1⟩
  | .hbm, ⟨44, _⟩ => ⟨S3x24, .f32⟩
  | .hbm, ⟨45, _⟩ => ⟨S_, .f32⟩
  | .hbm, ⟨46, _⟩ => ⟨S3x24, .f32⟩
  | .hbm, ⟨47, _⟩ => ⟨S3x24, .f32⟩
  | .hbm, ⟨48, _⟩ => ⟨S_, .f32⟩
  | .hbm, ⟨49, _⟩ => ⟨S3x24, .f32⟩
  | .hbm, ⟨50, _⟩ => ⟨S3x24, .f32⟩
  | .hbm, ⟨51, _⟩ => ⟨S3x12288x24x128, .f32⟩
  | .hbm, ⟨52, _⟩ => ⟨S3x1x24x1, .f32⟩
  | .hbm, ⟨53, _⟩ => ⟨S3x12288x24x128, .f32⟩
  | .hbm, ⟨54, _⟩ => ⟨S3x12288x24x128, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S3x12288x24x128, .f32⟩
  | .hbm, ⟨59, _⟩ => ⟨S3x12288x24x128, .f32⟩
  | .hbm, ⟨60, _⟩ => ⟨S_, .f32⟩
  | .hbm, ⟨61, _⟩ => ⟨S3x12288x24x128, .f32⟩
  | .hbm, ⟨62, _⟩ => ⟨S3x12288x24x128, .f32⟩
  | .hbm, ⟨63, _⟩ => ⟨S3x12288x24x128, .f32⟩
  | .hbm, ⟨64, _⟩ => ⟨S3x12288x24x128, .f32⟩
  | .hbm, ⟨65, _⟩ => ⟨S_, .f32⟩
  | .hbm, ⟨66, _⟩ => ⟨S3x24, .f32⟩
  | .hbm, ⟨67, _⟩ => ⟨S3x12288x24x128, .f32⟩
  | .hbm, ⟨68, _⟩ => ⟨S3x12288x24x128, .f32⟩
  | .hbm, ⟨69, _⟩ => ⟨S_, .f32⟩
  | .hbm, ⟨70, _⟩ => ⟨S3x24, .f32⟩
  | .hbm, ⟨71, _⟩ => ⟨S3x32x384x24x128, .f32⟩
  | .hbm, ⟨72, _⟩ => ⟨S3x32x384x24x128, .f32⟩
  | .hbm, ⟨73, _⟩ => ⟨S3x384x24x32x32, .f32⟩
  | .hbm, ⟨74, _⟩ => ⟨S3x24, .f32⟩
  | .hbm, ⟨75, _⟩ => ⟨S_, .f32⟩
  | .hbm, ⟨76, _⟩ => ⟨S3x24, .f32⟩
  | .hbm, ⟨77, _⟩ => ⟨S3x24, .f32⟩
  | .hbm, ⟨78, _⟩ => ⟨S3x1x24x1x1, .f32⟩
  | .hbm, ⟨79, _⟩ => ⟨S3x384x24x32x32, .f32⟩
  | .hbm, ⟨80, _⟩ => ⟨S3x384x24x32x32, .f32⟩
  | .hbm, ⟨81, _⟩ => ⟨S_, .f32⟩
  | .hbm, ⟨82, _⟩ => ⟨S3x384x24x32, .f32⟩
  | .hbm, ⟨83, _⟩ => ⟨S_, .f32⟩
  | .hbm, ⟨84, _⟩ => ⟨S3x384x24x32, .f32⟩
  | .hbm, ⟨85, _⟩ => ⟨S3x384x24x32, .f32⟩
  | .hbm, ⟨86, _⟩ => ⟨S3x384x24x32x1, .f32⟩
  | .hbm, ⟨87, _⟩ => ⟨S3x384x24x32x32, .f32⟩
  | .hbm, ⟨88, _⟩ => ⟨S3x384x24x32x32, .f32⟩
  | .hbm, ⟨89, _⟩ => ⟨S3x384x24x32x32, .f32⟩
  | .hbm, ⟨90, _⟩ => ⟨S_, .f32⟩
  | .hbm, ⟨91, _⟩ => ⟨S3x384x24x32, .f32⟩
  | .hbm, ⟨92, _⟩ => ⟨S3x384x24x32x1, .f32⟩
  | .hbm, ⟨93, _⟩ => ⟨S3x384x24x32x32, .f32⟩
  | .hbm, ⟨94, _⟩ => ⟨S3x384x24x32x32, .f32⟩
  | .hbm, ⟨95, _⟩ => ⟨S3x384x24x32x32, .bf16⟩
  | .hbm, ⟨96, _⟩ => ⟨S3x32x384x24x128, .bf16⟩
  | .hbm, ⟨97, _⟩ => ⟨S3x384x24x128x32, .f32⟩
  | .hbm, ⟨98, _⟩ => ⟨S3x32x384x24x128, .f32⟩
  | .hbm, ⟨99, _⟩ => ⟨S3x32x384x24x128, .bf16⟩
  | .hbm, ⟨100, _⟩ => ⟨S3x12288x24x128, .fp8e4m3⟩
  | .hbm, ⟨101, _⟩ => ⟨S3x12288x24x128, .fp8e4m3⟩
  | .hbm, ⟨102, _⟩ => ⟨S3x32x9216x128, .bf16⟩
  | .hbm, ⟨103, _⟩ => ⟨S3x32x9216x128, .fp8e4m3⟩
  | .hbm, ⟨104, _⟩ => ⟨S3x32x9216x128, .fp8e4m3⟩
  | _, _ => ⟨S3x12288x24x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_call0_v0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_cst_4 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_5 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_6 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_7 : Ref sig .tc := ⟨.hbm, 45, rfl⟩
abbrev main_v26 : Ref sig .tc := ⟨.hbm, 46, rfl⟩
abbrev main_v27 : Ref sig .tc := ⟨.hbm, 47, rfl⟩
abbrev main_cst_8 : Ref sig .tc := ⟨.hbm, 48, rfl⟩
abbrev main_call2_v0 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_9 : Ref sig .tc := ⟨.hbm, 55, rfl⟩
abbrev main_cst_10 : Ref sig .tc := ⟨.hbm, 56, rfl⟩
abbrev main_call3_v0 : Ref sig .tc := ⟨.hbm, 57, rfl⟩
abbrev main_call3_v1 : Ref sig .tc := ⟨.hbm, 58, rfl⟩
abbrev main_call3_v2 : Ref sig .tc := ⟨.hbm, 59, rfl⟩
abbrev main_call3_v3 : Ref sig .tc := ⟨.hbm, 60, rfl⟩
abbrev main_call3_v4 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_cst_11 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_cst_12 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_cst_13 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_cst_14 : Ref sig .tc := ⟨.hbm, 81, rfl⟩
abbrev main_v49 : Ref sig .tc := ⟨.hbm, 82, rfl⟩
abbrev main_cst_15 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_cst_16 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩

abbrev nD : Nat := 1
abbrev τ : Topo := Topo.v7x

variable {F : FTy → Type} [FloatOps F]
-- ==== Proof.Ref.lean ====
/-
  The reference, entry by entry.
-/
module

public import proofs.«01_k».proof.Proof.Gen.ReferenceIdeal.Run
public import proofs.«01_k».proof.Proof.Gen.ReferenceIdeal.Read

@[expose] public section

end
-- ==== Proof.Bits.Runs.lean ====
/-
  The bit-exact kernel: what its frame proof shares — the program up to its one region, the blocks of its windows,
  the conditions of its branches over the grid points, and the buffers its body works on.
-/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      (Pipeline.RDat.FramePost.arr_in h c 0 rfl).trans ((hA c 0).trans (V_main_arg3 m c)),
      (Pipeline.RDat.FramePost.arr_in h c 1 rfl).trans ((hA c 1).trans (V_main_arg4 m c))⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 0 (mod 96) — by arithmetic of the point. -/
theorem hcond0_0 : ∀ t : Fin cfg0.N, cond0_0 (grid0.coords t) ↔ t.val % 96 = 0 :=
  (fun t => by
    have ht : t.val < 288 := Nat.lt_of_lt_of_eq t.isLt N_0
    have e0 : (grid0.coords t 0).val = t.val / 96 % 3 := Pipeline.Grid.coords_val t 0 (by decide) rfl
    have e1 : (grid0.coords t 1).val = t.val / 1 % 96 := Pipeline.Grid.coords_val t 1 (by decide) rfl
    simp only [cond0_0, k0_cond1, e0, e1]
    word_cmp
   : ∀ t : Fin grid0.N, cond0_0 (grid0.coords t) ↔ t.val % 96 = 0)

/-- The condition of the body's `scf.if` 1 (`k0_h2`), from the grid coordinates (the skeleton's scalar
    chain substituted). -/
abbrev cond0_1 (i : grid0.Coords) : Prop := k0_cond2 i = 1#1
/-- It holds at the points ≡ 95 (mod 96) — by arithmetic of the point. -/
theorem hcond0_1 : ∀ t : Fin cfg0.N, cond0_1 (grid0.coords t) ↔ t.val % 96 = 95 :=
  (fun t => by
    have ht : t.val < 288 := Nat.lt_of_lt_of_eq t.isLt N_0
    have e0 : (grid0.coords t 0).val = t.val / 96 % 3 := Pipeline.Grid.coords_val t 0 (by decide) rfl
    have e1 : (grid0.coords t 1).val = t.val / 1 % 96 := Pipeline.Grid.coords_val t 1 (by decide) rfl
    simp only [cond0_1, k0_cond2, e0, e1]
    word_cmp
   : ∀ t : Fin grid0.N, cond0_1 (grid0.coords t) ↔ t.val % 96 = 95)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .smem S3x24 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S3x24 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x32x96x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x32x96x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x32x96x128 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x32x96x128 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x32x96x128 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x32x96x128 .fp8e4m3 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S3x24 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S3x24 .f32 := win0_9.stage (cfg0.slots t 9)
abbrev hs0_9 (t : Fin cfg0.N) : (ms0_9 t).IsWhole := hstage0_9 ((cfg0.slots t 9).cast nbuf0_9)
/-- The scratch operands: whole scoped buffers of the kernel's own, passed beside the windows. -/
abbrev scM0_0 : Memref sig .tc .vmem S12x16x128 .bf16 := Memref.whole cc0_scratch0
abbrev scM0_1 : Memref sig .tc .vmem S12x16x128 .bf16 := Memref.whole cc0_scratch1
abbrev scM0_2 : Memref sig .tc .vmem S12x8x128 .f32 := Memref.whole cc0_scratch2
abbrev scM0_3 : Memref sig .tc .vmem S12x16x128 .bf16 := Memref.whole cc0_scratch3
abbrev scM0_4 : Memref sig .tc .vmem S12x16x128 .bf16 := Memref.whole cc0_scratch4
/-- The scratch `arg15` the kernel carries between points, as a view: what it holds is stated through it. -/
abbrev VS0_3 : View sig .tc .vmem S12x16x128 .bf16 := scM0_3.view
/-- The scratch `arg16` the kernel carries between points, as a view: what it holds is stated through it. -/
abbrev VS0_4 : View sig .tc .vmem S12x16x128 .bf16 := scM0_4.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

end Cert.Kernel.Gen

end
-- ==== Proof.Bits.RunA.lean ====
/-
  The bit-exact kernel's body at the first step of a batch entry: it runs, and every buffer it holds is given back.
-/
module

public import proofs.«01_k».proof.Proof.Bits.Runs

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 5116000 in
/-- What the body's stores leave in each output's staging memref, as pieces (last first) IN CASE A (`scf.if` 0 taken, `scf.if` 1 not taken: points 0, 96, 192), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (5, 6, 7, 8, 9) at anything, handed back at some contents nothing names. -/
noncomputable def kernelRun0_A (c : Dev nD) (i : grid0.Coords) (arg2 : Memref sig .tc .smem S3x24 .f32) (harg2 : arg2.IsWhole) (arg3 : Memref sig .tc .smem S3x24 .f32) (harg3 : arg3.IsWhole) (arg4 : Memref sig .tc .vmem S1x32x96x128 .bf16) (harg4 : arg4.IsWhole) (arg5 : Memref sig .tc .vmem S1x32x96x128 .bf16) (harg5 : arg5.IsWhole) (arg6 : Memref sig .tc .vmem S1x32x96x128 .bf16) (harg6 : arg6.IsWhole) (arg7 : Memref sig .tc .vmem S1x32x96x128 .bf16) (harg7 : arg7.IsWhole) (arg8 : Memref sig .tc .vmem S1x32x96x128 .fp8e4m3) (harg8 : arg8.IsWhole) (arg9 : Memref sig .tc .vmem S1x32x96x128 .fp8e4m3) (harg9 : arg9.IsWhole) (arg10 : Memref sig .tc .vmem S3x24 .f32) (harg10 : arg10.IsWhole) (arg11 : Memref sig .tc .vmem S3x24 .f32) (harg11 : arg11.IsWhole) (arg12 : Memref sig .tc .vmem S12x16x128 .bf16) (harg12 : arg12.IsWhole) (arg13 : Memref sig .tc .vmem S12x16x128 .bf16) (harg13 : arg13.IsWhole) (arg14 : Memref sig .tc .vmem S12x8x128 .f32) (harg14 : arg14.IsWhole) (arg15 : Memref sig .tc .vmem S12x16x128 .bf16) (harg15 : arg15.IsWhole) (arg16 : Memref sig .tc .vmem S12x16x128 .bf16) (harg16 : arg16.IsWhole) (hc0 : cond0_0 i) (hc1 : ¬cond0_1 i)
    (x0 : Vec F S3x24 .f32) (x1 : Vec F S3x24 .f32) (x2 : Vec F S1x32x96x128 .bf16) (x3 : Vec F S1x32x96x128 .bf16) (x4 : Vec F S1x32x96x128 .bf16) :
    Σ' (LS3 : List (View.Piece (Elt F) S12x16x128 .bf16)), { LS4 : List (View.Piece (Elt F) S12x16x128 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ f, arg15.view.loc (c : Thread nD τ) ↦[arg15.view.set]{fullShare} arg15.view.writes (Elt F) f LS3) ∗ (∃ f, arg16.view.loc (c : Thread nD τ) ↦[arg16.view.set]{fullShare} arg16.view.writes (Elt F) f LS4)) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, fun E K => ?run⟩
  case run =>
    simp only [cc0__body_eq_skeleton]; unfold cc0__body_skel
    simp only [k0_part118_eq_skeleton, k0_part42_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part119_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]; · iexists _; iexact HS3
    iexists _; iexact HS4

end Cert.Kernel.Gen

end
-- ==== Proof.Bits.RunB.lean ====
/-
  The bit-exact kernel's body at a middle step: it runs, and every buffer it holds is given back.
-/
module

public import proofs.«01_k».proof.Proof.Bits.RunA

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 3876000 in
/-- What the body's stores leave in each output's staging memref, as pieces (last first) IN CASE B (`scf.if` 0 not taken, `scf.if` 1 not taken: points 1, 2, … 286: 282 of 288), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (5, 6, 7, 8, 9) at anything, handed back at some contents nothing names. -/
noncomputable def kernelRun0_B (c : Dev nD) (i : grid0.Coords) (arg2 : Memref sig .tc .smem S3x24 .f32) (harg2 : arg2.IsWhole) (arg3 : Memref sig .tc .smem S3x24 .f32) (harg3 : arg3.IsWhole) (arg4 : Memref sig .tc .vmem S1x32x96x128 .bf16) (harg4 : arg4.IsWhole) (arg5 : Memref sig .tc .vmem S1x32x96x128 .bf16) (harg5 : arg5.IsWhole) (arg6 : Memref sig .tc .vmem S1x32x96x128 .bf16) (harg6 : arg6.IsWhole) (arg7 : Memref sig .tc .vmem S1x32x96x128 .bf16) (harg7 : arg7.IsWhole) (arg8 : Memref sig .tc .vmem S1x32x96x128 .fp8e4m3) (harg8 : arg8.IsWhole) (arg9 : Memref sig .tc .vmem S1x32x96x128 .fp8e4m3) (harg9 : arg9.IsWhole) (arg10 : Memref sig .tc .vmem S3x24 .f32) (harg10 : arg10.IsWhole) (arg11 : Memref sig .tc .vmem S3x24 .f32) (harg11 : arg11.IsWhole) (arg12 : Memref sig .tc .vmem S12x16x128 .bf16) (harg12 : arg12.IsWhole) (arg13 : Memref sig .tc .vmem S12x16x128 .bf16) (harg13 : arg13.IsWhole) (arg14 : Memref sig .tc .vmem S12x8x128 .f32) (harg14 : arg14.IsWhole) (arg15 : Memref sig .tc .vmem S12x16x128 .bf16) (harg15 : arg15.IsWhole) (arg16 : Memref sig .tc .vmem S12x16x128 .bf16) (harg16 : arg16.IsWhole) (hc0 : ¬cond0_0 i) (hc1 : ¬cond0_1 i)
    (x0 : Vec F S3x24 .f32) (x1 : Vec F S3x24 .f32) (x2 : Vec F S1x32x96x128 .bf16) (x3 : Vec F S1x32x96x128 .bf16) (x4 : Vec F S1x32x96x128 .bf16) (xs3 : Vec F S12x16x128 .bf16) (xs4 : Vec F S12x16x128 .bf16) :
    Σ' (LS3 : List (View.Piece (Elt F) S12x16x128 .bf16)), { LS4 : List (View.Piece (Elt F) S12x16x128 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ owns (c : Thread nD τ) arg15 fullShare xs3 ∗ owns (c : Thread nD τ) arg16 fullShare xs4
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ f, arg15.view.loc (c : Thread nD τ) ↦[arg15.view.set]{fullShare} arg15.view.writes (Elt F) f LS3) ∗ (∃ f, arg16.view.loc (c : Thread nD τ) ↦[arg16.view.set]{fullShare} arg16.view.writes (Elt F) f LS4)) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, fun E K => ?run⟩
  case run =>
    simp only [cc0__body_eq_skeleton]; unfold cc0__body_skel
    simp only [k0_part118_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part119_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%ds0, %fs0, -, HS0⟩, ⟨%ds1, %fs1, -, HS1⟩, ⟨%ds2, %fs2, -, HS2⟩, ⟨%fs3, %hfs3, HS3⟩, ⟨%fs4, %hfs4, HS4⟩, Hk⟩
    obtain rfl := harg2.eq_unread hf0; obtain rfl := harg3.eq_unread hf1; obtain rfl := harg4.eq_unread hf2; obtain rfl := harg5.eq_unread hf3; obtain rfl := harg6.eq_unread hf4; obtain rfl := harg15.eq_unread hfs3; obtain rfl := harg16.eq_unread hfs4
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]; · iexists _; iexact HS3
    iexists _; iexact HS4

end Cert.Kernel.Gen

end
-- ==== Proof.Bits.RunC.lean ====
/-
  The bit-exact kernel's body at the last step of a batch entry: it runs, and every buffer it holds is given back.
-/
module

public import proofs.«01_k».proof.Proof.Bits.RunB

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 4344000 in
/-- What the body's stores leave in each output's staging memref, as pieces (last first) IN CASE C (`scf.if` 0 not taken, `scf.if` 1 taken: points 95, 191, 287), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (5, 6, 7, 8, 9) at anything, handed back at some contents nothing names. -/
noncomputable def kernelRun0_C (c : Dev nD) (i : grid0.Coords) (arg2 : Memref sig .tc .smem S3x24 .f32) (harg2 : arg2.IsWhole) (arg3 : Memref sig .tc .smem S3x24 .f32) (harg3 : arg3.IsWhole) (arg4 : Memref sig .tc .vmem S1x32x96x128 .bf16) (harg4 : arg4.IsWhole) (arg5 : Memref sig .tc .vmem S1x32x96x128 .bf16) (harg5 : arg5.IsWhole) (arg6 : Memref sig .tc .vmem S1x32x96x128 .bf16) (harg6 : arg6.IsWhole) (arg7 : Memref sig .tc .vmem S1x32x96x128 .bf16) (harg7 : arg7.IsWhole) (arg8 : Memref sig .tc .vmem S1x32x96x128 .fp8e4m3) (harg8 : arg8.IsWhole) (arg9 : Memref sig .tc .vmem S1x32x96x128 .fp8e4m3) (harg9 : arg9.IsWhole) (arg10 : Memref sig .tc .vmem S3x24 .f32) (harg10 : arg10.IsWhole) (arg11 : Memref sig .tc .vmem S3x24 .f32) (harg11 : arg11.IsWhole) (arg12 : Memref sig .tc .vmem S12x16x128 .bf16) (harg12 : arg12.IsWhole) (arg13 : Memref sig .tc .vmem S12x16x128 .bf16) (harg13 : arg13.IsWhole) (arg14 : Memref sig .tc .vmem S12x8x128 .f32) (harg14 : arg14.IsWhole) (arg15 : Memref sig .tc .vmem S12x16x128 .bf16) (harg15 : arg15.IsWhole) (arg16 : Memref sig .tc .vmem S12x16x128 .bf16) (harg16 : arg16.IsWhole) (hc0 : ¬cond0_0 i) (hc1 : cond0_1 i)
    (x0 : Vec F S3x24 .f32) (x1 : Vec F S3x24 .f32) (x2 : Vec F S1x32x96x128 .bf16) (x3 : Vec F S1x32x96x128 .bf16) (x4 : Vec F S1x32x96x128 .bf16) (xs3 : Vec F S12x16x128 .bf16) (xs4 : Vec F S12x16x128 .bf16) :
    Σ' (LS3 : List (View.Piece (Elt F) S12x16x128 .bf16)), { LS4 : List (View.Piece (Elt F) S12x16x128 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ owns (c : Thread nD τ) arg15 fullShare xs3 ∗ owns (c : Thread nD τ) arg16 fullShare xs4
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ f, arg15.view.loc (c : Thread nD τ) ↦[arg15.view.set]{fullShare} arg15.view.writes (Elt F) f LS3) ∗ (∃ f, arg16.view.loc (c : Thread nD τ) ↦[arg16.view.set]{fullShare} arg16.view.writes (Elt F) f LS4)) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, fun E K => ?run⟩
  case run =>
    simp only [cc0__body_eq_skeleton]; unfold cc0__body_skel
    simp only [k0_part118_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part119_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part41_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%ds0, %fs0, -, HS0⟩, ⟨%ds1, %fs1, -, HS1⟩, ⟨%ds2, %fs2, -, HS2⟩, ⟨%fs3, %hfs3, HS3⟩, ⟨%fs4, %hfs4, HS4⟩, Hk⟩
    obtain rfl := harg2.eq_unread hf0; obtain rfl := harg3.eq_unread hf1; obtain rfl := harg4.eq_unread hf2; obtain rfl := harg5.eq_unread hf3; obtain rfl := harg6.eq_unread hf4; obtain rfl := harg15.eq_unread hfs3; obtain rfl := harg16.eq_unread hfs4
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]; · iexists _; iexact HS3
    iexists _; iexact HS4

end Cert.Kernel.Gen

end
-- ==== Proof.Bits.Frame.lean ====
/-
  The bit-exact kernel's frame: it runs to the end, leaves its arguments as they were, and its semaphores at zero.
-/
module

public import proofs.«01_k».proof.Proof.Bits.RunC
public import Idealize.ShloMosaic.Lib.Claim

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for scratch `arg15`, which the kernel carries between points, cover it: one of them a store of the WHOLE buffer (Lib/Ring.lean `sl_whole_mem`). -/
theorem scover0_A_3 (c : Dev nD) (i : grid0.Coords) (arg2 : Memref sig .tc .smem S3x24 .f32) (harg2 : arg2.IsWhole) (arg3 : Memref sig .tc .smem S3x24 .f32) (harg3 : arg3.IsWhole) (arg4 : Memref sig .tc .vmem S1x32x96x128 .bf16) (harg4 : arg4.IsWhole) (arg5 : Memref sig .tc .vmem S1x32x96x128 .bf16) (harg5 : arg5.IsWhole) (arg6 : Memref sig .tc .vmem S1x32x96x128 .bf16) (harg6 : arg6.IsWhole) (arg7 : Memref sig .tc .vmem S1x32x96x128 .bf16) (harg7 : arg7.IsWhole) (arg8 : Memref sig .tc .vmem S1x32x96x128 .fp8e4m3) (harg8 : arg8.IsWhole) (arg9 : Memref sig .tc .vmem S1x32x96x128 .fp8e4m3) (harg9 : arg9.IsWhole) (arg10 : Memref sig .tc .vmem S3x24 .f32) (harg10 : arg10.IsWhole) (arg11 : Memref sig .tc .vmem S3x24 .f32) (harg11 : arg11.IsWhole) (arg12 : Memref sig .tc .vmem S12x16x128 .bf16) (harg12 : arg12.IsWhole) (arg13 : Memref sig .tc .vmem S12x16x128 .bf16) (harg13 : arg13.IsWhole) (arg14 : Memref sig .tc .vmem S12x8x128 .f32) (harg14 : arg14.IsWhole) (arg15 : Memref sig .tc .vmem S12x16x128 .bf16) (harg15 : arg15.IsWhole) (arg16 : Memref sig .tc .vmem S12x16x128 .bf16) (harg16 : arg16.IsWhole) (hc0 : cond0_0 i) (hc1 : ¬cond0_1 i)
    (x0 : Vec F S3x24 .f32) (x1 : Vec F S3x24 .f32) (x2 : Vec F S1x32x96x128 .bf16) (x3 : Vec F S1x32x96x128 .bf16) (x4 : Vec F S1x32x96x128 .bf16) (y : S12x16x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4).1, y ∈ pc.1.set :=
  View.cover_of_wholeMem (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4).1 (by sl_whole_mem) y

/-- What case A leaves in scratch `arg15`: its pieces read back over junk. -/
def sout0_A_3 (c : Dev nD) (i : grid0.Coords) (arg2 : Memref sig .tc .smem S3x24 .f32) (harg2 : arg2.IsWhole) (arg3 : Memref sig .tc .smem S3x24 .f32) (harg3 : arg3.IsWhole) (arg4 : Memref sig .tc .vmem S1x32x96x128 .bf16) (harg4 : arg4.IsWhole) (arg5 : Memref sig .tc .vmem S1x32x96x128 .bf16) (harg5 : arg5.IsWhole) (arg6 : Memref sig .tc .vmem S1x32x96x128 .bf16) (harg6 : arg6.IsWhole) (arg7 : Memref sig .tc .vmem S1x32x96x128 .bf16) (harg7 : arg7.IsWhole) (arg8 : Memref sig .tc .vmem S1x32x96x128 .fp8e4m3) (harg8 : arg8.IsWhole) (arg9 : Memref sig .tc .vmem S1x32x96x128 .fp8e4m3) (harg9 : arg9.IsWhole) (arg10 : Memref sig .tc .vmem S3x24 .f32) (harg10 : arg10.IsWhole) (arg11 : Memref sig .tc .vmem S3x24 .f32) (harg11 : arg11.IsWhole) (arg12 : Memref sig .tc .vmem S12x16x128 .bf16) (harg12 : arg12.IsWhole) (arg13 : Memref sig .tc .vmem S12x16x128 .bf16) (harg13 : arg13.IsWhole) (arg14 : Memref sig .tc .vmem S12x8x128 .f32) (harg14 : arg14.IsWhole) (arg15 : Memref sig .tc .vmem S12x16x128 .bf16) (harg15 : arg15.IsWhole) (arg16 : Memref sig .tc .vmem S12x16x128 .bf16) (harg16 : arg16.IsWhole) (hc0 : cond0_0 i) (hc1 : ¬cond0_1 i)
    (x0 : Vec F S3x24 .f32) (x1 : Vec F S3x24 .f32) (x2 : Vec F S1x32x96x128 .bf16) (x3 : Vec F S1x32x96x128 .bf16) (x4 : Vec F S1x32x96x128 .bf16) : Vec F S12x16x128 .bf16 :=
  VS0_3.read (Elt F) (VS0_3.writes (Elt F) VS0_3.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4).1)

/-- Case A's pieces for scratch `arg16`, which the kernel carries between points, cover it: one of them a store of the WHOLE buffer (Lib/Ring.lean `sl_whole_mem`). -/
theorem scover0_A_4 (c : Dev nD) (i : grid0.Coords) (arg2 : Memref sig .tc .smem S3x24 .f32) (harg2 : arg2.IsWhole) (arg3 : Memref sig .tc .smem S3x24 .f32) (harg3 : arg3.IsWhole) (arg4 : Memref sig .tc .vmem S1x32x96x128 .bf16) (harg4 : arg4.IsWhole) (arg5 : Memref sig .tc .vmem S1x32x96x128 .bf16) (harg5 : arg5.IsWhole) (arg6 : Memref sig .tc .vmem S1x32x96x128 .bf16) (harg6 : arg6.IsWhole) (arg7 : Memref sig .tc .vmem S1x32x96x128 .bf16) (harg7 : arg7.IsWhole) (arg8 : Memref sig .tc .vmem S1x32x96x128 .fp8e4m3) (harg8 : arg8.IsWhole) (arg9 : Memref sig .tc .vmem S1x32x96x128 .fp8e4m3) (harg9 : arg9.IsWhole) (arg10 : Memref sig .tc .vmem S3x24 .f32) (harg10 : arg10.IsWhole) (arg11 : Memref sig .tc .vmem S3x24 .f32) (harg11 : arg11.IsWhole) (arg12 : Memref sig .tc .vmem S12x16x128 .bf16) (harg12 : arg12.IsWhole) (arg13 : Memref sig .tc .vmem S12x16x128 .bf16) (harg13 : arg13.IsWhole) (arg14 : Memref sig .tc .vmem S12x8x128 .f32) (harg14 : arg14.IsWhole) (arg15 : Memref sig .tc .vmem S12x16x128 .bf16) (harg15 : arg15.IsWhole) (arg16 : Memref sig .tc .vmem S12x16x128 .bf16) (harg16 : arg16.IsWhole) (hc0 : cond0_0 i) (hc1 : ¬cond0_1 i)
    (x0 : Vec F S3x24 .f32) (x1 : Vec F S3x24 .f32) (x2 : Vec F S1x32x96x128 .bf16) (x3 : Vec F S1x32x96x128 .bf16) (x4 : Vec F S1x32x96x128 .bf16) (y : S12x16x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4).2.1, y ∈ pc.1.set :=
  View.cover_of_wholeMem (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4).2.1 (by sl_whole_mem) y

/-- What case A leaves in scratch `arg16`: its pieces read back over junk. -/
def sout0_A_4 (c : Dev nD) (i : grid0.Coords) (arg2 : Memref sig .tc .smem S3x24 .f32) (harg2 : arg2.IsWhole) (arg3 : Memref sig .tc .smem S3x24 .f32) (harg3 : arg3.IsWhole) (arg4 : Memref sig .tc .vmem S1x32x96x128 .bf16) (harg4 : arg4.IsWhole) (arg5 : Memref sig .tc .vmem S1x32x96x128 .bf16) (harg5 : arg5.IsWhole) (arg6 : Memref sig .tc .vmem S1x32x96x128 .bf16) (harg6 : arg6.IsWhole) (arg7 : Memref sig .tc .vmem S1x32x96x128 .bf16) (harg7 : arg7.IsWhole) (arg8 : Memref sig .tc .vmem S1x32x96x128 .fp8e4m3) (harg8 : arg8.IsWhole) (arg9 : Memref sig .tc .vmem S1x32x96x128 .fp8e4m3) (harg9 : arg9.IsWhole) (arg10 : Memref sig .tc .vmem S3x24 .f32) (harg10 : arg10.IsWhole) (arg11 : Memref sig .tc .vmem S3x24 .f32) (harg11 : arg11.IsWhole) (arg12 : Memref sig .tc .vmem S12x16x128 .bf16) (harg12 : arg12.IsWhole) (arg13 : Memref sig .tc .vmem S12x16x128 .bf16) (harg13 : arg13.IsWhole) (arg14 : Memref sig .tc .vmem S12x8x128 .f32) (harg14 : arg14.IsWhole) (arg15 : Memref sig .tc .vmem S12x16x128 .bf16) (harg15 : arg15.IsWhole) (arg16 : Memref sig .tc .vmem S12x16x128 .bf16) (harg16 : arg16.IsWhole) (hc0 : cond0_0 i) (hc1 : ¬cond0_1 i)
    (x0 : Vec F S3x24 .f32) (x1 : Vec F S3x24 .f32) (x2 : Vec F S1x32x96x128 .bf16) (x3 : Vec F S1x32x96x128 .bf16) (x4 : Vec F S1x32x96x128 .bf16) : Vec F S12x16x128 .bf16 :=
  VS0_4.read (Elt F) (VS0_4.writes (Elt F) VS0_4.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4).2.1)

/-- Case B's pieces for scratch `arg15`, which the kernel carries between points, cover it: 24 pieces of `S1x16x128` tiling it (Lib/Ring.lean `Piece.tiledL`). -/
theorem scover0_B_3 (c : Dev nD) (i : grid0.Coords) (arg2 : Memref sig .tc .smem S3x24 .f32) (harg2 : arg2.IsWhole) (arg3 : Memref sig .tc .smem S3x24 .f32) (harg3 : arg3.IsWhole) (arg4 : Memref sig .tc .vmem S1x32x96x128 .bf16) (harg4 : arg4.IsWhole) (arg5 : Memref sig .tc .vmem S1x32x96x128 .bf16) (harg5 : arg5.IsWhole) (arg6 : Memref sig .tc .vmem S1x32x96x128 .bf16) (harg6 : arg6.IsWhole) (arg7 : Memref sig .tc .vmem S1x32x96x128 .bf16) (harg7 : arg7.IsWhole) (arg8 : Memref sig .tc .vmem S1x32x96x128 .fp8e4m3) (harg8 : arg8.IsWhole) (arg9 : Memref sig .tc .vmem S1x32x96x128 .fp8e4m3) (harg9 : arg9.IsWhole) (arg10 : Memref sig .tc .vmem S3x24 .f32) (harg10 : arg10.IsWhole) (arg11 : Memref sig .tc .vmem S3x24 .f32) (harg11 : arg11.IsWhole) (arg12 : Memref sig .tc .vmem S12x16x128 .bf16) (harg12 : arg12.IsWhole) (arg13 : Memref sig .tc .vmem S12x16x128 .bf16) (harg13 : arg13.IsWhole) (arg14 : Memref sig .tc .vmem S12x8x128 .f32) (harg14 : arg14.IsWhole) (arg15 : Memref sig .tc .vmem S12x16x128 .bf16) (harg15 : arg15.IsWhole) (arg16 : Memref sig .tc .vmem S12x16x128 .bf16) (harg16 : arg16.IsWhole) (hc0 : ¬cond0_0 i) (hc1 : ¬cond0_1 i)
    (x0 : Vec F S3x24 .f32) (x1 : Vec F S3x24 .f32) (x2 : Vec F S1x32x96x128 .bf16) (x3 : Vec F S1x32x96x128 .bf16) (x4 : Vec F S1x32x96x128 .bf16) (xs3 : Vec F S12x16x128 .bf16) (xs4 : Vec F S12x16x128 .bf16) (y : S12x16x128.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 xs3 xs4).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 xs3 xs4).1 S1x16x128.size (by sl_kernel_rfl) y

/-- What case B leaves in scratch `arg15`: its pieces read back over junk. -/
def sout0_B_3 (c : Dev nD) (i : grid0.Coords) (arg2 : Memref sig .tc .smem S3x24 .f32) (harg2 : arg2.IsWhole) (arg3 : Memref sig .tc .smem S3x24 .f32) (harg3 : arg3.IsWhole) (arg4 : Memref sig .tc .vmem S1x32x96x128 .bf16) (harg4 : arg4.IsWhole) (arg5 : Memref sig .tc .vmem S1x32x96x128 .bf16) (harg5 : arg5.IsWhole) (arg6 : Memref sig .tc .vmem S1x32x96x128 .bf16) (harg6 : arg6.IsWhole) (arg7 : Memref sig .tc .vmem S1x32x96x128 .bf16) (harg7 : arg7.IsWhole) (arg8 : Memref sig .tc .vmem S1x32x96x128 .fp8e4m3) (harg8 : arg8.IsWhole) (arg9 : Memref sig .tc .vmem S1x32x96x128 .fp8e4m3) (harg9 : arg9.IsWhole) (arg10 : Memref sig .tc .vmem S3x24 .f32) (harg10 : arg10.IsWhole) (arg11 : Memref sig .tc .vmem S3x24 .f32) (harg11 : arg11.IsWhole) (arg12 : Memref sig .tc .vmem S12x16x128 .bf16) (harg12 : arg12.IsWhole) (arg13 : Memref sig .tc .vmem S12x16x128 .bf16) (harg13 : arg13.IsWhole) (arg14 : Memref sig .tc .vmem S12x8x128 .f32) (harg14 : arg14.IsWhole) (arg15 : Memref sig .tc .vmem S12x16x128 .bf16) (harg15 : arg15.IsWhole) (arg16 : Memref sig .tc .vmem S12x16x128 .bf16) (harg16 : arg16.IsWhole) (hc0 : ¬cond0_0 i) (hc1 : ¬cond0_1 i)
    (x0 : Vec F S3x24 .f32) (x1 : Vec F S3x24 .f32) (x2 : Vec F S1x32x96x128 .bf16) (x3 : Vec F S1x32x96x128 .bf16) (x4 : Vec F S1x32x96x128 .bf16) (xs3 : Vec F S12x16x128 .bf16) (xs4 : Vec F S12x16x128 .bf16) : Vec F S12x16x128 .bf16 :=
  VS0_3.read (Elt F) (VS0_3.writes (Elt F) VS0_3.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 xs3 xs4).1)

/-- Case B's pieces for scratch `arg16`, which the kernel carries between points, cover it: 24 pieces of `S1x16x128` tiling it (Lib/Ring.lean `Piece.tiledL`). -/
theorem scover0_B_4 (c : Dev nD) (i : grid0.Coords) (arg2 : Memref sig .tc .smem S3x24 .f32) (harg2 : arg2.IsWhole) (arg3 : Memref sig .tc .smem S3x24 .f32) (harg3 : arg3.IsWhole) (arg4 : Memref sig .tc .vmem S1x32x96x128 .bf16) (harg4 : arg4.IsWhole) (arg5 : Memref sig .tc .vmem S1x32x96x128 .bf16) (harg5 : arg5.IsWhole) (arg6 : Memref sig .tc .vmem S1x32x96x128 .bf16) (harg6 : arg6.IsWhole) (arg7 : Memref sig .tc .vmem S1x32x96x128 .bf16) (harg7 : arg7.IsWhole) (arg8 : Memref sig .tc .vmem S1x32x96x128 .fp8e4m3) (harg8 : arg8.IsWhole) (arg9 : Memref sig .tc .vmem S1x32x96x128 .fp8e4m3) (harg9 : arg9.IsWhole) (arg10 : Memref sig .tc .vmem S3x24 .f32) (harg10 : arg10.IsWhole) (arg11 : Memref sig .tc .vmem S3x24 .f32) (harg11 : arg11.IsWhole) (arg12 : Memref sig .tc .vmem S12x16x128 .bf16) (harg12 : arg12.IsWhole) (arg13 : Memref sig .tc .vmem S12x16x128 .bf16) (harg13 : arg13.IsWhole) (arg14 : Memref sig .tc .vmem S12x8x128 .f32) (harg14 : arg14.IsWhole) (arg15 : Memref sig .tc .vmem S12x16x128 .bf16) (harg15 : arg15.IsWhole) (arg16 : Memref sig .tc .vmem S12x16x128 .bf16) (harg16 : arg16.IsWhole) (hc0 : ¬cond0_0 i) (hc1 : ¬cond0_1 i)
    (x0 : Vec F S3x24 .f32) (x1 : Vec F S3x24 .f32) (x2 : Vec F S1x32x96x128 .bf16) (x3 : Vec F S1x32x96x128 .bf16) (x4 : Vec F S1x32x96x128 .bf16) (xs3 : Vec F S12x16x128 .bf16) (xs4 : Vec F S12x16x128 .bf16) (y : S12x16x128.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 xs3 xs4).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 xs3 xs4).2.1 S1x16x128.size (by sl_kernel_rfl) y

/-- What case B leaves in scratch `arg16`: its pieces read back over junk. -/
def sout0_B_4 (c : Dev nD) (i : grid0.Coords) (arg2 : Memref sig .tc .smem S3x24 .f32) (harg2 : arg2.IsWhole) (arg3 : Memref sig .tc .smem S3x24 .f32) (harg3 : arg3.IsWhole) (arg4 : Memref sig .tc .vmem S1x32x96x128 .bf16) (harg4 : arg4.IsWhole) (arg5 : Memref sig .tc .vmem S1x32x96x128 .bf16) (harg5 : arg5.IsWhole) (arg6 : Memref sig .tc .vmem S1x32x96x128 .bf16) (harg6 : arg6.IsWhole) (arg7 : Memref sig .tc .vmem S1x32x96x128 .bf16) (harg7 : arg7.IsWhole) (arg8 : Memref sig .tc .vmem S1x32x96x128 .fp8e4m3) (harg8 : arg8.IsWhole) (arg9 : Memref sig .tc .vmem S1x32x96x128 .fp8e4m3) (harg9 : arg9.IsWhole) (arg10 : Memref sig .tc .vmem S3x24 .f32) (harg10 : arg10.IsWhole) (arg11 : Memref sig .tc .vmem S3x24 .f32) (harg11 : arg11.IsWhole) (arg12 : Memref sig .tc .vmem S12x16x128 .bf16) (harg12 : arg12.IsWhole) (arg13 : Memref sig .tc .vmem S12x16x128 .bf16) (harg13 : arg13.IsWhole) (arg14 : Memref sig .tc .vmem S12x8x128 .f32) (harg14 : arg14.IsWhole) (arg15 : Memref sig .tc .vmem S12x16x128 .bf16) (harg15 : arg15.IsWhole) (arg16 : Memref sig .tc .vmem S12x16x128 .bf16) (harg16 : arg16.IsWhole) (hc0 : ¬cond0_0 i) (hc1 : ¬cond0_1 i)
    (x0 : Vec F S3x24 .f32) (x1 : Vec F S3x24 .f32) (x2 : Vec F S1x32x96x128 .bf16) (x3 : Vec F S1x32x96x128 .bf16) (x4 : Vec F S1x32x96x128 .bf16) (xs3 : Vec F S12x16x128 .bf16) (xs4 : Vec F S12x16x128 .bf16) : Vec F S12x16x128 .bf16 :=
  VS0_4.read (Elt F) (VS0_4.writes (Elt F) VS0_4.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 xs3 xs4).2.1)

/-- Case C's pieces for scratch `arg15`, which the kernel carries between points, cover it: 24 pieces of `S1x16x128` tiling it (Lib/Ring.lean `Piece.tiledL`). -/
theorem scover0_C_3 (c : Dev nD) (i : grid0.Coords) (arg2 : Memref sig .tc .smem S3x24 .f32) (harg2 : arg2.IsWhole) (arg3 : Memref sig .tc .smem S3x24 .f32) (harg3 : arg3.IsWhole) (arg4 : Memref sig .tc .vmem S1x32x96x128 .bf16) (harg4 : arg4.IsWhole) (arg5 : Memref sig .tc .vmem S1x32x96x128 .bf16) (harg5 : arg5.IsWhole) (arg6 : Memref sig .tc .vmem S1x32x96x128 .bf16) (harg6 : arg6.IsWhole) (arg7 : Memref sig .tc .vmem S1x32x96x128 .bf16) (harg7 : arg7.IsWhole) (arg8 : Memref sig .tc .vmem S1x32x96x128 .fp8e4m3) (harg8 : arg8.IsWhole) (arg9 : Memref sig .tc .vmem S1x32x96x128 .fp8e4m3) (harg9 : arg9.IsWhole) (arg10 : Memref sig .tc .vmem S3x24 .f32) (harg10 : arg10.IsWhole) (arg11 : Memref sig .tc .vmem S3x24 .f32) (harg11 : arg11.IsWhole) (arg12 : Memref sig .tc .vmem S12x16x128 .bf16) (harg12 : arg12.IsWhole) (arg13 : Memref sig .tc .vmem S12x16x128 .bf16) (harg13 : arg13.IsWhole) (arg14 : Memref sig .tc .vmem S12x8x128 .f32) (harg14 : arg14.IsWhole) (arg15 : Memref sig .tc .vmem S12x16x128 .bf16) (harg15 : arg15.IsWhole) (arg16 : Memref sig .tc .vmem S12x16x128 .bf16) (harg16 : arg16.IsWhole) (hc0 : ¬cond0_0 i) (hc1 : cond0_1 i)
    (x0 : Vec F S3x24 .f32) (x1 : Vec F S3x24 .f32) (x2 : Vec F S1x32x96x128 .bf16) (x3 : Vec F S1x32x96x128 .bf16) (x4 : Vec F S1x32x96x128 .bf16) (xs3 : Vec F S12x16x128 .bf16) (xs4 : Vec F S12x16x128 .bf16) (y : S12x16x128.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 xs3 xs4).1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 xs3 xs4).1 S1x16x128.size (by sl_kernel_rfl) y

/-- What case C leaves in scratch `arg15`: its pieces read back over junk. -/
def sout0_C_3 (c : Dev nD) (i : grid0.Coords) (arg2 : Memref sig .tc .smem S3x24 .f32) (harg2 : arg2.IsWhole) (arg3 : Memref sig .tc .smem S3x24 .f32) (harg3 : arg3.IsWhole) (arg4 : Memref sig .tc .vmem S1x32x96x128 .bf16) (harg4 : arg4.IsWhole) (arg5 : Memref sig .tc .vmem S1x32x96x128 .bf16) (harg5 : arg5.IsWhole) (arg6 : Memref sig .tc .vmem S1x32x96x128 .bf16) (harg6 : arg6.IsWhole) (arg7 : Memref sig .tc .vmem S1x32x96x128 .bf16) (harg7 : arg7.IsWhole) (arg8 : Memref sig .tc .vmem S1x32x96x128 .fp8e4m3) (harg8 : arg8.IsWhole) (arg9 : Memref sig .tc .vmem S1x32x96x128 .fp8e4m3) (harg9 : arg9.IsWhole) (arg10 : Memref sig .tc .vmem S3x24 .f32) (harg10 : arg10.IsWhole) (arg11 : Memref sig .tc .vmem S3x24 .f32) (harg11 : arg11.IsWhole) (arg12 : Memref sig .tc .vmem S12x16x128 .bf16) (harg12 : arg12.IsWhole) (arg13 : Memref sig .tc .vmem S12x16x128 .bf16) (harg13 : arg13.IsWhole) (arg14 : Memref sig .tc .vmem S12x8x128 .f32) (harg14 : arg14.IsWhole) (arg15 : Memref sig .tc .vmem S12x16x128 .bf16) (harg15 : arg15.IsWhole) (arg16 : Memref sig .tc .vmem S12x16x128 .bf16) (harg16 : arg16.IsWhole) (hc0 : ¬cond0_0 i) (hc1 : cond0_1 i)
    (x0 : Vec F S3x24 .f32) (x1 : Vec F S3x24 .f32) (x2 : Vec F S1x32x96x128 .bf16) (x3 : Vec F S1x32x96x128 .bf16) (x4 : Vec F S1x32x96x128 .bf16) (xs3 : Vec F S12x16x128 .bf16) (xs4 : Vec F S12x16x128 .bf16) : Vec F S12x16x128 .bf16 :=
  VS0_3.read (Elt F) (VS0_3.writes (Elt F) VS0_3.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 xs3 xs4).1)

/-- Case C's pieces for scratch `arg16`, which the kernel carries between points, cover it: 24 pieces of `S1x16x128` tiling it (Lib/Ring.lean `Piece.tiledL`). -/
theorem scover0_C_4 (c : Dev nD) (i : grid0.Coords) (arg2 : Memref sig .tc .smem S3x24 .f32) (harg2 : arg2.IsWhole) (arg3 : Memref sig .tc .smem S3x24 .f32) (harg3 : arg3.IsWhole) (arg4 : Memref sig .tc .vmem S1x32x96x128 .bf16) (harg4 : arg4.IsWhole) (arg5 : Memref sig .tc .vmem S1x32x96x128 .bf16) (harg5 : arg5.IsWhole) (arg6 : Memref sig .tc .vmem S1x32x96x128 .bf16) (harg6 : arg6.IsWhole) (arg7 : Memref sig .tc .vmem S1x32x96x128 .bf16) (harg7 : arg7.IsWhole) (arg8 : Memref sig .tc .vmem S1x32x96x128 .fp8e4m3) (harg8 : arg8.IsWhole) (arg9 : Memref sig .tc .vmem S1x32x96x128 .fp8e4m3) (harg9 : arg9.IsWhole) (arg10 : Memref sig .tc .vmem S3x24 .f32) (harg10 : arg10.IsWhole) (arg11 : Memref sig .tc .vmem S3x24 .f32) (harg11 : arg11.IsWhole) (arg12 : Memref sig .tc .vmem S12x16x128 .bf16) (harg12 : arg12.IsWhole) (arg13 : Memref sig .tc .vmem S12x16x128 .bf16) (harg13 : arg13.IsWhole) (arg14 : Memref sig .tc .vmem S12x8x128 .f32) (harg14 : arg14.IsWhole) (arg15 : Memref sig .tc .vmem S12x16x128 .bf16) (harg15 : arg15.IsWhole) (arg16 : Memref sig .tc .vmem S12x16x128 .bf16) (harg16 : arg16.IsWhole) (hc0 : ¬cond0_0 i) (hc1 : cond0_1 i)
    (x0 : Vec F S3x24 .f32) (x1 : Vec F S3x24 .f32) (x2 : Vec F S1x32x96x128 .bf16) (x3 : Vec F S1x32x96x128 .bf16) (x4 : Vec F S1x32x96x128 .bf16) (xs3 : Vec F S12x16x128 .bf16) (xs4 : Vec F S12x16x128 .bf16) (y : S12x16x128.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 xs3 xs4).2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 xs3 xs4).2.1 S1x16x128.size (by sl_kernel_rfl) y

/-- What case C leaves in scratch `arg16`: its pieces read back over junk. -/
def sout0_C_4 (c : Dev nD) (i : grid0.Coords) (arg2 : Memref sig .tc .smem S3x24 .f32) (harg2 : arg2.IsWhole) (arg3 : Memref sig .tc .smem S3x24 .f32) (harg3 : arg3.IsWhole) (arg4 : Memref sig .tc .vmem S1x32x96x128 .bf16) (harg4 : arg4.IsWhole) (arg5 : Memref sig .tc .vmem S1x32x96x128 .bf16) (harg5 : arg5.IsWhole) (arg6 : Memref sig .tc .vmem S1x32x96x128 .bf16) (harg6 : arg6.IsWhole) (arg7 : Memref sig .tc .vmem S1x32x96x128 .bf16) (harg7 : arg7.IsWhole) (arg8 : Memref sig .tc .vmem S1x32x96x128 .fp8e4m3) (harg8 : arg8.IsWhole) (arg9 : Memref sig .tc .vmem S1x32x96x128 .fp8e4m3) (harg9 : arg9.IsWhole) (arg10 : Memref sig .tc .vmem S3x24 .f32) (harg10 : arg10.IsWhole) (arg11 : Memref sig .tc .vmem S3x24 .f32) (harg11 : arg11.IsWhole) (arg12 : Memref sig .tc .vmem S12x16x128 .bf16) (harg12 : arg12.IsWhole) (arg13 : Memref sig .tc .vmem S12x16x128 .bf16) (harg13 : arg13.IsWhole) (arg14 : Memref sig .tc .vmem S12x8x128 .f32) (harg14 : arg14.IsWhole) (arg15 : Memref sig .tc .vmem S12x16x128 .bf16) (harg15 : arg15.IsWhole) (arg16 : Memref sig .tc .vmem S12x16x128 .bf16) (harg16 : arg16.IsWhole) (hc0 : ¬cond0_0 i) (hc1 : cond0_1 i)
    (x0 : Vec F S3x24 .f32) (x1 : Vec F S3x24 .f32) (x2 : Vec F S1x32x96x128 .bf16) (x3 : Vec F S1x32x96x128 .bf16) (x4 : Vec F S1x32x96x128 .bf16) (xs3 : Vec F S12x16x128 .bf16) (xs4 : Vec F S12x16x128 .bf16) : Vec F S12x16x128 .bf16 :=
  VS0_4.read (Elt F) (VS0_4.writes (Elt F) VS0_4.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 xs3 xs4).2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S12x16x128 .bf16 × Vec F S12x16x128 .bf16
  | 0, hn => (sout0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩), sout0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩))
  | n + 1, hn =>
    if h0 : (n + 1) % 96 = 0 then
      if h1 : (n + 1) % 96 = 95 then
        False.elim (by have hN : n + 1 < 288 := lt_of_lt_of_eq hn (show cfg0.N = 288 from N_0); omega)
      else
        (sout0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), sout0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩))
    else
      if h1 : (n + 1) % 96 = 95 then
        (sout0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).1 (outsAt0 c n (Nat.lt_of_succ_lt hn)).2, sout0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).1 (outsAt0 c n (Nat.lt_of_succ_lt hn)).2)
      else
        (sout0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).1 (outsAt0 c n (Nat.lt_of_succ_lt hn)).2, sout0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).1 (outsAt0 c n (Nat.lt_of_succ_lt hn)).2)

/-- `outsAt0` at a point of case A: that case's contents. -/
theorem outsAt0_A (c : Dev nD) (t : Fin cfg0.N) (h0 : t.val % 96 = 0) (h1 : ¬t.val % 96 = 95) :
    outsAt0 m c t.val t.isLt = (sout0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m c 0 t) (iblk m c 1 t) (iblk m c 2 t) (iblk m c 3 t) (iblk m c 4 t), sout0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m c 0 t) (iblk m c 1 t) (iblk m c 2 t) (iblk m c 3 t) (iblk m c 4 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 96 = 0) (h1 : ¬t.val % 96 = 95) :
    outsAt0 m c t.val t.isLt = (sout0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).1 (outsAt0 m c (t.val - 1) (Nat.lt_of_le_of_lt (Nat.sub_le _ _) t.isLt)).2, sout0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).1 (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 96 = 0) (h1 : t.val % 96 = 95) :
    outsAt0 m c t.val t.isLt = (sout0_C_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).1 (outsAt0 m c (t.val - 1) (Nat.lt_of_le_of_lt (Nat.sub_le _ _) t.isLt)).2, sout0_C_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).1 (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop((∃ d, owns (c : Thread nD τ) scM0_0 fullShare d) ∗ (∃ d, owns (c : Thread nD τ) scM0_1 fullShare d) ∗ (∃ d, owns (c : Thread nD τ) scM0_2 fullShare d) ∗ owns (c : Thread nD τ) scM0_3 fullShare ((outsAt0 m c n hn).1) ∗ owns (c : Thread nD τ) scM0_4 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop((∃ d, owns (c : Thread nD τ) scM0_0 fullShare d) ∗ (∃ d, owns (c : Thread nD τ) scM0_1 fullShare d) ∗ (∃ d, owns (c : Thread nD τ) scM0_2 fullShare d) ∗ owns (c : Thread nD τ) scM0_3 fullShare ((outsAt0 m c n hn).1) ∗ owns (c : Thread nD τ) scM0_4 fullShare ((outsAt0 m c n hn).2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop((∃ d, owns (c : Thread nD τ) scM0_0 fullShare d) ∗ (∃ d, owns (c : Thread nD τ) scM0_1 fullShare d) ∗ (∃ d, owns (c : Thread nD τ) scM0_2 fullShare d) ∗ owns (c : Thread nD τ) scM0_3 fullShare ((outsAt0 m c (n - 1) (by omega)).1) ∗ owns (c : Thread nD τ) scM0_4 fullShare ((outsAt0 m c (n - 1) (by omega)).2)) ∗ (∃ r, prngReg c r)) := by
  cases n with
  | zero => exact absurd rfl hz
  | succ n => rfl

/-! ## The pipeline's proof data -/

/-- The output windows this certificate FORGETS (5, 6, 7, 8, 9): nothing reads what the kernel leaves in them, so nothing
    of it is named (Lib/Pipeline/Dat.lean `Dat.toRForget`). -/
def forgets0 : Fin 10 → Bool := fun w => w.val == 5 || w.val == 6 || w.val == 7 || w.val == 8 || w.val == 9

/-- The proof data of the one pipeline on core `c`: the arrays as the region finds them (`V`); after the body at
    point `t` each input's buffer at its block and the outputs, FORGOTTEN, at `Dat.unnamed`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare d)
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (∃ d, owns (c : Thread nD τ) (ms0_5 t) fullShare d)
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d))

set_option maxHeartbeats 14400000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  have hN : t.val < 288 := lt_of_lt_of_eq t.isLt (show cfg0.N = 288 from N_0)
  by_cases h0 : t.val % 96 = 0
  · by_cases h1 : t.val % 96 = 95
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      by_cases hz : t.val = 0
      · rw [PhiS_castSucc m c t, PhiS_zero m c _ _ hz, PhiA0_eq]
        rw [outsAt0_A m c t h0 h1]
        unfold sout0_A_3 sout0_A_4; (try dsimp only)
        iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun0_A c (grid0.coords t) _ _ _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t)).2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexists _; iexact H6
        isplitl [H7]; · iexists _; iexact H7
        isplitl [H8]; · iexists _; iexact H8
        isplitl [H9]; · iexists _; iexact H9
        isplitl [HS0]; · iexact HS0
        isplitl [HS1]; · iexact HS1
        isplitl [HS2]; · iexact HS2
        isplitl [HS3]; · iexact HS3
        isplitl [HS4]; · iexact HS4
        iintro ⟨H0, H1, H2, H3, H4, H5, H6, H7, H8, H9, HS0, HS1, HS2, ⟨%es3, HS3⟩, ⟨%es4, HS4⟩⟩
        isplitl [HS0 HS1 HS2 HS3 HS4 Hg]
        · isplitl [HS0 HS1 HS2 HS3 HS4]
          · isplitl [HS0]
            · iexact HS0
            isplitl [HS1]
            · iexact HS1
            isplitl [HS2]
            · iexact HS2
            isplitl [HS3]
            · unfold owns; iexists _; isplitr
              swap; · iexact HS3
              ipureintro; exact View.read_writes_of_cover _ _ _ _ _ (scover0_A_3 c _ _ _ _ _ _ _ _ _ _ _ _ _ _ _ _ _ _ _ _ _ _ _ _ _ _ _ _ _ _ _ _ _ _ _ _ _ _)
            unfold owns; iexists _; isplitr
            swap; · iexact HS4
            ipureintro; exact View.read_writes_of_cover _ _ _ _ _ (scover0_A_4 c _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        iexact H9
      · rw [PhiS_castSucc m c t, PhiS_pos m c _ _ hz]
        rw [outsAt0_A m c t h0 h1]
        unfold sout0_A_3 sout0_A_4; (try dsimp only)
        iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun0_A c (grid0.coords t) _ _ _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t)).2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexists _; iexact H6
        isplitl [H7]; · iexists _; iexact H7
        isplitl [H8]; · iexists _; iexact H8
        isplitl [H9]; · iexists _; iexact H9
        isplitl [HS0]; · iexact HS0
        isplitl [HS1]; · iexact HS1
        isplitl [HS2]; · iexact HS2
        isplitl [HS3]; · iexists _; iexact HS3
        isplitl [HS4]; · iexists _; iexact HS4
        iintro ⟨H0, H1, H2, H3, H4, H5, H6, H7, H8, H9, HS0, HS1, HS2, ⟨%es3, HS3⟩, ⟨%es4, HS4⟩⟩
        isplitl [HS0 HS1 HS2 HS3 HS4 Hg]
        · isplitl [HS0 HS1 HS2 HS3 HS4]
          · isplitl [HS0]
            · iexact HS0
            isplitl [HS1]
            · iexact HS1
            isplitl [HS2]
            · iexact HS2
            isplitl [HS3]
            · unfold owns; iexists _; isplitr
              swap; · iexact HS3
              ipureintro; exact View.read_writes_of_cover _ _ _ _ _ (scover0_A_3 c _ _ _ _ _ _ _ _ _ _ _ _ _ _ _ _ _ _ _ _ _ _ _ _ _ _ _ _ _ _ _ _ _ _ _ _ _ _)
            unfold owns; iexists _; isplitr
            swap; · iexact HS4
            ipureintro; exact View.read_writes_of_cover _ _ _ _ _ (scover0_A_4 c _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        iexact H9
  · by_cases h1 : t.val % 96 = 95
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      by_cases hz : t.val = 0
      · exfalso; have hN : t.val < 288 := lt_of_lt_of_eq t.isLt (show cfg0.N = 288 from N_0); omega
      · rw [PhiS_castSucc m c t, PhiS_pos m c _ _ hz]
        rw [outsAt0_C m c t h0 h1]
        unfold sout0_C_3 sout0_C_4; (try dsimp only)
        iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun0_C c (grid0.coords t) _ _ _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) _ _).2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexists _; iexact H6
        isplitl [H7]; · iexists _; iexact H7
        isplitl [H8]; · iexists _; iexact H8
        isplitl [H9]; · iexists _; iexact H9
        isplitl [HS0]; · iexact HS0
        isplitl [HS1]; · iexact HS1
        isplitl [HS2]; · iexact HS2
        isplitl [HS3]; · iexact HS3
        isplitl [HS4]; · iexact HS4
        iintro ⟨H0, H1, H2, H3, H4, H5, H6, H7, H8, H9, HS0, HS1, HS2, ⟨%es3, HS3⟩, ⟨%es4, HS4⟩⟩
        isplitl [HS0 HS1 HS2 HS3 HS4 Hg]
        · isplitl [HS0 HS1 HS2 HS3 HS4]
          · isplitl [HS0]
            · iexact HS0
            isplitl [HS1]
            · iexact HS1
            isplitl [HS2]
            · iexact HS2
            isplitl [HS3]
            · unfold owns; iexists _; isplitr
              swap; · iexact HS3
              ipureintro; exact View.read_writes_of_cover _ _ _ _ _ (scover0_C_3 c _ _ _ _ _ _ _ _ _ _ _ _ _ _ _ _ _ _ _ _ _ _ _ _ _ _ _ _ _ _ _ _ _ _ _ _ _ _ _ _)
            unfold owns; iexists _; isplitr
            swap; · iexact HS4
            ipureintro; exact View.read_writes_of_cover _ _ _ _ _ (scover0_C_4 c _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        iexact H9
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      by_cases hz : t.val = 0
      · exfalso; have hN : t.val < 288 := lt_of_lt_of_eq t.isLt (show cfg0.N = 288 from N_0); omega
      · rw [PhiS_castSucc m c t, PhiS_pos m c _ _ hz]
        rw [outsAt0_B m c t h0 h1]
        unfold sout0_B_3 sout0_B_4; (try dsimp only)
        iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun0_B c (grid0.coords t) _ _ _ _ _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) _ _).2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexists _; iexact H6
        isplitl [H7]; · iexists _; iexact H7
        isplitl [H8]; · iexists _; iexact H8
        isplitl [H9]; · iexists _; iexact H9
        isplitl [HS0]; · iexact HS0
        isplitl [HS1]; · iexact HS1
        isplitl [HS2]; · iexact HS2
        isplitl [HS3]; · iexact HS3
        isplitl [HS4]; · iexact HS4
        iintro ⟨H0, H1, H2, H3, H4, H5, H6, H7, H8, H9, HS0, HS1, HS2, ⟨%es3, HS3⟩, ⟨%es4, HS4⟩⟩
        isplitl [HS0 HS1 HS2 HS3 HS4 Hg]
        · isplitl [HS0 HS1 HS2 HS3 HS4]
          · isplitl [HS0]
            · iexact HS0
            isplitl [HS1]
            · iexact HS1
            isplitl [HS2]
            · iexact HS2
            isplitl [HS3]
            · unfold owns; iexists _; isplitr
              swap; · iexact HS3
              ipureintro; exact View.read_writes_of_cover _ _ _ _ _ (scover0_B_3 c _ _ _ _ _ _ _ _ _ _ _ _ _ _ _ _ _ _ _ _ _ _ _ _ _ _ _ _ _ _ _ _ _ _ _ _ _ _ _ _)
            unfold owns; iexists _; isplitr
            swap; · iexact HS4
            ipureintro; exact View.read_writes_of_cover _ _ _ _ _ (scover0_B_4 c _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        iexact H9

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4⟩, Hg⟩
  isplitl [HS0 HS1 HS2 HS3 HS4]
  · isplitl [HS0]
    · iexact HS0
    isplitl [HS1]
    · iexact HS1
    isplitl [HS2]
    · iexact HS2
    isplitl [HS3]
    · iexists _; iexact HS3
    iexists _; iexact HS4
  iexact Hg

/-- The same after the last point. -/
theorem hout (c : Dev nD) : (dats m 0 c).Φ (Fin.last cfg0.N) ⊢ Pipeline.ΦA spec0 c :=
  Phi_out m c _ (by rw [Fin.val_last]; have : cfg0.N = 288 := N_0; omega)

/-! ## The run and the frame -/

-- `θ_run_frame_track_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every INPUT array of the pipeline unchanged, nothing stated of the
    FORGOTTEN outputs (windows 5, 6, 7, 8, 9) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Kernel.Gen

end
-- ==== Proof.Points.lean ====
/-
  The idealized kernel's grid points: the conditions of its branches in closed form, where its windows are idle,
  and the buffers its body works on at a point.
-/
module

public import proofs.«01_k».proof.Proof.Gen.KernelIdeal.Launch
public import proofs.«01_k».proof.Proof.Gen.KernelIdeal.Frame
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 0 (mod 96) — by arithmetic of the point. -/
theorem hcond0_0 : ∀ t : Fin cfg0.N, cond0_0 (grid0.coords t) ↔ t.val % 96 = 0 :=
  (fun t => by
    have ht : t.val < 288 := Nat.lt_of_lt_of_eq t.isLt N_0
    have e0 : (grid0.coords t 0).val = t.val / 96 % 3 := Pipeline.Grid.coords_val t 0 (by decide) rfl
    have e1 : (grid0.coords t 1).val = t.val / 1 % 96 := Pipeline.Grid.coords_val t 1 (by decide) rfl
    simp only [cond0_0, k0_cond1, e0, e1]
    word_cmp
   : ∀ t : Fin grid0.N, cond0_0 (grid0.coords t) ↔ t.val % 96 = 0)

/-- The condition of the body's `scf.if` 1 (`k0_h2`), from the grid coordinates (the skeleton's scalar
    chain substituted). -/
abbrev cond0_1 (i : grid0.Coords) : Prop := k0_cond2 i = 1#1
/-- It holds at the points ≡ 95 (mod 96) — by arithmetic of the point. -/
theorem hcond0_1 : ∀ t : Fin cfg0.N, cond0_1 (grid0.coords t) ↔ t.val % 96 = 95 :=
  (fun t => by
    have ht : t.val < 288 := Nat.lt_of_lt_of_eq t.isLt N_0
    have e0 : (grid0.coords t 0).val = t.val / 96 % 3 := Pipeline.Grid.coords_val t 0 (by decide) rfl
    have e1 : (grid0.coords t 1).val = t.val / 1 % 96 := Pipeline.Grid.coords_val t 1 (by decide) rfl
    simp only [cond0_1, k0_cond2, e0, e1]
    word_cmp
   : ∀ t : Fin grid0.N, cond0_1 (grid0.coords t) ↔ t.val % 96 = 95)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an output stored at every point, under no condition). -/
theorem liveAt0_5 : ∀ t : Fin cfg0.N, cfg0.idle 5 (grid0.coords t) = false := fun _ => rfl
/-- Window 6 is never idle (an output stored at every point, under no condition). -/
theorem liveAt0_6 : ∀ t : Fin cfg0.N, cfg0.idle 6 (grid0.coords t) = false := fun _ => rfl
/-- Window 7 is never idle (an output stored at every point, under no condition). -/
theorem liveAt0_7 : ∀ t : Fin cfg0.N, cfg0.idle 7 (grid0.coords t) = false := fun _ => rfl
/-- At the points of case A the printed configuration (`Cfg.idle`) calls output 8 idle: the case stores nothing into it. -/
theorem idleAt0_8_A : ∀ t : Fin cfg0.N, cond0_0 (grid0.coords t) → ¬cond0_1 (grid0.coords t) → cfg0.idle 8 (grid0.coords t) = true := by decide +kernel
/-- At the points of case A the pipeline does not write output 8's block back. -/
theorem noFlush0_8_A : ∀ t : Fin cfg0.N, cond0_0 (grid0.coords t) → ¬cond0_1 (grid0.coords t) → (cfg0.win 8).flush t = false := by decide +kernel
/-- At the points of case B the printed configuration (`Cfg.idle`) calls output 8 idle: the case stores nothing into it. -/
theorem idleAt0_8_B : ∀ t : Fin cfg0.N, ¬cond0_0 (grid0.coords t) → ¬cond0_1 (grid0.coords t) → cfg0.idle 8 (grid0.coords t) = true := by decide +kernel
/-- At the points of case B the pipeline does not write output 8's block back. -/
theorem noFlush0_8_B : ∀ t : Fin cfg0.N, ¬cond0_0 (grid0.coords t) → ¬cond0_1 (grid0.coords t) → (cfg0.win 8).flush t = false := by decide +kernel
/-- At the points of case C the printed configuration (`Cfg.idle`) calls output 8 live: the case stores into it. -/
theorem liveAt0_8_C : ∀ t : Fin cfg0.N, ¬cond0_0 (grid0.coords t) → cond0_1 (grid0.coords t) → cfg0.idle 8 (grid0.coords t) = false := by decide +kernel
/-- At the points of case A the printed configuration (`Cfg.idle`) calls output 9 idle: the case stores nothing into it. -/
theorem idleAt0_9_A : ∀ t : Fin cfg0.N, cond0_0 (grid0.coords t) → ¬cond0_1 (grid0.coords t) → cfg0.idle 9 (grid0.coords t) = true := by decide +kernel
/-- At the points of case A the pipeline does not write output 9's block back. -/
theorem noFlush0_9_A : ∀ t : Fin cfg0.N, cond0_0 (grid0.coords t) → ¬cond0_1 (grid0.coords t) → (cfg0.win 9).flush t = false := by decide +kernel
/-- At the points of case B the printed configuration (`Cfg.idle`) calls output 9 idle: the case stores nothing into it. -/
theorem idleAt0_9_B : ∀ t : Fin cfg0.N, ¬cond0_0 (grid0.coords t) → ¬cond0_1 (grid0.coords t) → cfg0.idle 9 (grid0.coords t) = true := by decide +kernel
/-- At the points of case B the pipeline does not write output 9's block back. -/
theorem noFlush0_9_B : ∀ t : Fin cfg0.N, ¬cond0_0 (grid0.coords t) → ¬cond0_1 (grid0.coords t) → (cfg0.win 9).flush t = false := by decide +kernel
/-- At the points of case C the printed configuration (`Cfg.idle`) calls output 9 live: the case stores into it. -/
theorem liveAt0_9_C : ∀ t : Fin cfg0.N, ¬cond0_0 (grid0.coords t) → cond0_1 (grid0.coords t) → cfg0.idle 9 (grid0.coords t) = false := by decide +kernel

/-! ## The kernel body on any staging memrefs: a subtype the run finds -/

/-- One staging buffer of output window 5, through which its contents are stated (`View.read_writes_of_cover`: the
    choice does not matter). -/
abbrev VO0_5 : View sig .tc .vmem S1x32x96x128 .bf16 := (Memref.whole cc0_stg5_0 : Memref sig .tc .vmem S1x32x96x128 .bf16).view
/-- One staging buffer of output window 6, through which its contents are stated (`View.read_writes_of_cover`: the
    choice does not matter). -/
abbrev VO0_6 : View sig .tc .vmem S1x32x96x128 .fp8e4m3 := (Memref.whole cc0_stg6_0 : Memref sig .tc .vmem S1x32x96x128 .fp8e4m3).view
/-- One staging buffer of output window 7, through which its contents are stated (`View.read_writes_of_cover`: the
    choice does not matter). -/
abbrev VO0_7 : View sig .tc .vmem S1x32x96x128 .fp8e4m3 := (Memref.whole cc0_stg7_0 : Memref sig .tc .vmem S1x32x96x128 .fp8e4m3).view
/-- One staging buffer of output window 8, through which its contents are stated (`View.read_writes_of_cover`: the
    choice does not matter). -/
abbrev VO0_8 : View sig .tc .vmem S3x24 .f32 := (Memref.whole cc0_stg8_0 : Memref sig .tc .vmem S3x24 .f32).view
/-- One staging buffer of output window 9, through which its contents are stated (`View.read_writes_of_cover`: the
    choice does not matter). -/
abbrev VO0_9 : View sig .tc .vmem S3x24 .f32 := (Memref.whole cc0_stg9_0 : Memref sig .tc .vmem S3x24 .f32).view
/-- Each window's current staging memref at point `t`, spelled as the pipeline passes it (`bodyAt0`), and its wholeness. -/
abbrev ms0_0 (t : Fin cfg0.N) : Memref sig .tc .smem S3x24 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S3x24 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x32x96x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x32x96x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x32x96x128 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x32x96x128 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x32x96x128 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x32x96x128 .fp8e4m3 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S3x24 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S3x24 .f32 := win0_9.stage (cfg0.slots t 9)
abbrev hs0_9 (t : Fin cfg0.N) : (ms0_9 t).IsWhole := hstage0_9 ((cfg0.slots t 9).cast nbuf0_9)
/-- The scratch operands: whole scoped buffers of the kernel's own, passed beside the windows. -/
abbrev scM0_0 : Memref sig .tc .vmem S12x16x128 .bf16 := Memref.whole cc0_scratch0
abbrev scM0_1 : Memref sig .tc .vmem S12x16x128 .bf16 := Memref.whole cc0_scratch1
abbrev scM0_2 : Memref sig .tc .vmem S12x8x128 .f32 := Memref.whole cc0_scratch2
abbrev scM0_3 : Memref sig .tc .vmem S12x16x128 .bf16 := Memref.whole cc0_scratch3
abbrev scM0_4 : Memref sig .tc .vmem S12x16x128 .bf16 := Memref.whole cc0_scratch4
/-- The scratch `arg12` the kernel carries between points, as a view: what it holds is stated through it. -/
abbrev VS0_0 : View sig .tc .vmem S12x16x128 .bf16 := scM0_0.view
/-- The scratch `arg13` the kernel carries between points, as a view: what it holds is stated through it. -/
abbrev VS0_1 : View sig .tc .vmem S12x16x128 .bf16 := scM0_1.view
/-- The scratch `arg14` the kernel carries between points, as a view: what it holds is stated through it. -/
abbrev VS0_2 : View sig .tc .vmem S12x8x128 .f32 := scM0_2.view
/-- The scratch `arg15` the kernel carries between points, as a view: what it holds is stated through it. -/
abbrev VS0_3 : View sig .tc .vmem S12x16x128 .bf16 := scM0_3.view
/-- The scratch `arg16` the kernel carries between points, as a view: what it holds is stated through it. -/
abbrev VS0_4 : View sig .tc .vmem S12x16x128 .bf16 := scM0_4.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

end Cert.KernelIdeal.Gen

end
-- ==== Proof.Block.lean ====
/-
  What one grid point computes, as functions of the vectors it loads: a group (the two frames' halves of one pair of heads,
  32 frames by 2 pixels by 2 heads by 128 lanes), its codes, its running maxima and its attention output; the tables the
  first step of a batch entry fills; the row of maxima the last step stores. Everything is stated over any values.
-/
module

public import proofs.«01_k».proof.Proof.Points

@[expose] public section

set_option maxRecDepth 16384

noncomputable section

namespace Cert.KernelIdeal.Block

open Idealize.ShloMosaic Cert.KernelIdeal Cert.KernelIdeal.Gen

variable {F : FTy → Type} [FloatOps F] [Named F]

/-! ## One group -/

/-- The 128 rows of a group: row `4 f + 2 i + u` is frame `f` of the `i`-th loaded slice's row `u`. -/
def tile (a b : Vec F S1x32x2x128 .bf16) : FVec F S128x128 .bf16 :=
  shapeCast S128x128 (concatenate S32x2x2x128 1
    [⟨S32x1x2x128, shapeCast S32x1x2x128 (shapeCast S32x2x128 a shapeCasts_S1x32x2x128_S32x2x128) shapeCasts_S32x2x128_S32x1x2x128⟩,
     ⟨S32x1x2x128, shapeCast S32x1x2x128 (shapeCast S32x2x128 b shapeCasts_S1x32x2x128_S32x2x128) shapeCasts_S32x2x128_S32x1x2x128⟩]
    concatenates_S32x1x2x128_S32x1x2x128_S32x2x2x128_d1) shapeCasts_S32x2x2x128_S128x128

/-- The same rows in eight blocks of sixteen. -/
def blocks (a b : Vec F S1x32x2x128 .bf16) : FVec F S8x16x128 .bf16 :=
  shapeCast S8x16x128 (tile a b) shapeCasts_S128x128_S8x16x128

/-- The running maximum of a pair of heads after a group. -/
def updMax (old : Vec F S1x16x128 .bf16) (a b : Vec F S1x32x2x128 .bf16) : FVec F S1x16x128 .bf16 :=
  shapeCast S1x16x128 (maximumf (shapeCast S16x128 old shapeCasts_S1x16x128_S16x128)
    (multiReduction .maximumf [0] S16x128 (absf (blocks a b)) 0xFF80#16 reduces_S8x16x128_S16x128 (.inr rfl) rfl))
    shapeCasts_S16x128_S1x16x128

/-- The group's codes under the row table `inv` of reciprocal scales. -/
def codes (a b : Vec F S1x32x2x128 .bf16) (inv : Vec F S1x16x128 .bf16) : FVec F S128x128 .fp8e4m3 :=
  truncf .fp8e4m3 (shapeCast S128x128
    (minimumf (broadcast S8x16x128 (Scalar.ofBits .bf16 0x43E0#16))
      (maximumf (broadcast S8x16x128 (Scalar.ofBits .bf16 0xC3E0#16))
        (mulf (blocks a b) (broadcastTo S8x16x128
          (shapeCast S1x16x128 (shapeCast S16x128 inv shapeCasts_S1x16x128_S16x128) shapeCasts_S16x128_S1x16x128)
          broadcasts_S1x16x128_S8x16x128)))) shapeCasts_S8x16x128_S128x128) bitsLt_fp8e4m3_bf16

/-- The scores of every key row (axis 0) with every query row (axis 1), scaled; rows of two different pixels or heads at minus infinity. -/
def scores (k8 q8 : FVec F S128x128 .fp8e4m3) (c : Vec F S1x8x128 .f32) : FVec F S128x128 .f32 :=
  select k0_pay129
    (shapeCast S128x128 (mulf
      (shapeCast S16x8x128 (matmul dot_S128x128_S128x128_S128x128_1_1_0_0_n_n none k8 q8 (constant S128x128 .f32 0x00000000#32))
        shapeCasts_S128x128_S16x8x128)
      (broadcastTo S16x8x128 (shapeCast S1x8x128 (shapeCast S8x128 c shapeCasts_S1x8x128_S8x128) shapeCasts_S8x128_S1x8x128)
        broadcasts_S1x8x128_S16x8x128)) shapeCasts_S16x8x128_S128x128)
    (broadcast S128x128 (Scalar.ofBits .f32 0xFF800000#32))

/-- The exponentials of the scores less their column's maximum. -/
def expo (t : FVec F S128x128 .f32) : FVec F S128x128 .f32 :=
  exp2 (subf t (broadcastTo S128x128 (shapeCast S1x128
    (multiReduction .maximumf [0] S128 t 0xFF800000#32 reduces_S128x128_S128 (.inl rfl) rfl) shapeCasts_S128_S1x128)
    broadcasts_S1x128_S128x128))

/-- The exponentials over their column's sum, as the second product takes them. -/
def probs (e : FVec F S128x128 .f32) : FVec F S128x128 .bf16 :=
  truncf .bf16 (mulf e (broadcastTo S128x128 (divf (broadcast S1x128 (Scalar.ofBits .f32 0x3F800000#32))
    (shapeCast S1x128 (multiReduction .add [0] S128 e 0x00000000#32 reduces_S128x128_S128 (.inl rfl) rfl) shapeCasts_S128_S1x128))
    broadcasts_S1x128_S128x128)) bitsLt_bf16_f32

/-- The group's output rows, cut as they are stored: frame, slice, row in the slice, lane. -/
def group (k8 q8 : FVec F S128x128 .fp8e4m3) (c : Vec F S1x8x128 .f32) (va vb : Vec F S1x32x2x128 .bf16) : FVec F S32x2x2x128 .bf16 :=
  shapeCast S32x2x2x128 (truncf .bf16
    (matmul dot_S128x128_S128x128_S128x128_0_0_1_1_n_n none (probs (expo (scores k8 q8 c))) (tile va vb) (constant S128x128 .f32 0x00000000#32))
    bitsLt_bf16_f32) shapeCasts_S128x128_S32x2x2x128

/-- Slice 0 of the output rows. -/
def out0 (o : FVec F S32x2x2x128 .bf16) : FVec F S1x32x2x128 .bf16 :=
  shapeCast S1x32x2x128 (shapeCast S32x2x128 (extractStridedSlice S32x1x2x128 ![0, 0, 0, 0] o slices_S32x2x2x128_o0_0_0_0_S32x1x2x128)
    shapeCasts_S32x1x2x128_S32x2x128) shapeCasts_S32x2x128_S1x32x2x128

/-- Slice 1 of the output rows. -/
def out1 (o : FVec F S32x2x2x128 .bf16) : FVec F S1x32x2x128 .bf16 :=
  shapeCast S1x32x2x128 (shapeCast S32x2x128 (extractStridedSlice S32x1x2x128 ![0, 1, 0, 0] o slices_S32x2x2x128_o0_1_0_0_S32x1x2x128)
    shapeCasts_S32x1x2x128_S32x2x128) shapeCasts_S32x2x128_S1x32x2x128

/-- The codes of two neighbouring groups side by side: frame, slice, one of four rows, lane. -/
def pairCodes (x y : FVec F S128x128 .fp8e4m3) : FVec F S32x2x4x128 .fp8e4m3 :=
  concatenate S32x2x4x128 2 [⟨S32x2x2x128, shapeCast S32x2x2x128 x shapeCasts_S128x128_S32x2x2x128⟩,
    ⟨S32x2x2x128, shapeCast S32x2x2x128 y shapeCasts_S128x128_S32x2x2x128⟩] concatenates_S32x2x2x128_S32x2x2x128_S32x2x4x128_d2

/-- Slice 0 of the paired codes. -/
def code0 (o : FVec F S32x2x4x128 .fp8e4m3) : FVec F S1x32x4x128 .fp8e4m3 :=
  shapeCast S1x32x4x128 (shapeCast S32x4x128 (extractStridedSlice S32x1x4x128 ![0, 0, 0, 0] o slices_S32x2x4x128_o0_0_0_0_S32x1x4x128)
    shapeCasts_S32x1x4x128_S32x4x128) shapeCasts_S32x4x128_S1x32x4x128

/-- Slice 1 of the paired codes. -/
def code1 (o : FVec F S32x2x4x128 .fp8e4m3) : FVec F S1x32x4x128 .fp8e4m3 :=
  shapeCast S1x32x4x128 (shapeCast S32x4x128 (extractStridedSlice S32x1x4x128 ![0, 1, 0, 0] o slices_S32x2x4x128_o0_1_0_0_S32x1x4x128)
    shapeCasts_S32x1x4x128_S32x4x128) shapeCasts_S32x4x128_S1x32x4x128

/-! ## The tables -/

/-- The kernel's reciprocal of a scale: two for zero, else the least of the tabled reciprocals whose power the scale reaches. -/
def invPow (s : F .f32) : F .f32 :=
  Scalar.select (Scalar.cmpf .oeq s (Scalar.ofBits .f32 0x00000000#32)) (Scalar.ofBits .f32 0x40000000#32)
    (extractAt ![0, 0, 0] (shapeCast S1x1x1 (multiReduction .minimumf [1, 2] S1
      (shapeCast S1x2x128 (select (cmpf .oge (broadcast S2x128 (Scalar.absf s)) k0_pay5) k0_pay6 (broadcast S2x128 (Scalar.ofBits .f32 0x7F800000#32)))
        shapeCasts_S2x128_S1x2x128) 0x7F800000#32 reduces_S1x2x128_S1 (.inl rfl) rfl) shapeCasts_S1_S1x1x1) inpos_S1x1x1_p0_0_0)

/-- A row of the table of reciprocals: the even head's in even rows, the odd head's in odd rows. -/
def invRow (s0 s1 : F .f32) : FVec F S1x16x128 .bf16 :=
  shapeCast S1x16x128 (truncf .bf16 (select k0_pay2 (broadcast S16x128 (invPow s1)) (broadcast S16x128 (invPow s0))) bitsLt_bf16_f32)
    shapeCasts_S16x128_S1x16x128

/-- A row of the table of score factors: the even head's in even lanes, the odd head's in odd lanes. -/
def scaleRow (q0 q1 k0 k1 : F .f32) : FVec F S1x8x128 .f32 :=
  shapeCast S1x8x128 (mulf (select k0_pay3
      (broadcast S8x128 (Scalar.mulf (Scalar.mulf q1 k1) (Scalar.ofBits .f32 0x3DB504F3#32)))
      (broadcast S8x128 (Scalar.mulf (Scalar.mulf q0 k0) (Scalar.ofBits .f32 0x3DB504F3#32))))
    (broadcast S8x128 (Named.named κ "log2e" 0x3FB8AA3B#32))) shapeCasts_S8x128_S1x8x128

/-! ## The row of maxima -/

/-- The maximum over the rows of one parity of a pair of heads' running maxima. -/
def headMax (par : BitVec 1) (x : Vec F S1x16x128 .bf16) : F .f32 :=
  extractAt ![0, 0, 0] (shapeCast S1x1x1 (multiReduction .maximumf [1, 2] S1 (shapeCast S1x16x128
    (select (xori (xori k0_pay2 (broadcastTo S16x128 (broadcast S16x128 par) broadcasts_S16x128_S16x128)) (constantI S16x128 1 1#1))
      (extf .f32 (shapeCast S16x128 x shapeCasts_S1x16x128_S16x128) bitsLt_bf16_f32) (broadcast S16x128 (Scalar.ofBits .f32 0x00000000#32)))
    shapeCasts_S16x128_S1x16x128) 0xFF800000#32 reduces_S1x16x128_S1 (.inl rfl) rfl) shapeCasts_S1_S1x1x1) inpos_S1x1x1_p0_0_0

/-- The row of maxima built up head by head from zeros. -/
def accMax (x : (h : ℕ) → h < 12 → Vec F S1x16x128 .bf16) : (n : ℕ) → n ≤ 24 → FVec F S1x128 .f32
  | 0, _ => broadcast S1x128 (Scalar.ofBits .f32 0x00000000#32)
  | n + 1, h => select (cmpi .eq (iota .tc S1x128 32 [1] iota_S1x128_d1_w32) (broadcast S1x128 (BitVec.ofNat 32 n)))
      (broadcast S1x128 (headMax (BitVec.ofNat 1 (n % 2)) (x (n / 2) (by omega)))) (accMax x n (Nat.le_of_succ_le h))

/-- The stored row: the first 24 lanes. -/
def amaxRow (x : (h : ℕ) → h < 12 → Vec F S1x16x128 .bf16) : FVec F S1x24 .f32 :=
  extractStridedSlice S1x24 ![0, 0] (accMax x 24 (le_refl _)) slices_S1x128_o0_0_S1x24

/-! ## The pieces the body leaves -/

/-- The loads of group `w`, slice `i`: rows `2 w + 48 i` and the next. -/
theorem loadInb (w i : ℕ) (hw : w < 24) (hi : i < 2) : ∀ a, (![0, 0, 2 * w + 48 * i, 0] : Fin 4 → ℕ) a + S1x32x2x128.size a ≤ S1x32x96x128.size a := by
  intro a
  match a with
  | ⟨0, _⟩ => show 0 + 1 ≤ 1; omega
  | ⟨1, _⟩ => show 0 + 32 ≤ 32; omega
  | ⟨2, _⟩ => show 2 * w + 48 * i + 2 ≤ 96; omega
  | ⟨3, _⟩ => show 0 + 128 ≤ 128; omega

theorem codeInb (p i : ℕ) (hp : p < 12) (hi : i < 2) : ∀ a, (![0, 0, 4 * p + 48 * i, 0] : Fin 4 → ℕ) a + S1x32x4x128.size a ≤ S1x32x96x128.size a := by
  intro a
  match a with
  | ⟨0, _⟩ => show 0 + 1 ≤ 1; omega
  | ⟨1, _⟩ => show 0 + 32 ≤ 32; omega
  | ⟨2, _⟩ => show 4 * p + 48 * i + 4 ≤ 96; omega
  | ⟨3, _⟩ => show 0 + 128 ≤ 128; omega

theorem rowInb (h : ℕ) (hh : h < 12) : ∀ a, (![h, 0, 0] : Fin 3 → ℕ) a + S1x16x128.size a ≤ S12x16x128.size a := by
  intro a
  match a with
  | ⟨0, _⟩ => show h + 1 ≤ 12; omega
  | ⟨1, _⟩ => show 0 + 16 ≤ 16; omega
  | ⟨2, _⟩ => show 0 + 128 ≤ 128; omega

theorem rowInb8 (h : ℕ) (hh : h < 12) : ∀ a, (![h, 0, 0] : Fin 3 → ℕ) a + S1x8x128.size a ≤ S12x8x128.size a := by
  intro a
  match a with
  | ⟨0, _⟩ => show h + 1 ≤ 12; omega
  | ⟨1, _⟩ => show 0 + 8 ≤ 8; omega
  | ⟨2, _⟩ => show 0 + 128 ≤ 128; omega

/-- Rows `2 w + 48 i` and the next, of a block. -/
abbrev rect (w i : ℕ) (hw : w < 24) (hi : i < 2) : Rect S1x32x96x128 := Rect.unit ![0, 0, 2 * w + 48 * i, 0] S1x32x2x128.size (loadInb w i hw hi)

/-- The four rows of a block that a pair of groups' codes take. -/
abbrev crect (p i : ℕ) (hp : p < 12) (hi : i < 2) : Rect S1x32x96x128 := Rect.unit ![0, 0, 4 * p + 48 * i, 0] S1x32x4x128.size (codeInb p i hp hi)

/-- The row of a table that belongs to a pair of heads. -/
abbrev trect (h : ℕ) (hh : h < 12) : Rect S12x16x128 := Rect.unit ![h, 0, 0] S1x16x128.size (rowInb h hh)

/-- The row of the table of score factors that belongs to a pair of heads. -/
abbrev trect8 (h : ℕ) (hh : h < 12) : Rect S12x8x128 := Rect.unit ![h, 0, 0] S1x8x128.size (rowInb8 h hh)

/-- Everything a body's group reads: slices of the query, key and value blocks, and rows of the three tables. -/
structure Loads (F : FTy → Type) where
  q : (w i : ℕ) → w < 24 → i < 2 → Vec F S1x32x2x128 .bf16
  k : (w i : ℕ) → w < 24 → i < 2 → Vec F S1x32x2x128 .bf16
  v : (w i : ℕ) → w < 24 → i < 2 → Vec F S1x32x2x128 .bf16
  qi : (h : ℕ) → h < 12 → Vec F S1x16x128 .bf16
  ki : (h : ℕ) → h < 12 → Vec F S1x16x128 .bf16
  c : (h : ℕ) → h < 12 → Vec F S1x8x128 .f32

variable (L : Loads F)

/-- The query codes of group `w`. -/
def Loads.q8 (w : ℕ) (hw : w < 24) : FVec F S128x128 .fp8e4m3 :=
  codes (L.q w 0 hw (by decide)) (L.q w 1 hw (by decide)) (L.qi (w % 12) (Nat.mod_lt _ (by decide)))

/-- The key codes of group `w`. -/
def Loads.k8 (w : ℕ) (hw : w < 24) : FVec F S128x128 .fp8e4m3 :=
  codes (L.k w 0 hw (by decide)) (L.k w 1 hw (by decide)) (L.ki (w % 12) (Nat.mod_lt _ (by decide)))

/-- The output of group `w`. -/
def Loads.o (w : ℕ) (hw : w < 24) : FVec F S32x2x2x128 .bf16 :=
  group (L.k8 w hw) (L.q8 w hw) (L.c (w % 12) (Nat.mod_lt _ (by decide))) (L.v w 0 hw (by decide)) (L.v w 1 hw (by decide))

/-- The output's pieces after the first `n` groups, last first. -/
def Loads.outs : (n : ℕ) → n ≤ 24 → List (View.Piece (Elt F) S1x32x96x128 .bf16)
  | 0, _ => []
  | n + 1, h => ⟨rect n 1 h (by decide), out1 (L.o n h)⟩ :: ⟨rect n 0 h (by decide), out0 (L.o n h)⟩ :: Loads.outs n (Nat.le_of_succ_le h)

/-- The pieces of codes `x` (one per group) after the first `n` pairs of groups, last first. -/
def codePieces (x : (w : ℕ) → w < 24 → FVec F S128x128 .fp8e4m3) : (n : ℕ) → n ≤ 12 → List (View.Piece (Elt F) S1x32x96x128 .fp8e4m3)
  | 0, _ => []
  | n + 1, h => ⟨crect n 1 h (by decide), code1 (pairCodes (x (2 * n) (by omega)) (x (2 * n + 1) (by omega)))⟩
      :: ⟨crect n 0 h (by decide), code0 (pairCodes (x (2 * n) (by omega)) (x (2 * n + 1) (by omega)))⟩
      :: codePieces x n (Nat.le_of_succ_le h)

/-- The pieces of a table of rows `x`, one per pair of heads, last first. -/
def rowPieces (x : (h : ℕ) → h < 12 → Vec F S1x16x128 .bf16) : (n : ℕ) → n ≤ 12 → List (View.Piece (Elt F) S12x16x128 .bf16)
  | 0, _ => []
  | n + 1, h => ⟨trect n h, x n h⟩ :: rowPieces x n (Nat.le_of_succ_le h)

/-- The pieces of the table of score factors, last first. -/
def rowPieces8 (x : (h : ℕ) → h < 12 → Vec F S1x8x128 .f32) : (n : ℕ) → n ≤ 12 → List (View.Piece (Elt F) S12x8x128 .f32)
  | 0, _ => []
  | n + 1, h => ⟨trect8 n h, x n h⟩ :: rowPieces8 x n (Nat.le_of_succ_le h)

variable {σ : RefSig} {κκ : Kind} {sp : Space}

/-- The pieces of the running maxima over `base` after `n` pairs of heads of the pixel pair whose groups start at `off`, each row from `old`. -/
def maxFrom (old : (h : ℕ) → h < 12 → Vec F S1x16x128 .bf16) (x : (w i : ℕ) → w < 24 → i < 2 → Vec F S1x32x2x128 .bf16)
    (off : ℕ) (hoff : off ≤ 12) (base : List (View.Piece (Elt F) S12x16x128 .bf16)) : (n : ℕ) → n ≤ 12 → List (View.Piece (Elt F) S12x16x128 .bf16)
  | 0, _ => base
  | n + 1, h => ⟨trect n h, updMax (old n h) (x (off + n) 0 (by omega) (by decide)) (x (off + n) 1 (by omega) (by decide))⟩
      :: maxFrom old x off hoff base n (Nat.le_of_succ_le h)

/-- The same, each row read back from the pieces before. -/
def maxOver (v : View σ κκ sp S12x16x128 .bf16) (x : (w i : ℕ) → w < 24 → i < 2 → Vec F S1x32x2x128 .bf16)
    (off : ℕ) (hoff : off ≤ 12) (base : List (View.Piece (Elt F) S12x16x128 .bf16)) : (n : ℕ) → n ≤ 12 → List (View.Piece (Elt F) S12x16x128 .bf16)
  | 0, _ => base
  | n + 1, h => ⟨trect n h, updMax (v.readCov (maxOver v x off hoff base n (Nat.le_of_succ_le h)) (trect n h).toLoadRect)
        (x (off + n) 0 (by omega) (by decide)) (x (off + n) 1 (by omega) (by decide))⟩
      :: maxOver v x off hoff base n (Nat.le_of_succ_le h)

end Cert.KernelIdeal.Block

end
-- ==== Proof.Group.lean ====
/-
  A group read element by element over the extended reals: its rows, codes, scores and output.
-/
module

public import proofs.«01_k».proof.Proof.Block
public import Idealize.ShloMosaic.Lib.Pointwise

@[expose] public section

set_option maxRecDepth 16384

noncomputable section

namespace Cert.Group

open Idealize.ShloMosaic Idealize.ShloMosaic.TcCoe Cert.KernelIdeal Cert.KernelIdeal.Gen Cert.KernelIdeal.Block

theorem neg_inf_bf16 : Ideal.ofBits .bf16 65408#16 = (⊥ : EReal) := by
  simp only [Ideal.ofBits, Ideal.ieee]
  rw [if_pos (by decide +kernel), if_pos (by decide +kernel), if_pos (by decide +kernel)]

theorem neg_inf : Ideal.ofBits .f32 4286578688#32 = (⊥ : EReal) := by
  simp only [Ideal.ofBits, Ideal.ieee]
  rw [if_pos (by decide +kernel), if_pos (by decide +kernel), if_pos (by decide +kernel)]

theorem odd_word (n : ℕ) (h : n < 128) : IntOp.cmpi CmpIPredicate.eq (IntOp.andi (BitVec.ofNat 32 n) 1#32) 1#32 = if n % 2 = 1 then 1#1 else 0#1 := by
  have : ∀ k : Fin 128, IntOp.cmpi CmpIPredicate.eq (IntOp.andi (BitVec.ofNat 32 k.val) 1#32) 1#32 = if k.val % 2 = 1 then 1#1 else 0#1 := by decide +kernel
  exact this ⟨n, h⟩

/-- Row `r` of a group: frame `r / 4`, slice `r / 2 % 2`, row `r % 2` of the slice. -/
theorem tile_apply (a b : Vec Ideal S1x32x2x128 .bf16) (r l : Fin 128) :
    tile (F := Ideal) a b (ix2 r l) = (if r.val / 2 % 2 = 0 then a else b) (ix4 (n0 := 1) (n1 := 32) (n2 := 2) (n3 := 128) 0 ⟨r.val / 4, by omega⟩ ⟨r.val % 2, by omega⟩ l) := by
  pointwise [tile]
  by_cases h : r.val / 2 % 2 = 0
  · rw [dif_pos (by omega), if_pos h]
  · rw [dif_neg (by omega), if_neg h]

theorem blocks_apply (a b : Vec Ideal S1x32x2x128 .bf16) (n : Fin 8) (j : Fin 16) (l : Fin 128) :
    blocks (F := Ideal) a b (ix3 n j l) = tile (F := Ideal) a b (ix2 ⟨16 * n.val + j.val, by omega⟩ l) := by
  unfold blocks
  generalize tile (F := Ideal) a b = y
  pointwise
  congr 2
  exact Fin.ext (by show n.val * 16 + j.val = 16 * n.val + j.val; omega)

/-- A code: the clipped product with the row's reciprocal scale. -/
theorem codes_apply (a b : Vec Ideal S1x32x2x128 .bf16) (inv : Vec Ideal S1x16x128 .bf16) (r l : Fin 128) :
    codes (F := Ideal) a b inv (ix2 r l) = min (Ideal.ofBits .bf16 17376#16) (max (Ideal.ofBits .bf16 50144#16)
      ((tile (F := Ideal) a b (ix2 r l) : EReal) * inv (ix3 (n0 := 1) (n1 := 16) (n2 := 128) 0 ⟨r.val % 16, by omega⟩ l))) := by
  unfold codes blocks
  generalize tile (F := Ideal) a b = y
  pointwise

theorem updMax_apply (old : Vec Ideal S1x16x128 .bf16) (a b : Vec Ideal S1x32x2x128 .bf16) (j : Fin 16) (l : Fin 128) :
    updMax (F := Ideal) old a b (ix3 (n0 := 1) 0 j l) = max (old (ix3 (n0 := 1) (n1 := 16) (n2 := 128) 0 j l) : EReal)
      (Finset.univ.fold max ⊥ fun n : Fin 8 => max (blocks (F := Ideal) a b (ix3 n j l) : EReal) (-blocks (F := Ideal) a b (ix3 n j l))) := by
  unfold updMax
  generalize blocks (F := Ideal) a b = y
  pointwise
  rw [neg_inf_bf16]
  rfl

theorem same_apply (r c : Fin 128) : k0_pay129 (ix2 r c) = if r.val % 4 = c.val % 4 then 1#1 else 0#1 := by
  pointwise [k0_pay129]
  revert r c
  decide +kernel

theorem scores_apply (k8 q8 : FVec Ideal S128x128 .fp8e4m3) (c : Vec Ideal S1x8x128 .f32) (r q : Fin 128) :
    scores (F := Ideal) k8 q8 c (ix2 r q) = if r.val % 4 = q.val % 4
      then (∑ d : Fin 128, (k8 (ix2 r d) : EReal) * q8 (ix2 q d)) * c (ix3 (n0 := 1) (n1 := 8) (n2 := 128) 0 ⟨r.val % 8, by omega⟩ q) else (⊥ : EReal) := by
  pointwise [scores]
  rw [same_apply, neg_inf]
  by_cases h : r.val % 4 = q.val % 4
  · rw [if_pos h, if_pos h]; rfl
  · rw [if_neg h, if_neg h]; rfl

theorem expo_apply (t : FVec Ideal S128x128 .f32) (r q : Fin 128) :
    expo (F := Ideal) t (ix2 r q) = Ideal.exp2 ((t (ix2 r q) : EReal) - Finset.univ.fold max ⊥ fun r' : Fin 128 => (t (ix2 r' q) : EReal)) := by
  pointwise [expo]
  rw [neg_inf]
  rfl

theorem probs_apply (e : FVec Ideal S128x128 .f32) (r q : Fin 128) :
    probs (F := Ideal) e (ix2 r q) = (e (ix2 r q) : EReal) * Ideal.div 1 (∑ r' : Fin 128, (e (ix2 r' q) : EReal)) := by
  pointwise [probs]

theorem group_apply (k8 q8 : FVec Ideal S128x128 .fp8e4m3) (c : Vec Ideal S1x8x128 .f32) (va vb : Vec Ideal S1x32x2x128 .bf16)
    (f : Fin 32) (i u : Fin 2) (l : Fin 128) :
    group (F := Ideal) k8 q8 c va vb (ix4 f i u l) =
      ∑ r : Fin 128, (probs (F := Ideal) (expo (scores k8 q8 c)) (ix2 r ⟨4 * f.val + 2 * i.val + u.val, by omega⟩) : EReal) * tile (F := Ideal) va vb (ix2 r l) := by
  unfold group
  generalize probs (F := Ideal) (expo (scores k8 q8 c)) = p
  generalize tile (F := Ideal) va vb = y
  pointwise
  refine Finset.sum_congr rfl fun r _ => ?_
  congr 3
  exact Fin.ext (by show f.val * 4 + i.val * 2 + u.val = 4 * f.val + 2 * i.val + u.val; omega)

theorem out0_apply (o : FVec Ideal S32x2x2x128 .bf16) (f : Fin 32) (u : Fin 2) (l : Fin 128) :
    out0 (F := Ideal) o (ix4 (n0 := 1) 0 f u l) = o (ix4 f 0 u l) := by
  pointwise [out0]
theorem out1_apply (o : FVec Ideal S32x2x2x128 .bf16) (f : Fin 32) (u : Fin 2) (l : Fin 128) :
    out1 (F := Ideal) o (ix4 (n0 := 1) 0 f u l) = o (ix4 f 1 u l) := by
  pointwise [out1]

theorem pairCodes_apply (x y : FVec Ideal S128x128 .fp8e4m3) (f : Fin 32) (i : Fin 2) (u : Fin 4) (l : Fin 128) :
    pairCodes (F := Ideal) x y (ix4 f i u l) = (if u.val / 2 = 0 then x else y) (ix2 ⟨4 * f.val + 2 * i.val + u.val % 2, by omega⟩ l) := by
  pointwise [pairCodes]
  by_cases h : u.val / 2 = 0
  · rw [dif_pos (by omega), if_pos h]
    congr 2
    exact Fin.ext (by show f.val * 4 + i.val * 2 + u.val = 4 * f.val + 2 * i.val + u.val % 2; omega)
  · rw [dif_neg (by omega), if_neg h]
    congr 2
    exact Fin.ext (by show f.val * 4 + i.val * 2 + (u.val - 2) = 4 * f.val + 2 * i.val + u.val % 2; omega)

theorem code0_apply (o : FVec Ideal S32x2x4x128 .fp8e4m3) (f : Fin 32) (u : Fin 4) (l : Fin 128) :
    code0 (F := Ideal) o (ix4 (n0 := 1) 0 f u l) = o (ix4 f 0 u l) := by
  pointwise [code0]
theorem code1_apply (o : FVec Ideal S32x2x4x128 .fp8e4m3) (f : Fin 32) (u : Fin 4) (l : Fin 128) :
    code1 (F := Ideal) o (ix4 (n0 := 1) 0 f u l) = o (ix4 f 1 u l) := by
  pointwise [code1]

theorem invRow_apply (s0 s1 : Ideal .f32) (j : Fin 16) (l : Fin 128) :
    invRow (F := Ideal) s0 s1 (ix3 (n0 := 1) 0 j l) = invPow (if j.val % 2 = 1 then s1 else s0) := by
  unfold invRow
  rw [apply_ite (invPow (F := Ideal))]
  generalize invPow (F := Ideal) s1 = a1
  generalize invPow (F := Ideal) s0 = a0
  pointwise [k0_pay2]
  rw [odd_word j.val (by omega)]
  by_cases h : j.val % 2 = 1
  · rw [if_pos h, if_pos h]; rfl
  · rw [if_neg h, if_neg h]; rfl

theorem scaleRow_apply (q0 q1 k0 k1 : Ideal .f32) (j : Fin 8) (l : Fin 128) :
    scaleRow (F := Ideal) q0 q1 k0 k1 (ix3 (n0 := 1) 0 j l) =
      (if l.val % 2 = 1 then (q1 : EReal) * k1 else (q0 : EReal) * k0) * Ideal.ofBits .f32 1035273459#32 * (((Real.log 2)⁻¹ : ℝ) : EReal) := by
  pointwise [scaleRow, k0_pay3]
  rw [odd_word l.val (by omega)]
  by_cases h : l.val % 2 = 1
  · rw [if_pos h, if_pos h]; rfl
  · rw [if_neg h, if_neg h]; rfl

/-- The greatest entry of the rows of one parity, or zero. -/
theorem headMax_le (par : ℕ) (hp : par < 2) (x : Vec Ideal S1x16x128 .bf16) (z : EReal) :
    headMax (F := Ideal) (BitVec.ofNat 1 par) x ≤ z ↔ 0 ≤ z ∧ ∀ (j : Fin 16) (l : Fin 128), j.val % 2 = par → x (ix3 (n0 := 1) (n1 := 16) (n2 := 128) 0 j l) ≤ z := by
  pointwise [headMax, k0_pay2]
  rw [neg_inf, Finset.fold_max_le]
  have key : ∀ p : Fin 16 × Fin 128, (Scalar.select
          (IntOp.xori (IntOp.xori (IntOp.cmpi CmpIPredicate.eq (IntOp.andi (BitVec.ofNat 32 p.1.val) 1#32) 1#32) (BitVec.ofNat 1 par)) 1#1)
          (x (ix3 (n0 := 1) (n1 := 16) (n2 := 128) 0 p.1 p.2) : EReal) 0) = if p.1.val % 2 = par then (x (ix3 (n0 := 1) (n1 := 16) (n2 := 128) 0 p.1 p.2) : EReal) else 0 := by
    intro p
    rw [odd_word p.1.val (by omega)]
    have hp' : par = 0 ∨ par = 1 := by omega
    have hj : p.1.val % 2 = 0 ∨ p.1.val % 2 = 1 := by omega
    rcases hp' with rfl | rfl <;> rcases hj with hj | hj <;> rw [hj] <;> rfl
  simp only [key]
  constructor
  · rintro ⟨-, H⟩
    constructor
    · have := H (⟨1 - par, by omega⟩, 0) (Finset.mem_univ _)
      rw [if_neg (by show ¬(1 - par) % 2 = par; omega)] at this
      exact this
    · intro j l hj
      have := H (j, l) (Finset.mem_univ _)
      rw [if_pos hj] at this
      exact this
  · rintro ⟨h0, H⟩
    refine ⟨bot_le, fun p _ => ?_⟩
    split_ifs with h
    · exact H p.1 p.2 h
    · exact h0

end Cert.Group

end
-- ==== Proof.Loads.lean ====
/-
  What the body reads at a grid point, over the contents its buffers hold.
-/
module

public import proofs.«01_k».proof.Proof.Block
public import Idealize.ShloMosaic.Lib.Tactic

@[expose] public section

set_option maxRecDepth 16384

noncomputable section

namespace Cert.KernelIdeal.Block

open Idealize.ShloMosaic Idealize.ShloMosaic.TcCoe Idealize.ShloMosaic.Tactic Cert.KernelIdeal Cert.KernelIdeal.Gen

variable {F : FTy → Type} [FloatOps F] [Named F]

/-- A slice of a block. -/
abbrev slice {arg : Memref sig .tc .vmem S1x32x96x128 .bf16} (harg : arg.IsWhole) (x : Vec F S1x32x96x128 .bf16)
    (w j : ℕ) (hw : w < 24) (hj : j < 2) : Vec F S1x32x2x128 .bf16 :=
  View.readAt (Elt F) arg.view (rect w j hw hj).toLoadRect (harg.unread x)

/-- A row of a table. -/
abbrev row {arg : Memref sig .tc .vmem S12x16x128 .bf16} (harg : arg.IsWhole) (x : Vec F S12x16x128 .bf16)
    (h : ℕ) (hh : h < 12) : Vec F S1x16x128 .bf16 :=
  View.readAt (Elt F) arg.view (trect h hh).toLoadRect (harg.unread x)

/-- A row of the table of score factors. -/
abbrev row8 {arg : Memref sig .tc .vmem S12x8x128 .f32} (harg : arg.IsWhole) (x : Vec F S12x8x128 .f32)
    (h : ℕ) (hh : h < 12) : Vec F S1x8x128 .f32 :=
  View.readAt (Elt F) arg.view (trect8 h hh).toLoadRect (harg.unread x)

/-- A row of a table being filled, read back from its pieces. -/
abbrev rowCov (arg : Memref sig .tc .vmem S12x16x128 .bf16) (l : List (View.Piece (Elt F) S12x16x128 .bf16))
    (h : ℕ) (hh : h < 12) : Vec F S1x16x128 .bf16 :=
  arg.view.readCov l (trect h hh).toLoadRect

/-- A row of the table of score factors being filled, read back from its pieces. -/
abbrev rowCov8 (arg : Memref sig .tc .vmem S12x8x128 .f32) (l : List (View.Piece (Elt F) S12x8x128 .f32))
    (h : ℕ) (hh : h < 12) : Vec F S1x8x128 .f32 :=
  arg.view.readCov l (trect8 h hh).toLoadRect

/-- The word of a head's scale at a point. -/
def soff (i : grid0.Coords) (h : ℕ) : Fin 2 → ℕ := ![(Scalar.indexCast (BitVec.ofNat 32 (i 0).val)).toNat, h]

theorem soff_inb (i : grid0.Coords) (h : ℕ) (hh : h < 24) : ∀ a, soff i h a + S1x1.size a ≤ S3x24.size a := by
  have hlt := (i 0).isLt
  have e : (Scalar.indexCast (BitVec.ofNat 32 (i 0).val)).toNat = (i 0).val := by
    revert hlt; generalize (i 0).val = n; intro hlt
    have : n = 0 ∨ n = 1 ∨ n = 2 := by have : n < 3 := hlt; omega
    rcases this with rfl | rfl | rfl <;> decide
  intro a
  match a with
  | ⟨0, _⟩ => show (Scalar.indexCast (BitVec.ofNat 32 (i 0).val)).toNat + 1 ≤ 3; have : (i 0).val < 3 := hlt; omega
  | ⟨1, _⟩ => show h + 1 ≤ 24; omega

/-- A head's scale at a point. -/
abbrev scale {arg : Memref sig .tc .smem S3x24 .f32} (harg : arg.IsWhole) (x : Vec F S3x24 .f32) (i : grid0.Coords) (h : ℕ) (hh : h < 24) : F .f32 :=
  View.readAt (Elt F) arg.view (Rect.unit (s := S3x24) (soff i h) S1x1.size (soff_inb i h hh)).toLoadRect (harg.unread x) (Shape.Idx.first (show 0 < S1x1.numel by decide))

/-- The rows of reciprocal scales. -/
abbrev invRows {arg : Memref sig .tc .smem S3x24 .f32} (harg : arg.IsWhole) (x : Vec F S3x24 .f32) (i : grid0.Coords) (h : ℕ) (hh : h < 12) : FVec F S1x16x128 .bf16 :=
  invRow (scale harg x i (2 * h) (by omega)) (scale harg x i (2 * h + 1) (by omega))

/-- The rows of score factors. -/
abbrev scaleRows {arg arg' : Memref sig .tc .smem S3x24 .f32} (harg : arg.IsWhole) (harg' : arg'.IsWhole) (x x' : Vec F S3x24 .f32) (i : grid0.Coords) (h : ℕ) (hh : h < 12) : FVec F S1x8x128 .f32 :=
  scaleRow (scale harg x i (2 * h) (by omega)) (scale harg x i (2 * h + 1) (by omega)) (scale harg' x' i (2 * h) (by omega)) (scale harg' x' i (2 * h + 1) (by omega))

end Cert.KernelIdeal.Block

end
-- ==== Proof.Tables.lean ====
/-
  What a buffer reads after the pieces a grid point writes to it: the tables row by row, the output and the codes element
  by element, each the value of the one piece that holds the element.
-/
module

public import proofs.«01_k».proof.Proof.Loads
public import Idealize.ShloMosaic.Lib.Pointwise.Index
public import Idealize.ShloMosaic.Lib.Pipeline.ReadBack
public import Idealize.ShloMosaic.Lib.WholeRead

@[expose] public section

set_option maxRecDepth 16384

noncomputable section

namespace Cert.KernelIdeal.Block

open Idealize.ShloMosaic Idealize.ShloMosaic.TcCoe Cert.KernelIdeal Cert.KernelIdeal.Gen

variable {F : FTy → Type} [FloatOps F] [Named F]

/-! ## What is read of a block or a table that holds known contents -/

/-- A slice of a block. -/
def sliceOf (x : Vec F S1x32x96x128 .bf16) (w i : ℕ) (hw : w < 24) (hi : i < 2) : Vec F S1x32x2x128 .bf16 :=
  fun z => x ((rect w i hw hi).toLoadRect.idx z)

/-- A row of a table. -/
def rowOf (x : Vec F S12x16x128 .bf16) (h : ℕ) (hh : h < 12) : Vec F S1x16x128 .bf16 :=
  fun z => x ((trect h hh).toLoadRect.idx z)

/-- A row of the table of score factors. -/
def rowOf8 (x : Vec F S12x8x128 .f32) (h : ℕ) (hh : h < 12) : Vec F S1x8x128 .f32 :=
  fun z => x ((trect8 h hh).toLoadRect.idx z)

theorem lt12 (y : S12x16x128.Idx) : (y 0).val < 12 := (y 0).isLt
theorem lt128 (y : S12x8x128.Idx) : (y 0).val < 12 := (y 0).isLt

/-- The table of given rows. -/
def tabOf (x : (h : ℕ) → h < 12 → Vec F S1x16x128 .bf16) : Vec F S12x16x128 .bf16 :=
  fun y => x (y 0).val (lt12 y) (ix3 (n0 := 1) (n1 := 16) (n2 := 128) 0 (y 1) (y 2))

/-- The table of score factors of given rows. -/
def tabOf8 (x : (h : ℕ) → h < 12 → Vec F S1x8x128 .f32) : Vec F S12x8x128 .f32 :=
  fun y => x (y 0).val (lt128 y) (ix3 (n0 := 1) (n1 := 8) (n2 := 128) 0 (y 1) (y 2))

theorem trect_idx0 (h : ℕ) (hh : h < 12) (z : S1x16x128.Idx) : ((trect h hh).toLoadRect.idx z 0).val = h := by
  show h + 1 * (z 0).val = h
  have : (z 0).val < 1 := (z 0).isLt
  omega

theorem trect8_idx0 (h : ℕ) (hh : h < 12) (z : S1x8x128.Idx) : ((trect8 h hh).toLoadRect.idx z 0).val = h := by
  show h + 1 * (z 0).val = h
  have : (z 0).val < 1 := (z 0).isLt
  omega

theorem trect_idx (h : ℕ) (hh : h < 12) (z : S1x16x128.Idx) :
    ix3 (n0 := 1) (n1 := 16) (n2 := 128) 0 ((trect h hh).toLoadRect.idx z 1) ((trect h hh).toLoadRect.idx z 2) = z := by
  funext a
  match a with
  | ⟨0, _⟩ => exact Fin.ext (by have h0 : (z 0).val < 1 := (z 0).isLt; show 0 = (z 0).val; omega)
  | ⟨1, _⟩ => exact Fin.ext (by show 0 + 1 * (z 1).val = (z 1).val; omega)
  | ⟨2, _⟩ => exact Fin.ext (by show 0 + 1 * (z 2).val = (z 2).val; omega)

theorem trect8_idx (h : ℕ) (hh : h < 12) (z : S1x8x128.Idx) :
    ix3 (n0 := 1) (n1 := 8) (n2 := 128) 0 ((trect8 h hh).toLoadRect.idx z 1) ((trect8 h hh).toLoadRect.idx z 2) = z := by
  funext a
  match a with
  | ⟨0, _⟩ => exact Fin.ext (by have h0 : (z 0).val < 1 := (z 0).isLt; show 0 = (z 0).val; omega)
  | ⟨1, _⟩ => exact Fin.ext (by show 0 + 1 * (z 1).val = (z 1).val; omega)
  | ⟨2, _⟩ => exact Fin.ext (by show 0 + 1 * (z 2).val = (z 2).val; omega)

theorem rowOf_tabOf (x : (h : ℕ) → h < 12 → Vec F S1x16x128 .bf16) : rowOf (tabOf x) = x := by
  funext h hh z
  have e0 := trect_idx0 h hh z
  have e1 := trect_idx h hh z
  unfold rowOf tabOf
  rw [e1]
  congr 1

theorem rowOf8_tabOf8 (x : (h : ℕ) → h < 12 → Vec F S1x8x128 .f32) : rowOf8 (tabOf8 x) = x := by
  funext h hh z
  have e0 := trect8_idx0 h hh z
  have e1 := trect8_idx h hh z
  unfold rowOf8 tabOf8
  rw [e1]
  congr 1

theorem slice_eq {arg : Memref sig .tc .vmem S1x32x96x128 .bf16} (harg : arg.IsWhole) (x : Vec F S1x32x96x128 .bf16) :
    slice harg x = sliceOf x := by
  funext w i hw hi z; exact Memref.IsWhole.readAt_unread harg x (rect w i hw hi).toLoadRect z

theorem row_eq {arg : Memref sig .tc .vmem S12x16x128 .bf16} (harg : arg.IsWhole) (x : Vec F S12x16x128 .bf16) :
    row harg x = rowOf x := by
  funext h hh z; exact Memref.IsWhole.readAt_unread harg x (trect h hh).toLoadRect z

theorem row8_eq {arg : Memref sig .tc .vmem S12x8x128 .f32} (harg : arg.IsWhole) (x : Vec F S12x8x128 .f32) :
    row8 harg x = rowOf8 x := by
  funext h hh z; exact Memref.IsWhole.readAt_unread harg x (trect8 h hh).toLoadRect z

/-- A head's scale. -/
def scaleOf (x : Vec F S3x24 .f32) (i : grid0.Coords) (h : ℕ) (hh : h < 24) : F .f32 :=
  x ((Rect.unit (s := S3x24) (soff i h) S1x1.size (soff_inb i h hh)).toLoadRect.idx (Shape.Idx.first (show 0 < S1x1.numel by decide)))

/-- The rows of reciprocal scales. -/
def invOf (x : Vec F S3x24 .f32) (i : grid0.Coords) (h : ℕ) (hh : h < 12) : Vec F S1x16x128 .bf16 :=
  invRow (scaleOf x i (2 * h) (by omega)) (scaleOf x i (2 * h + 1) (by omega))

/-- The rows of score factors. -/
def facOf (x x' : Vec F S3x24 .f32) (i : grid0.Coords) (h : ℕ) (hh : h < 12) : Vec F S1x8x128 .f32 :=
  scaleRow (scaleOf x i (2 * h) (by omega)) (scaleOf x i (2 * h + 1) (by omega)) (scaleOf x' i (2 * h) (by omega)) (scaleOf x' i (2 * h + 1) (by omega))

theorem scale_eq {arg : Memref sig .tc .smem S3x24 .f32} (harg : arg.IsWhole) (x : Vec F S3x24 .f32) (i : grid0.Coords) (h : ℕ) (hh : h < 24) :
    scale harg x i h hh = scaleOf x i h hh := Memref.IsWhole.readAt_unread harg x _ _

theorem invRows_eq {arg : Memref sig .tc .smem S3x24 .f32} (harg : arg.IsWhole) (x : Vec F S3x24 .f32) (i : grid0.Coords) :
    (invRows harg x i : (h : ℕ) → h < 12 → Vec F S1x16x128 .bf16) = invOf x i := by
  funext h hh; unfold invOf; rw [← scale_eq harg, ← scale_eq harg]

theorem scaleRows_eq {arg arg' : Memref sig .tc .smem S3x24 .f32} (harg : arg.IsWhole) (harg' : arg'.IsWhole) (x x' : Vec F S3x24 .f32) (i : grid0.Coords) :
    (scaleRows harg harg' x x' i : (h : ℕ) → h < 12 → Vec F S1x8x128 .f32) = facOf x x' i := by
  funext h hh; unfold facOf; rw [← scale_eq harg, ← scale_eq harg, ← scale_eq harg', ← scale_eq harg']

/-! ## The tables after their pieces -/

section Read

variable {σ : RefSig} {κκ : Kind} {sp : Space}

theorem trect_disjoint (h h' : ℕ) (hh : h < 12) (hh' : h' < 12) (hne : h ≠ h') : Disjoint (trect h hh).set (trect h' hh').toLoadRect.set :=
  Rect.disjoint_of_axis (trect h hh) (trect h' hh') 0 (by
    intro j₁ hj₁ j₂ hj₂
    have h1 : j₁ < 1 := hj₁
    have h2 : j₂ < 1 := hj₂
    show h + 1 * j₁ ≠ h' + 1 * j₂
    omega)

theorem trect8_disjoint (h h' : ℕ) (hh : h < 12) (hh' : h' < 12) (hne : h ≠ h') : Disjoint (trect8 h hh).set (trect8 h' hh').toLoadRect.set :=
  Rect.disjoint_of_axis (trect8 h hh) (trect8 h' hh') 0 (by
    intro j₁ hj₁ j₂ hj₂
    have h1 : j₁ < 1 := hj₁
    have h2 : j₂ < 1 := hj₂
    show h + 1 * j₁ ≠ h' + 1 * j₂
    omega)

/-- An element of a table, read after a row's piece that holds it. -/
theorem read_row_hit (v : View σ κκ sp S12x16x128 .bf16) (f : v.ty.Contents (Elt F)) (h : ℕ) (hh : h < 12) (w : Vec F S1x16x128 .bf16)
    (L : List (View.Piece (Elt F) S12x16x128 .bf16)) (y : S12x16x128.Idx) (hy : (y 0).val = h) :
    v.read (Elt F) (v.writes (Elt F) f (⟨trect h hh, w⟩ :: L)) y = w (ix3 (n0 := 1) (n1 := 16) (n2 := 128) 0 (y 1) (y 2)) :=
  View.read_writes_cons_hit_of_coords v f (trect h hh) w L _ y (by
    intro a
    match a with
    | ⟨0, _⟩ => show (y 0).val = h + 1 * 0; omega
    | ⟨1, _⟩ => show (y 1).val = 0 + 1 * (y 1).val; omega
    | ⟨2, _⟩ => show (y 2).val = 0 + 1 * (y 2).val; omega)

theorem read_row_miss (v : View σ κκ sp S12x16x128 .bf16) (f : v.ty.Contents (Elt F)) (h : ℕ) (hh : h < 12) (w : Vec F S1x16x128 .bf16)
    (L : List (View.Piece (Elt F) S12x16x128 .bf16)) (y : S12x16x128.Idx) (hy : (y 0).val ≠ h) :
    v.read (Elt F) (v.writes (Elt F) f (⟨trect h hh, w⟩ :: L)) y = v.read (Elt F) (v.writes (Elt F) f L) y :=
  View.read_writes_cons_miss_of_axis v f _ L y 0 h 1 rfl rfl rfl (by omega)

theorem read_row8_hit (v : View σ κκ sp S12x8x128 .f32) (f : v.ty.Contents (Elt F)) (h : ℕ) (hh : h < 12) (w : Vec F S1x8x128 .f32)
    (L : List (View.Piece (Elt F) S12x8x128 .f32)) (y : S12x8x128.Idx) (hy : (y 0).val = h) :
    v.read (Elt F) (v.writes (Elt F) f (⟨trect8 h hh, w⟩ :: L)) y = w (ix3 (n0 := 1) (n1 := 8) (n2 := 128) 0 (y 1) (y 2)) :=
  View.read_writes_cons_hit_of_coords v f (trect8 h hh) w L _ y (by
    intro a
    match a with
    | ⟨0, _⟩ => show (y 0).val = h + 1 * 0; omega
    | ⟨1, _⟩ => show (y 1).val = 0 + 1 * (y 1).val; omega
    | ⟨2, _⟩ => show (y 2).val = 0 + 1 * (y 2).val; omega)

theorem read_row8_miss (v : View σ κκ sp S12x8x128 .f32) (f : v.ty.Contents (Elt F)) (h : ℕ) (hh : h < 12) (w : Vec F S1x8x128 .f32)
    (L : List (View.Piece (Elt F) S12x8x128 .f32)) (y : S12x8x128.Idx) (hy : (y 0).val ≠ h) :
    v.read (Elt F) (v.writes (Elt F) f (⟨trect8 h hh, w⟩ :: L)) y = v.read (Elt F) (v.writes (Elt F) f L) y :=
  View.read_writes_cons_miss_of_axis v f _ L y 0 h 1 rfl rfl rfl (by omega)

theorem read_rowPieces (v : View σ κκ sp S12x16x128 .bf16) (f : v.ty.Contents (Elt F)) (x : (h : ℕ) → h < 12 → Vec F S1x16x128 .bf16)
    (y : S12x16x128.Idx) : ∀ (n : ℕ) (hn : n ≤ 12), (y 0).val < n → v.read (Elt F) (v.writes (Elt F) f (rowPieces x n hn)) y = tabOf x y
  | 0, _, h => absurd h (Nat.not_lt_zero _)
  | n + 1, hn, h => by
    unfold rowPieces
    by_cases e : (y 0).val = n
    · rw [read_row_hit v f n _ _ _ y e]; subst e; rfl
    · rw [read_row_miss v f n _ _ _ y e]; exact read_rowPieces v f x y n _ (by omega)

theorem read_rowPieces8 (v : View σ κκ sp S12x8x128 .f32) (f : v.ty.Contents (Elt F)) (x : (h : ℕ) → h < 12 → Vec F S1x8x128 .f32)
    (y : S12x8x128.Idx) : ∀ (n : ℕ) (hn : n ≤ 12), (y 0).val < n → v.read (Elt F) (v.writes (Elt F) f (rowPieces8 x n hn)) y = tabOf8 x y
  | 0, _, h => absurd h (Nat.not_lt_zero _)
  | n + 1, hn, h => by
    unfold rowPieces8
    by_cases e : (y 0).val = n
    · rw [read_row8_hit v f n _ _ _ y e]; subst e; rfl
    · rw [read_row8_miss v f n _ _ _ y e]; exact read_rowPieces8 v f x y n _ (by omega)

theorem rowCov_rowPieces (arg : Memref sig .tc .vmem S12x16x128 .bf16) (x : (h : ℕ) → h < 12 → Vec F S1x16x128 .bf16) :
    rowCov arg (rowPieces x 12 (le_refl _)) = x := by
  funext h hh z
  exact (read_rowPieces arg.view _ _ _ 12 (le_refl _) (lt12 _)).trans (congrFun (congrFun (congrFun (rowOf_tabOf x) h) hh) z)

theorem rowCov8_rowPieces (arg : Memref sig .tc .vmem S12x8x128 .f32) (x : (h : ℕ) → h < 12 → Vec F S1x8x128 .f32) :
    rowCov8 arg (rowPieces8 x 12 (le_refl _)) = x := by
  funext h hh z
  exact (read_rowPieces8 arg.view _ _ _ 12 (le_refl _) (lt128 _)).trans (congrFun (congrFun (congrFun (rowOf8_tabOf8 x) h) hh) z)

/-! ## The running maxima -/

variable (x : (w i : ℕ) → w < 24 → i < 2 → Vec F S1x32x2x128 .bf16)

theorem maxFrom_succ (old : (h : ℕ) → h < 12 → Vec F S1x16x128 .bf16) (off : ℕ) (hoff : off ≤ 12)
    (base : List (View.Piece (Elt F) S12x16x128 .bf16)) (n : ℕ) (hn : n + 1 ≤ 12) :
    maxFrom old x off hoff base (n + 1) hn = ⟨trect n hn, updMax (old n hn)
        (x (off + n) 0 (by omega) (by decide)) (x (off + n) 1 (by omega) (by decide))⟩ :: maxFrom old x off hoff base n (Nat.le_of_succ_le hn) := rfl

set_option maxHeartbeats 2000000 in
theorem maxFrom_cov (v : View σ κκ sp S12x16x128 .bf16) (old : (h : ℕ) → h < 12 → Vec F S1x16x128 .bf16) (off : ℕ) (hoff : off ≤ 12)
    (base : List (View.Piece (Elt F) S12x16x128 .bf16)) (h : ℕ) (hh : h < 12) : ∀ (n : ℕ) (hn : n ≤ 12), h < n →
    v.readCov (maxFrom old x off hoff base n hn) (trect h hh).toLoadRect
      = updMax (old h hh) (x (off + h) 0 (by omega) (by decide)) (x (off + h) 1 (by omega) (by decide))
  | 0, _, h => absurd h (Nat.not_lt_zero _)
  | n + 1, hn, hlt => by
    rw [maxFrom_succ]
    by_cases e : h = n
    · subst e; exact View.readCov_cons_toLoadRect v (trect h hh) _ _
    · rw [View.readCov_cons_of_disjoint v _ _ _ (trect_disjoint n h hn hh (Ne.symm e))]
      exact maxFrom_cov v old off hoff base h hh n _ (by omega)

theorem maxOver_succ (v : View σ κκ sp S12x16x128 .bf16) (off : ℕ) (hoff : off ≤ 12)
    (base : List (View.Piece (Elt F) S12x16x128 .bf16)) (n : ℕ) (hn : n + 1 ≤ 12) :
    maxOver v x off hoff base (n + 1) hn = ⟨trect n hn, updMax (v.readCov (maxOver v x off hoff base n (Nat.le_of_succ_le hn)) (trect n hn).toLoadRect)
        (x (off + n) 0 (by omega) (by decide)) (x (off + n) 1 (by omega) (by decide))⟩ :: maxOver v x off hoff base n (Nat.le_of_succ_le hn) := rfl

set_option maxHeartbeats 2000000 in
theorem maxOver_cov (v : View σ κκ sp S12x16x128 .bf16) (off : ℕ) (hoff : off ≤ 12)
    (base : List (View.Piece (Elt F) S12x16x128 .bf16)) (h : ℕ) (hh : h < 12) : ∀ (n : ℕ) (hn : n ≤ 12),
    v.readCov (maxOver v x off hoff base n hn) (trect h hh).toLoadRect
      = if h < n then updMax (v.readCov base (trect h hh).toLoadRect) (x (off + h) 0 (by omega) (by decide)) (x (off + h) 1 (by omega) (by decide))
        else v.readCov base (trect h hh).toLoadRect
  | 0, _ => by rw [if_neg (Nat.not_lt_zero _)]; rfl
  | n + 1, hn => by
    rw [maxOver_succ]
    have ih := maxOver_cov v off hoff base h hh n (Nat.le_of_succ_le hn)
    by_cases e : h = n
    · subst e
      rw [if_pos (Nat.lt_succ_self _)]
      rw [if_neg (lt_irrefl _)] at ih
      refine (View.readCov_cons_toLoadRect v (trect h hh) _ _).trans ?_
      rw [ih]
    · rw [View.readCov_cons_of_disjoint v _ _ _ (trect_disjoint n h hn hh (Ne.symm e)), ih]
      by_cases hl : h < n
      · rw [if_pos hl, if_pos (by omega)]
      · rw [if_neg hl, if_neg (by omega)]

/-- An element of the table of maxima, read after a pixel pair's pieces. -/
theorem read_maxOver (v : View σ κκ sp S12x16x128 .bf16) (f : v.ty.Contents (Elt F)) (off : ℕ) (hoff : off ≤ 12)
    (base : List (View.Piece (Elt F) S12x16x128 .bf16)) (y : S12x16x128.Idx) : ∀ (n : ℕ) (hn : n ≤ 12), (y 0).val < n →
    v.read (Elt F) (v.writes (Elt F) f (maxOver v x off hoff base n hn)) y
      = updMax (v.readCov base (trect (y 0).val (lt12 y)).toLoadRect) (x (off + (y 0).val) 0 (by have := lt12 y; omega) (by decide))
          (x (off + (y 0).val) 1 (by have := lt12 y; omega) (by decide)) (ix3 (n0 := 1) (n1 := 16) (n2 := 128) 0 (y 1) (y 2))
  | 0, _, h => absurd h (Nat.not_lt_zero _)
  | n + 1, hn, hlt => by
    rw [maxOver_succ]
    by_cases e : (y 0).val = n
    · rw [read_row_hit v f n _ _ _ y e]
      subst e
      rw [maxOver_cov x v off hoff base _ _ _ _, if_neg (lt_irrefl _)]
    · rw [read_row_miss v f n _ _ _ y e]; exact read_maxOver v f off hoff base y n _ (by omega)

/-- The running maxima after a point: each pair of heads' row over both pixel pairs' groups. -/
def stepMax (old : (h : ℕ) → h < 12 → Vec F S1x16x128 .bf16) (h : ℕ) (hh : h < 12) : Vec F S1x16x128 .bf16 :=
  updMax (updMax (old h hh) (x (0 + h) 0 (by omega) (by decide)) (x (0 + h) 1 (by omega) (by decide)))
    (x (12 + h) 0 (by omega) (by decide)) (x (12 + h) 1 (by omega) (by decide))

theorem read_max (v : View σ κκ sp S12x16x128 .bf16) (f : v.ty.Contents (Elt F)) (old : (h : ℕ) → h < 12 → Vec F S1x16x128 .bf16) :
    v.read (Elt F) (v.writes (Elt F) f (maxOver v x 12 (le_refl _) (maxFrom old x 0 (by decide) [] 12 (le_refl _)) 12 (le_refl _)))
      = tabOf (stepMax x old) := by
  funext y
  rw [read_maxOver x v f 12 _ _ y 12 (le_refl _) (lt12 y), maxFrom_cov x v old 0 _ [] (y 0).val (lt12 y) 12 (le_refl _) (lt12 y)]
  rfl

theorem cov_max (arg : Memref sig .tc .vmem S12x16x128 .bf16) (old : (h : ℕ) → h < 12 → Vec F S1x16x128 .bf16) :
    rowCov arg (maxOver arg.view x 12 (le_refl _) (maxFrom old x 0 (by decide) [] 12 (le_refl _)) 12 (le_refl _)) = stepMax x old := by
  funext h hh
  refine (maxOver_cov x arg.view 12 _ _ h hh 12 (le_refl _)).trans ?_
  rw [if_pos hh, maxFrom_cov x arg.view old 0 _ [] h hh 12 (le_refl _) hh]
  rfl

theorem read_max0 (v : View σ κκ sp S12x16x128 .bf16) (f : v.ty.Contents (Elt F)) (Z : Vec F S12x16x128 .bf16) :
    v.read (Elt F) (v.writes (Elt F) f (maxOver v x 12 (le_refl _)
        (maxOver v x 0 (by decide) [⟨Rect.unit ![0, 0, 0] S12x16x128.size inb_S12x16x128_S12x16x128_0_0_0, Z⟩] 12 (le_refl _)) 12 (le_refl _)))
      = tabOf (stepMax x (rowOf Z)) := by
  funext y
  rw [read_maxOver x v f 12 _ _ y 12 (le_refl _) (lt12 y), maxOver_cov x v 0 _ _ (y 0).val (lt12 y) 12 (le_refl _), if_pos (lt12 y)]
  rw [View.readCov_fill v inb_S12x16x128_S12x16x128_0_0_0 Z [] (trect (y 0).val (lt12 y)) (by intro a; match a with | ⟨0, _⟩ => rfl | ⟨1, _⟩ => rfl | ⟨2, _⟩ => rfl)]
  rfl

/-! ## The output and the codes -/

/-- The output block of a point. -/
def outBlk (L : Loads F) : Vec F S1x32x96x128 .bf16 := fun y =>
  have hy : (y 2).val < 96 := (y 2).isLt
  (if (y 2).val / 48 = 0 then out0 (L.o ((y 2).val % 48 / 2) (by omega)) else out1 (L.o ((y 2).val % 48 / 2) (by omega)))
    (ix4 (n0 := 1) (n1 := 32) (n2 := 2) (n3 := 128) 0 (y 1) ⟨(y 2).val % 2, by omega⟩ (y 3))

/-- A block of codes of a point. -/
def codeBlk (x : (w : ℕ) → w < 24 → FVec F S128x128 .fp8e4m3) : Vec F S1x32x96x128 .fp8e4m3 := fun y =>
  have hy : (y 2).val < 96 := (y 2).isLt
  (if (y 2).val / 48 = 0 then code0 (pairCodes (x (2 * ((y 2).val % 48 / 4)) (by omega)) (x (2 * ((y 2).val % 48 / 4) + 1) (by omega)))
    else code1 (pairCodes (x (2 * ((y 2).val % 48 / 4)) (by omega)) (x (2 * ((y 2).val % 48 / 4) + 1) (by omega))))
    (ix4 (n0 := 1) (n1 := 32) (n2 := 4) (n3 := 128) 0 (y 1) ⟨(y 2).val % 4, by omega⟩ (y 3))

theorem read_rect_hit (v : View σ κκ sp S1x32x96x128 .bf16) (f : v.ty.Contents (Elt F)) (w i : ℕ) (hw : w < 24) (hi : i < 2) (d : Vec F S1x32x2x128 .bf16)
    (L : List (View.Piece (Elt F) S1x32x96x128 .bf16)) (y : S1x32x96x128.Idx) (u : Fin 2) (hy : (y 2).val = 2 * w + 48 * i + u.val) :
    v.read (Elt F) (v.writes (Elt F) f (⟨rect w i hw hi, d⟩ :: L)) y = d (ix4 (n0 := 1) (n1 := 32) (n2 := 2) (n3 := 128) 0 (y 1) u (y 3)) :=
  View.read_writes_cons_hit_of_coords v f (rect w i hw hi) d L _ y (by
    intro a
    match a with
    | ⟨0, _⟩ => have : (y 0).val < 1 := (y 0).isLt; show (y 0).val = 0 + 1 * 0; omega
    | ⟨1, _⟩ => show (y 1).val = 0 + 1 * (y 1).val; omega
    | ⟨2, _⟩ => show (y 2).val = (2 * w + 48 * i) + 1 * u.val; omega
    | ⟨3, _⟩ => show (y 3).val = 0 + 1 * (y 3).val; omega)

theorem read_rect_miss (v : View σ κκ sp S1x32x96x128 .bf16) (f : v.ty.Contents (Elt F)) (w i : ℕ) (hw : w < 24) (hi : i < 2) (d : Vec F S1x32x2x128 .bf16)
    (L : List (View.Piece (Elt F) S1x32x96x128 .bf16)) (y : S1x32x96x128.Idx) (hy : (y 2).val < 2 * w + 48 * i ∨ 2 * w + 48 * i + 2 ≤ (y 2).val) :
    v.read (Elt F) (v.writes (Elt F) f (⟨rect w i hw hi, d⟩ :: L)) y = v.read (Elt F) (v.writes (Elt F) f L) y :=
  View.read_writes_cons_miss_of_axis v f _ L y 2 (2 * w + 48 * i) 2 rfl rfl rfl hy

theorem read_crect_hit (v : View σ κκ sp S1x32x96x128 .fp8e4m3) (f : v.ty.Contents (Elt F)) (p i : ℕ) (hp : p < 12) (hi : i < 2) (d : Vec F S1x32x4x128 .fp8e4m3)
    (L : List (View.Piece (Elt F) S1x32x96x128 .fp8e4m3)) (y : S1x32x96x128.Idx) (u : Fin 4) (hy : (y 2).val = 4 * p + 48 * i + u.val) :
    v.read (Elt F) (v.writes (Elt F) f (⟨crect p i hp hi, d⟩ :: L)) y = d (ix4 (n0 := 1) (n1 := 32) (n2 := 4) (n3 := 128) 0 (y 1) u (y 3)) :=
  View.read_writes_cons_hit_of_coords v f (crect p i hp hi) d L _ y (by
    intro a
    match a with
    | ⟨0, _⟩ => have : (y 0).val < 1 := (y 0).isLt; show (y 0).val = 0 + 1 * 0; omega
    | ⟨1, _⟩ => show (y 1).val = 0 + 1 * (y 1).val; omega
    | ⟨2, _⟩ => show (y 2).val = (4 * p + 48 * i) + 1 * u.val; omega
    | ⟨3, _⟩ => show (y 3).val = 0 + 1 * (y 3).val; omega)

theorem read_crect_miss (v : View σ κκ sp S1x32x96x128 .fp8e4m3) (f : v.ty.Contents (Elt F)) (p i : ℕ) (hp : p < 12) (hi : i < 2) (d : Vec F S1x32x4x128 .fp8e4m3)
    (L : List (View.Piece (Elt F) S1x32x96x128 .fp8e4m3)) (y : S1x32x96x128.Idx) (hy : (y 2).val < 4 * p + 48 * i ∨ 4 * p + 48 * i + 4 ≤ (y 2).val) :
    v.read (Elt F) (v.writes (Elt F) f (⟨crect p i hp hi, d⟩ :: L)) y = v.read (Elt F) (v.writes (Elt F) f L) y :=
  View.read_writes_cons_miss_of_axis v f _ L y 2 (4 * p + 48 * i) 4 rfl rfl rfl hy

theorem outBlk_at0 (L : Loads F) (y : S1x32x96x128.Idx) (w : ℕ) (hw : w < 24) (h48 : (y 2).val / 48 = 0) (hm : (y 2).val % 48 / 2 = w) :
    outBlk L y = out0 (L.o w hw) (ix4 (n0 := 1) (n1 := 32) (n2 := 2) (n3 := 128) 0 (y 1) ⟨(y 2).val % 2, by omega⟩ (y 3)) := by
  subst hm; unfold outBlk; rw [if_pos h48]

theorem outBlk_at1 (L : Loads F) (y : S1x32x96x128.Idx) (w : ℕ) (hw : w < 24) (h48 : (y 2).val / 48 ≠ 0) (hm : (y 2).val % 48 / 2 = w) :
    outBlk L y = out1 (L.o w hw) (ix4 (n0 := 1) (n1 := 32) (n2 := 2) (n3 := 128) 0 (y 1) ⟨(y 2).val % 2, by omega⟩ (y 3)) := by
  subst hm; unfold outBlk; rw [if_neg h48]

theorem codeBlk_at0 (x : (w : ℕ) → w < 24 → FVec F S128x128 .fp8e4m3) (y : S1x32x96x128.Idx) (p : ℕ) (hp : p < 12) (h48 : (y 2).val / 48 = 0) (hm : (y 2).val % 48 / 4 = p) :
    codeBlk x y = code0 (pairCodes (x (2 * p) (by omega)) (x (2 * p + 1) (by omega))) (ix4 (n0 := 1) (n1 := 32) (n2 := 4) (n3 := 128) 0 (y 1) ⟨(y 2).val % 4, by omega⟩ (y 3)) := by
  subst hm; unfold codeBlk; rw [if_pos h48]

theorem codeBlk_at1 (x : (w : ℕ) → w < 24 → FVec F S128x128 .fp8e4m3) (y : S1x32x96x128.Idx) (p : ℕ) (hp : p < 12) (h48 : (y 2).val / 48 ≠ 0) (hm : (y 2).val % 48 / 4 = p) :
    codeBlk x y = code1 (pairCodes (x (2 * p) (by omega)) (x (2 * p + 1) (by omega))) (ix4 (n0 := 1) (n1 := 32) (n2 := 4) (n3 := 128) 0 (y 1) ⟨(y 2).val % 4, by omega⟩ (y 3)) := by
  subst hm; unfold codeBlk; rw [if_neg h48]

theorem read_outs (v : View σ κκ sp S1x32x96x128 .bf16) (f : v.ty.Contents (Elt F)) (L : Loads F) (y : S1x32x96x128.Idx) :
    ∀ (n : ℕ) (hn : n ≤ 24), (y 2).val % 48 / 2 < n → v.read (Elt F) (v.writes (Elt F) f (L.outs n hn)) y = outBlk L y
  | 0, _, h => absurd h (Nat.not_lt_zero _)
  | n + 1, hn, h => by
    have hy : (y 2).val < 96 := (y 2).isLt
    unfold Loads.outs
    by_cases e : (y 2).val % 48 / 2 = n
    · by_cases h48 : (y 2).val / 48 = 0
      · rw [read_rect_miss v f n 1 _ _ _ _ y (by omega), read_rect_hit v f n 0 _ _ _ _ y ⟨(y 2).val % 2, by omega⟩ (by show (y 2).val = 2 * n + 48 * 0 + (y 2).val % 2; omega),
          outBlk_at0 L y n hn h48 e]
      · rw [read_rect_hit v f n 1 _ _ _ _ y ⟨(y 2).val % 2, by omega⟩ (by show (y 2).val = 2 * n + 48 * 1 + (y 2).val % 2; omega), outBlk_at1 L y n hn h48 e]
    · rw [read_rect_miss v f n 1 _ _ _ _ y (by omega), read_rect_miss v f n 0 _ _ _ _ y (by omega)]
      exact read_outs v f L y n _ (by omega)

theorem read_codes (v : View σ κκ sp S1x32x96x128 .fp8e4m3) (f : v.ty.Contents (Elt F)) (x : (w : ℕ) → w < 24 → FVec F S128x128 .fp8e4m3) (y : S1x32x96x128.Idx) :
    ∀ (n : ℕ) (hn : n ≤ 12), (y 2).val % 48 / 4 < n → v.read (Elt F) (v.writes (Elt F) f (codePieces x n hn)) y = codeBlk x y
  | 0, _, h => absurd h (Nat.not_lt_zero _)
  | n + 1, hn, h => by
    have hy : (y 2).val < 96 := (y 2).isLt
    unfold codePieces
    by_cases e : (y 2).val % 48 / 4 = n
    · by_cases h48 : (y 2).val / 48 = 0
      · rw [read_crect_miss v f n 1 _ _ _ _ y (by omega), read_crect_hit v f n 0 _ _ _ _ y ⟨(y 2).val % 4, by omega⟩ (by show (y 2).val = 4 * n + 48 * 0 + (y 2).val % 4; omega),
          codeBlk_at0 x y n hn h48 e]
      · rw [read_crect_hit v f n 1 _ _ _ _ y ⟨(y 2).val % 4, by omega⟩ (by show (y 2).val = 4 * n + 48 * 1 + (y 2).val % 4; omega), codeBlk_at1 x y n hn h48 e]
    · rw [read_crect_miss v f n 1 _ _ _ _ y (by omega), read_crect_miss v f n 0 _ _ _ _ y (by omega)]
      exact read_codes v f x y n _ (by omega)

theorem read_outs_all (v : View σ κκ sp S1x32x96x128 .bf16) (f : v.ty.Contents (Elt F)) (L : Loads F) :
    v.read (Elt F) (v.writes (Elt F) f (L.outs 24 (le_refl _))) = outBlk L := by
  funext y; exact read_outs v f L y 24 _ (by have : (y 2).val < 96 := (y 2).isLt; omega)

theorem read_codes_all (v : View σ κκ sp S1x32x96x128 .fp8e4m3) (f : v.ty.Contents (Elt F)) (x : (w : ℕ) → w < 24 → FVec F S128x128 .fp8e4m3) :
    v.read (Elt F) (v.writes (Elt F) f (codePieces x 12 (le_refl _))) = codeBlk x := by
  funext y; exact read_codes v f x y 12 _ (by have : (y 2).val < 96 := (y 2).isLt; omega)

theorem read_tab_all (v : View σ κκ sp S12x16x128 .bf16) (f : v.ty.Contents (Elt F)) (x : (h : ℕ) → h < 12 → Vec F S1x16x128 .bf16) :
    v.read (Elt F) (v.writes (Elt F) f (rowPieces x 12 (le_refl _))) = tabOf x := by
  funext y; exact read_rowPieces v f x y 12 _ (lt12 y)

theorem read_tab8_all (v : View σ κκ sp S12x8x128 .f32) (f : v.ty.Contents (Elt F)) (x : (h : ℕ) → h < 12 → Vec F S1x8x128 .f32) :
    v.read (Elt F) (v.writes (Elt F) f (rowPieces8 x 12 (le_refl _))) = tabOf8 x := by
  funext y; exact read_rowPieces8 v f x y 12 _ (lt128 y)

end Read

end Cert.KernelIdeal.Block

end
-- ==== Proof.RunA.lean ====
/-
  The idealized kernel's body run at a batch entry's first point: it fills the tables and clears the maxima:
  the pieces each buffer ends with.
-/
module

public import proofs.«01_k».proof.Proof.Points

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 5116000 in
/-- The pieces the body leaves in each buffer (last first) at a batch entry's first point: it fills the tables and clears the maxima; with the proof that it leaves them. -/
noncomputable def kernelRun0_A (c : Dev nD) (i : grid0.Coords) (arg2 : Memref sig .tc .smem S3x24 .f32) (harg2 : arg2.IsWhole) (arg3 : Memref sig .tc .smem S3x24 .f32) (harg3 : arg3.IsWhole) (arg4 : Memref sig .tc .vmem S1x32x96x128 .bf16) (harg4 : arg4.IsWhole) (arg5 : Memref sig .tc .vmem S1x32x96x128 .bf16) (harg5 : arg5.IsWhole) (arg6 : Memref sig .tc .vmem S1x32x96x128 .bf16) (harg6 : arg6.IsWhole) (arg7 : Memref sig .tc .vmem S1x32x96x128 .bf16) (harg7 : arg7.IsWhole) (arg8 : Memref sig .tc .vmem S1x32x96x128 .fp8e4m3) (harg8 : arg8.IsWhole) (arg9 : Memref sig .tc .vmem S1x32x96x128 .fp8e4m3) (harg9 : arg9.IsWhole) (arg10 : Memref sig .tc .vmem S3x24 .f32) (harg10 : arg10.IsWhole) (arg11 : Memref sig .tc .vmem S3x24 .f32) (harg11 : arg11.IsWhole) (arg12 : Memref sig .tc .vmem S12x16x128 .bf16) (harg12 : arg12.IsWhole) (arg13 : Memref sig .tc .vmem S12x16x128 .bf16) (harg13 : arg13.IsWhole) (arg14 : Memref sig .tc .vmem S12x8x128 .f32) (harg14 : arg14.IsWhole) (arg15 : Memref sig .tc .vmem S12x16x128 .bf16) (harg15 : arg15.IsWhole) (arg16 : Memref sig .tc .vmem S12x16x128 .bf16) (harg16 : arg16.IsWhole) (hc0 : cond0_0 i) (hc1 : ¬cond0_1 i)
    (x0 : Vec F S3x24 .f32) (x1 : Vec F S3x24 .f32) (x2 : Vec F S1x32x96x128 .bf16) (x3 : Vec F S1x32x96x128 .bf16) (x4 : Vec F S1x32x96x128 .bf16) :
    Σ' (L5 : List (View.Piece (Elt F) S1x32x96x128 .bf16)), Σ' (L6 : List (View.Piece (Elt F) S1x32x96x128 .fp8e4m3)), Σ' (L7 : List (View.Piece (Elt F) S1x32x96x128 .fp8e4m3)), Σ' (L8 : List (View.Piece (Elt F) S3x24 .f32)), Σ' (L9 : List (View.Piece (Elt F) S3x24 .f32)), Σ' (LS0 : List (View.Piece (Elt F) S12x16x128 .bf16)), Σ' (LS1 : List (View.Piece (Elt F) S12x16x128 .bf16)), Σ' (LS2 : List (View.Piece (Elt F) S12x8x128 .f32)), Σ' (LS3 : List (View.Piece (Elt F) S12x16x128 .bf16)), { LS4 : List (View.Piece (Elt F) S12x16x128 .bf16) //
      ∀ (xi8 : Vec F S3x24 .f32) (xi9 : Vec F S3x24 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xi8 ∗ owns (c : Thread nD τ) arg11 fullShare xi9 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ owns (c : Thread nD τ) arg10 fullShare xi8 ∗ owns (c : Thread nD τ) arg11 fullShare xi9 ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1) ∗ (∃ f, arg14.view.loc (c : Thread nD τ) ↦[arg14.view.set]{fullShare} arg14.view.writes (Elt F) f LS2) ∗ (∃ f, arg15.view.loc (c : Thread nD τ) ↦[arg15.view.set]{fullShare} arg15.view.writes (Elt F) f LS3) ∗ (∃ f, arg16.view.loc (c : Thread nD τ) ↦[arg16.view.set]{fullShare} arg16.view.writes (Elt F) f LS4)) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, [], [], ?_, ?_, ?_, ?_, ?_, fun xi8 xi9 E K => ?run⟩
  case run =>
    simp only [cc0__body_eq_skeleton]; unfold cc0__body_skel
    simp only [k0_part118_eq_skeleton, k0_part42_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part119_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%f8, %hf8, H8⟩, ⟨%f9, %hf9, H9⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg2.eq_unread hf0; obtain rfl := harg3.eq_unread hf1; obtain rfl := harg4.eq_unread hf2; obtain rfl := harg5.eq_unread hf3; obtain rfl := harg6.eq_unread hf4; obtain rfl := harg10.eq_unread hf8; obtain rfl := harg11.eq_unread hf9
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [H7]; · iexists _; iexact H7
    isplitl [H8]
    · iexists _; isplitr; · ipureintro; exact harg10.read_unread _
      iexact H8
    isplitl [H9]
    · iexists _; isplitr; · ipureintro; exact harg11.read_unread _
      iexact H9
    isplitl [HS0]; · iexists _; iexact HS0
    isplitl [HS1]; · iexists _; iexact HS1
    isplitl [HS2]; · iexists _; iexact HS2
    isplitl [HS3]; · iexists _; iexact HS3
    iexists _; iexact HS4

end Cert.KernelIdeal.Gen

end
-- ==== Proof.ListsA.lean ====
/-
  The pieces the body's run at a batch entry's first point leaves, as lists of one recursion each.
-/
module

public import proofs.«01_k».proof.Proof.RunA
public import proofs.«01_k».proof.Proof.Loads
public import Idealize.ShloMosaic.Lib.Tactic

@[expose] public section

set_option maxRecDepth 16384

noncomputable section

namespace Cert.KernelIdeal.Block

open Idealize.ShloMosaic Idealize.ShloMosaic.TcCoe Idealize.ShloMosaic.Tactic Cert.KernelIdeal Cert.KernelIdeal.Gen

variable {F : FTy → Type} [FloatOps F] [Named F]

variable (c : Dev nD) (i : grid0.Coords)
  (arg2 : Memref sig .tc .smem S3x24 .f32) (harg2 : arg2.IsWhole)
  (arg3 : Memref sig .tc .smem S3x24 .f32) (harg3 : arg3.IsWhole)
  (arg4 : Memref sig .tc .vmem S1x32x96x128 .bf16) (harg4 : arg4.IsWhole)
  (arg5 : Memref sig .tc .vmem S1x32x96x128 .bf16) (harg5 : arg5.IsWhole)
  (arg6 : Memref sig .tc .vmem S1x32x96x128 .bf16) (harg6 : arg6.IsWhole)
  (arg7 : Memref sig .tc .vmem S1x32x96x128 .bf16) (harg7 : arg7.IsWhole)
  (arg8 : Memref sig .tc .vmem S1x32x96x128 .fp8e4m3) (harg8 : arg8.IsWhole)
  (arg9 : Memref sig .tc .vmem S1x32x96x128 .fp8e4m3) (harg9 : arg9.IsWhole)
  (arg10 : Memref sig .tc .vmem S3x24 .f32) (harg10 : arg10.IsWhole)
  (arg11 : Memref sig .tc .vmem S3x24 .f32) (harg11 : arg11.IsWhole)
  (arg12 : Memref sig .tc .vmem S12x16x128 .bf16) (harg12 : arg12.IsWhole)
  (arg13 : Memref sig .tc .vmem S12x16x128 .bf16) (harg13 : arg13.IsWhole)
  (arg14 : Memref sig .tc .vmem S12x8x128 .f32) (harg14 : arg14.IsWhole)
  (arg15 : Memref sig .tc .vmem S12x16x128 .bf16) (harg15 : arg15.IsWhole)
  (arg16 : Memref sig .tc .vmem S12x16x128 .bf16) (harg16 : arg16.IsWhole)
  (x0 x1 : Vec F S3x24 .f32) (x2 x3 x4 : Vec F S1x32x96x128 .bf16)
  (xs0 xs1 : Vec F S12x16x128 .bf16) (xs2 : Vec F S12x8x128 .f32) (xs3 xs4 : Vec F S12x16x128 .bf16)

set_option maxHeartbeats 0 in
/-- The output's pieces. -/
theorem out_A (hc0 : cond0_0 i) (hc1 : ¬cond0_1 i) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4).1
    = Loads.outs ⟨slice harg4 x2, slice harg5 x3, slice harg6 x4,
      rowCov arg12 (rowPieces (invRows harg2 x0 i) 12 (le_refl _)), rowCov arg13 (rowPieces (invRows harg3 x1 i) 12 (le_refl _)),
      rowCov8 arg14 (rowPieces8 (scaleRows harg2 harg3 x0 x1 i) 12 (le_refl _))⟩ 24 (le_refl _) := by sl_kernel_rfl

/-- The query codes' pieces. -/
theorem q8_A (hc0 : cond0_0 i) (hc1 : ¬cond0_1 i) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4).2.1
    = codePieces (Loads.q8 ⟨slice harg4 x2, slice harg5 x3, slice harg6 x4,
      rowCov arg12 (rowPieces (invRows harg2 x0 i) 12 (le_refl _)), rowCov arg13 (rowPieces (invRows harg3 x1 i) 12 (le_refl _)),
      rowCov8 arg14 (rowPieces8 (scaleRows harg2 harg3 x0 x1 i) 12 (le_refl _))⟩) 12 (le_refl _) := by sl_kernel_rfl

/-- The key codes' pieces. -/
theorem k8_A (hc0 : cond0_0 i) (hc1 : ¬cond0_1 i) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4).2.2.1
    = codePieces (Loads.k8 ⟨slice harg4 x2, slice harg5 x3, slice harg6 x4,
      rowCov arg12 (rowPieces (invRows harg2 x0 i) 12 (le_refl _)), rowCov arg13 (rowPieces (invRows harg3 x1 i) 12 (le_refl _)),
      rowCov8 arg14 (rowPieces8 (scaleRows harg2 harg3 x0 x1 i) 12 (le_refl _))⟩) 12 (le_refl _) := by sl_kernel_rfl

/-- The pieces of the query's running maxima. -/
theorem maxq_A (hc0 : cond0_0 i) (hc1 : ¬cond0_1 i) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4).2.2.2.2.2.2.2.2.1
    = maxOver arg15.view (slice harg4 x2) 12 (le_refl _) (maxOver arg15.view (slice harg4 x2) 0 (by decide) [⟨Rect.unit (s := S12x16x128) ![0, 0, 0] S12x16x128.size inb_S12x16x128_S12x16x128_0_0_0, k0_pay127⟩] 12 (le_refl _)) 12 (le_refl _) := by sl_kernel_rfl

/-- The pieces of the key's running maxima. -/
theorem maxk_A (hc0 : cond0_0 i) (hc1 : ¬cond0_1 i) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4).2.2.2.2.2.2.2.2.2.1
    = maxOver arg16.view (slice harg5 x3) 12 (le_refl _) (maxOver arg16.view (slice harg5 x3) 0 (by decide) [⟨Rect.unit (s := S12x16x128) ![0, 0, 0] S12x16x128.size inb_S12x16x128_S12x16x128_0_0_0, k0_pay128⟩] 12 (le_refl _)) 12 (le_refl _) := by sl_kernel_rfl

/-- The pieces of the table of the query's reciprocal scales. -/
theorem tab0_A (hc0 : cond0_0 i) (hc1 : ¬cond0_1 i) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4).2.2.2.2.2.1
    = rowPieces (invRows harg2 x0 i) 12 (le_refl _) := by sl_kernel_rfl

/-- The pieces of the table of the key's reciprocal scales. -/
theorem tab1_A (hc0 : cond0_0 i) (hc1 : ¬cond0_1 i) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4).2.2.2.2.2.2.1
    = rowPieces (invRows harg3 x1 i) 12 (le_refl _) := by sl_kernel_rfl

/-- The pieces of the table of the score factors. -/
theorem tab2_A (hc0 : cond0_0 i) (hc1 : ¬cond0_1 i) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4).2.2.2.2.2.2.2.1
    = rowPieces8 (scaleRows harg2 harg3 x0 x1 i) 12 (le_refl _) := by sl_kernel_rfl

end Cert.KernelIdeal.Block

end
-- ==== Proof.RunB.lean ====
/-
  The idealized kernel's body run at neither the first nor the last point of a batch entry:
  the pieces each buffer ends with.
-/
module

public import proofs.«01_k».proof.Proof.RunA

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 3876000 in
/-- The pieces the body leaves in each buffer (last first) at neither the first nor the last point of a batch entry; with the proof that it leaves them. -/
noncomputable def kernelRun0_B (c : Dev nD) (i : grid0.Coords) (arg2 : Memref sig .tc .smem S3x24 .f32) (harg2 : arg2.IsWhole) (arg3 : Memref sig .tc .smem S3x24 .f32) (harg3 : arg3.IsWhole) (arg4 : Memref sig .tc .vmem S1x32x96x128 .bf16) (harg4 : arg4.IsWhole) (arg5 : Memref sig .tc .vmem S1x32x96x128 .bf16) (harg5 : arg5.IsWhole) (arg6 : Memref sig .tc .vmem S1x32x96x128 .bf16) (harg6 : arg6.IsWhole) (arg7 : Memref sig .tc .vmem S1x32x96x128 .bf16) (harg7 : arg7.IsWhole) (arg8 : Memref sig .tc .vmem S1x32x96x128 .fp8e4m3) (harg8 : arg8.IsWhole) (arg9 : Memref sig .tc .vmem S1x32x96x128 .fp8e4m3) (harg9 : arg9.IsWhole) (arg10 : Memref sig .tc .vmem S3x24 .f32) (harg10 : arg10.IsWhole) (arg11 : Memref sig .tc .vmem S3x24 .f32) (harg11 : arg11.IsWhole) (arg12 : Memref sig .tc .vmem S12x16x128 .bf16) (harg12 : arg12.IsWhole) (arg13 : Memref sig .tc .vmem S12x16x128 .bf16) (harg13 : arg13.IsWhole) (arg14 : Memref sig .tc .vmem S12x8x128 .f32) (harg14 : arg14.IsWhole) (arg15 : Memref sig .tc .vmem S12x16x128 .bf16) (harg15 : arg15.IsWhole) (arg16 : Memref sig .tc .vmem S12x16x128 .bf16) (harg16 : arg16.IsWhole) (hc0 : ¬cond0_0 i) (hc1 : ¬cond0_1 i)
    (x0 : Vec F S3x24 .f32) (x1 : Vec F S3x24 .f32) (x2 : Vec F S1x32x96x128 .bf16) (x3 : Vec F S1x32x96x128 .bf16) (x4 : Vec F S1x32x96x128 .bf16) (xs0 : Vec F S12x16x128 .bf16) (xs1 : Vec F S12x16x128 .bf16) (xs2 : Vec F S12x8x128 .f32) (xs3 : Vec F S12x16x128 .bf16) (xs4 : Vec F S12x16x128 .bf16) :
    Σ' (L5 : List (View.Piece (Elt F) S1x32x96x128 .bf16)), Σ' (L6 : List (View.Piece (Elt F) S1x32x96x128 .fp8e4m3)), Σ' (L7 : List (View.Piece (Elt F) S1x32x96x128 .fp8e4m3)), Σ' (L8 : List (View.Piece (Elt F) S3x24 .f32)), Σ' (L9 : List (View.Piece (Elt F) S3x24 .f32)), Σ' (LS0 : List (View.Piece (Elt F) S12x16x128 .bf16)), Σ' (LS1 : List (View.Piece (Elt F) S12x16x128 .bf16)), Σ' (LS2 : List (View.Piece (Elt F) S12x8x128 .f32)), Σ' (LS3 : List (View.Piece (Elt F) S12x16x128 .bf16)), { LS4 : List (View.Piece (Elt F) S12x16x128 .bf16) //
      ∀ (xi8 : Vec F S3x24 .f32) (xi9 : Vec F S3x24 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xi8 ∗ owns (c : Thread nD τ) arg11 fullShare xi9 ∗ owns (c : Thread nD τ) arg12 fullShare xs0 ∗ owns (c : Thread nD τ) arg13 fullShare xs1 ∗ owns (c : Thread nD τ) arg14 fullShare xs2 ∗ owns (c : Thread nD τ) arg15 fullShare xs3 ∗ owns (c : Thread nD τ) arg16 fullShare xs4
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ owns (c : Thread nD τ) arg10 fullShare xi8 ∗ owns (c : Thread nD τ) arg11 fullShare xi9 ∗ owns (c : Thread nD τ) arg12 fullShare xs0 ∗ owns (c : Thread nD τ) arg13 fullShare xs1 ∗ owns (c : Thread nD τ) arg14 fullShare xs2 ∗ (∃ f, arg15.view.loc (c : Thread nD τ) ↦[arg15.view.set]{fullShare} arg15.view.writes (Elt F) f LS3) ∗ (∃ f, arg16.view.loc (c : Thread nD τ) ↦[arg16.view.set]{fullShare} arg16.view.writes (Elt F) f LS4)) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, [], [], [], [], [], ?_, ?_, fun xi8 xi9 E K => ?run⟩
  case run =>
    simp only [cc0__body_eq_skeleton]; unfold cc0__body_skel
    simp only [k0_part118_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part119_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%f8, %hf8, H8⟩, ⟨%f9, %hf9, H9⟩, ⟨%fs0, %hfs0, HS0⟩, ⟨%fs1, %hfs1, HS1⟩, ⟨%fs2, %hfs2, HS2⟩, ⟨%fs3, %hfs3, HS3⟩, ⟨%fs4, %hfs4, HS4⟩, Hk⟩
    obtain rfl := harg2.eq_unread hf0; obtain rfl := harg3.eq_unread hf1; obtain rfl := harg4.eq_unread hf2; obtain rfl := harg5.eq_unread hf3; obtain rfl := harg6.eq_unread hf4; obtain rfl := harg10.eq_unread hf8; obtain rfl := harg11.eq_unread hf9; obtain rfl := harg12.eq_unread hfs0; obtain rfl := harg13.eq_unread hfs1; obtain rfl := harg14.eq_unread hfs2; obtain rfl := harg15.eq_unread hfs3; obtain rfl := harg16.eq_unread hfs4
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [H7]; · iexists _; iexact H7
    isplitl [H8]
    · iexists _; isplitr; · ipureintro; exact harg10.read_unread _
      iexact H8
    isplitl [H9]
    · iexists _; isplitr; · ipureintro; exact harg11.read_unread _
      iexact H9
    isplitl [HS0]
    · iexists _; isplitr; · ipureintro; exact harg12.read_unread _
      iexact HS0
    isplitl [HS1]
    · iexists _; isplitr; · ipureintro; exact harg13.read_unread _
      iexact HS1
    isplitl [HS2]
    · iexists _; isplitr; · ipureintro; exact harg14.read_unread _
      iexact HS2
    isplitl [HS3]; · iexists _; iexact HS3
    iexists _; iexact HS4

end Cert.KernelIdeal.Gen

end
-- ==== Proof.ListsB.lean ====
/-
  The pieces the body's run at a point neither first nor last of its batch entry leaves, as lists of one recursion each.
-/
module

public import proofs.«01_k».proof.Proof.RunB
public import proofs.«01_k».proof.Proof.Loads
public import Idealize.ShloMosaic.Lib.Tactic

@[expose] public section

set_option maxRecDepth 16384

noncomputable section

namespace Cert.KernelIdeal.Block

open Idealize.ShloMosaic Idealize.ShloMosaic.TcCoe Idealize.ShloMosaic.Tactic Cert.KernelIdeal Cert.KernelIdeal.Gen

variable {F : FTy → Type} [FloatOps F] [Named F]

variable (c : Dev nD) (i : grid0.Coords)
  (arg2 : Memref sig .tc .smem S3x24 .f32) (harg2 : arg2.IsWhole)
  (arg3 : Memref sig .tc .smem S3x24 .f32) (harg3 : arg3.IsWhole)
  (arg4 : Memref sig .tc .vmem S1x32x96x128 .bf16) (harg4 : arg4.IsWhole)
  (arg5 : Memref sig .tc .vmem S1x32x96x128 .bf16) (harg5 : arg5.IsWhole)
  (arg6 : Memref sig .tc .vmem S1x32x96x128 .bf16) (harg6 : arg6.IsWhole)
  (arg7 : Memref sig .tc .vmem S1x32x96x128 .bf16) (harg7 : arg7.IsWhole)
  (arg8 : Memref sig .tc .vmem S1x32x96x128 .fp8e4m3) (harg8 : arg8.IsWhole)
  (arg9 : Memref sig .tc .vmem S1x32x96x128 .fp8e4m3) (harg9 : arg9.IsWhole)
  (arg10 : Memref sig .tc .vmem S3x24 .f32) (harg10 : arg10.IsWhole)
  (arg11 : Memref sig .tc .vmem S3x24 .f32) (harg11 : arg11.IsWhole)
  (arg12 : Memref sig .tc .vmem S12x16x128 .bf16) (harg12 : arg12.IsWhole)
  (arg13 : Memref sig .tc .vmem S12x16x128 .bf16) (harg13 : arg13.IsWhole)
  (arg14 : Memref sig .tc .vmem S12x8x128 .f32) (harg14 : arg14.IsWhole)
  (arg15 : Memref sig .tc .vmem S12x16x128 .bf16) (harg15 : arg15.IsWhole)
  (arg16 : Memref sig .tc .vmem S12x16x128 .bf16) (harg16 : arg16.IsWhole)
  (x0 x1 : Vec F S3x24 .f32) (x2 x3 x4 : Vec F S1x32x96x128 .bf16)
  (xs0 xs1 : Vec F S12x16x128 .bf16) (xs2 : Vec F S12x8x128 .f32) (xs3 xs4 : Vec F S12x16x128 .bf16)

set_option maxHeartbeats 0 in
/-- The output's pieces. -/
theorem out_B (hc0 : ¬cond0_0 i) (hc1 : ¬cond0_1 i) :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 xs0 xs1 xs2 xs3 xs4).1
    = Loads.outs ⟨slice harg4 x2, slice harg5 x3, slice harg6 x4, row harg12 xs0, row harg13 xs1, row8 harg14 xs2⟩ 24 (le_refl _) := by sl_kernel_rfl

/-- The query codes' pieces. -/
theorem q8_B (hc0 : ¬cond0_0 i) (hc1 : ¬cond0_1 i) :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 xs0 xs1 xs2 xs3 xs4).2.1
    = codePieces (Loads.q8 ⟨slice harg4 x2, slice harg5 x3, slice harg6 x4, row harg12 xs0, row harg13 xs1, row8 harg14 xs2⟩) 12 (le_refl _) := by sl_kernel_rfl

/-- The key codes' pieces. -/
theorem k8_B (hc0 : ¬cond0_0 i) (hc1 : ¬cond0_1 i) :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 xs0 xs1 xs2 xs3 xs4).2.2.1
    = codePieces (Loads.k8 ⟨slice harg4 x2, slice harg5 x3, slice harg6 x4, row harg12 xs0, row harg13 xs1, row8 harg14 xs2⟩) 12 (le_refl _) := by sl_kernel_rfl

/-- The pieces of the query's running maxima. -/
theorem maxq_B (hc0 : ¬cond0_0 i) (hc1 : ¬cond0_1 i) :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 xs0 xs1 xs2 xs3 xs4).2.2.2.2.2.2.2.2.1
    = maxOver arg15.view (slice harg4 x2) 12 (le_refl _) (maxFrom (row harg15 xs3) (slice harg4 x2) 0 (by decide) [] 12 (le_refl _)) 12 (le_refl _) := by sl_kernel_rfl

/-- The pieces of the key's running maxima. -/
theorem maxk_B (hc0 : ¬cond0_0 i) (hc1 : ¬cond0_1 i) :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 xs0 xs1 xs2 xs3 xs4).2.2.2.2.2.2.2.2.2.1
    = maxOver arg16.view (slice harg5 x3) 12 (le_refl _) (maxFrom (row harg16 xs4) (slice harg5 x3) 0 (by decide) [] 12 (le_refl _)) 12 (le_refl _) := by sl_kernel_rfl

end Cert.KernelIdeal.Block

end
-- ==== Proof.RunC.lean ====
/-
  The idealized kernel's body run at a batch entry's last point: it also stores the rows of maxima:
  the pieces each buffer ends with.
-/
module

public import proofs.«01_k».proof.Proof.RunB

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 4336000 in
/-- The pieces the body leaves in each buffer (last first) at a batch entry's last point: it also stores the rows of maxima; with the proof that it leaves them. -/
noncomputable def kernelRun0_C (c : Dev nD) (i : grid0.Coords) (arg2 : Memref sig .tc .smem S3x24 .f32) (harg2 : arg2.IsWhole) (arg3 : Memref sig .tc .smem S3x24 .f32) (harg3 : arg3.IsWhole) (arg4 : Memref sig .tc .vmem S1x32x96x128 .bf16) (harg4 : arg4.IsWhole) (arg5 : Memref sig .tc .vmem S1x32x96x128 .bf16) (harg5 : arg5.IsWhole) (arg6 : Memref sig .tc .vmem S1x32x96x128 .bf16) (harg6 : arg6.IsWhole) (arg7 : Memref sig .tc .vmem S1x32x96x128 .bf16) (harg7 : arg7.IsWhole) (arg8 : Memref sig .tc .vmem S1x32x96x128 .fp8e4m3) (harg8 : arg8.IsWhole) (arg9 : Memref sig .tc .vmem S1x32x96x128 .fp8e4m3) (harg9 : arg9.IsWhole) (arg10 : Memref sig .tc .vmem S3x24 .f32) (harg10 : arg10.IsWhole) (arg11 : Memref sig .tc .vmem S3x24 .f32) (harg11 : arg11.IsWhole) (arg12 : Memref sig .tc .vmem S12x16x128 .bf16) (harg12 : arg12.IsWhole) (arg13 : Memref sig .tc .vmem S12x16x128 .bf16) (harg13 : arg13.IsWhole) (arg14 : Memref sig .tc .vmem S12x8x128 .f32) (harg14 : arg14.IsWhole) (arg15 : Memref sig .tc .vmem S12x16x128 .bf16) (harg15 : arg15.IsWhole) (arg16 : Memref sig .tc .vmem S12x16x128 .bf16) (harg16 : arg16.IsWhole) (hc0 : ¬cond0_0 i) (hc1 : cond0_1 i)
    (x0 : Vec F S3x24 .f32) (x1 : Vec F S3x24 .f32) (x2 : Vec F S1x32x96x128 .bf16) (x3 : Vec F S1x32x96x128 .bf16) (x4 : Vec F S1x32x96x128 .bf16) (xs0 : Vec F S12x16x128 .bf16) (xs1 : Vec F S12x16x128 .bf16) (xs2 : Vec F S12x8x128 .f32) (xs3 : Vec F S12x16x128 .bf16) (xs4 : Vec F S12x16x128 .bf16) :
    Σ' (L5 : List (View.Piece (Elt F) S1x32x96x128 .bf16)), Σ' (L6 : List (View.Piece (Elt F) S1x32x96x128 .fp8e4m3)), Σ' (L7 : List (View.Piece (Elt F) S1x32x96x128 .fp8e4m3)), Σ' (L8 : List (View.Piece (Elt F) S3x24 .f32)), Σ' (L9 : List (View.Piece (Elt F) S3x24 .f32)), Σ' (LS0 : List (View.Piece (Elt F) S12x16x128 .bf16)), Σ' (LS1 : List (View.Piece (Elt F) S12x16x128 .bf16)), Σ' (LS2 : List (View.Piece (Elt F) S12x8x128 .f32)), Σ' (LS3 : List (View.Piece (Elt F) S12x16x128 .bf16)), { LS4 : List (View.Piece (Elt F) S12x16x128 .bf16) //
      ∀ (xi8 : Vec F S3x24 .f32) (xi9 : Vec F S3x24 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xi8 ∗ owns (c : Thread nD τ) arg11 fullShare xi9 ∗ owns (c : Thread nD τ) arg12 fullShare xs0 ∗ owns (c : Thread nD τ) arg13 fullShare xs1 ∗ owns (c : Thread nD τ) arg14 fullShare xs2 ∗ owns (c : Thread nD τ) arg15 fullShare xs3 ∗ owns (c : Thread nD τ) arg16 fullShare xs4
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (arg10.view.loc (c : Thread nD τ) ↦[arg10.view.set]{fullShare} arg10.view.writes (Elt F) (harg10.unread xi8) L8) ∗ (arg11.view.loc (c : Thread nD τ) ↦[arg11.view.set]{fullShare} arg11.view.writes (Elt F) (harg11.unread xi9) L9) ∗ owns (c : Thread nD τ) arg12 fullShare xs0 ∗ owns (c : Thread nD τ) arg13 fullShare xs1 ∗ owns (c : Thread nD τ) arg14 fullShare xs2 ∗ (∃ f, arg15.view.loc (c : Thread nD τ) ↦[arg15.view.set]{fullShare} arg15.view.writes (Elt F) f LS3) ∗ (∃ f, arg16.view.loc (c : Thread nD τ) ↦[arg16.view.set]{fullShare} arg16.view.writes (Elt F) f LS4)) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, ?_, [], [], [], ?_, ?_, fun xi8 xi9 E K => ?run⟩
  case run =>
    simp only [cc0__body_eq_skeleton]; unfold cc0__body_skel
    simp only [k0_part118_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part119_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part41_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%f8, %hf8, H8⟩, ⟨%f9, %hf9, H9⟩, ⟨%fs0, %hfs0, HS0⟩, ⟨%fs1, %hfs1, HS1⟩, ⟨%fs2, %hfs2, HS2⟩, ⟨%fs3, %hfs3, HS3⟩, ⟨%fs4, %hfs4, HS4⟩, Hk⟩
    obtain rfl := harg2.eq_unread hf0; obtain rfl := harg3.eq_unread hf1; obtain rfl := harg4.eq_unread hf2; obtain rfl := harg5.eq_unread hf3; obtain rfl := harg6.eq_unread hf4; obtain rfl := harg10.eq_unread hf8; obtain rfl := harg11.eq_unread hf9; obtain rfl := harg12.eq_unread hfs0; obtain rfl := harg13.eq_unread hfs1; obtain rfl := harg14.eq_unread hfs2; obtain rfl := harg15.eq_unread hfs3; obtain rfl := harg16.eq_unread hfs4
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [H7]; · iexists _; iexact H7
    isplitl [H8]; · iexact H8
    isplitl [H9]; · iexact H9
    isplitl [HS0]
    · iexists _; isplitr; · ipureintro; exact harg12.read_unread _
      iexact HS0
    isplitl [HS1]
    · iexists _; isplitr; · ipureintro; exact harg13.read_unread _
      iexact HS1
    isplitl [HS2]
    · iexists _; isplitr; · ipureintro; exact harg14.read_unread _
      iexact HS2
    isplitl [HS3]; · iexists _; iexact HS3
    iexists _; iexact HS4

end Cert.KernelIdeal.Gen

end
-- ==== Proof.ListsC.lean ====
/-
  The pieces the body's run at a batch entry's last point leaves, as lists of one recursion each.
-/
module

public import proofs.«01_k».proof.Proof.RunC
public import proofs.«01_k».proof.Proof.Loads
public import Idealize.ShloMosaic.Lib.Tactic

@[expose] public section

set_option maxRecDepth 16384

noncomputable section

namespace Cert.KernelIdeal.Block

open Idealize.ShloMosaic Idealize.ShloMosaic.TcCoe Idealize.ShloMosaic.Tactic Cert.KernelIdeal Cert.KernelIdeal.Gen

variable {F : FTy → Type} [FloatOps F] [Named F]

variable (c : Dev nD) (i : grid0.Coords)
  (arg2 : Memref sig .tc .smem S3x24 .f32) (harg2 : arg2.IsWhole)
  (arg3 : Memref sig .tc .smem S3x24 .f32) (harg3 : arg3.IsWhole)
  (arg4 : Memref sig .tc .vmem S1x32x96x128 .bf16) (harg4 : arg4.IsWhole)
  (arg5 : Memref sig .tc .vmem S1x32x96x128 .bf16) (harg5 : arg5.IsWhole)
  (arg6 : Memref sig .tc .vmem S1x32x96x128 .bf16) (harg6 : arg6.IsWhole)
  (arg7 : Memref sig .tc .vmem S1x32x96x128 .bf16) (harg7 : arg7.IsWhole)
  (arg8 : Memref sig .tc .vmem S1x32x96x128 .fp8e4m3) (harg8 : arg8.IsWhole)
  (arg9 : Memref sig .tc .vmem S1x32x96x128 .fp8e4m3) (harg9 : arg9.IsWhole)
  (arg10 : Memref sig .tc .vmem S3x24 .f32) (harg10 : arg10.IsWhole)
  (arg11 : Memref sig .tc .vmem S3x24 .f32) (harg11 : arg11.IsWhole)
  (arg12 : Memref sig .tc .vmem S12x16x128 .bf16) (harg12 : arg12.IsWhole)
  (arg13 : Memref sig .tc .vmem S12x16x128 .bf16) (harg13 : arg13.IsWhole)
  (arg14 : Memref sig .tc .vmem S12x8x128 .f32) (harg14 : arg14.IsWhole)
  (arg15 : Memref sig .tc .vmem S12x16x128 .bf16) (harg15 : arg15.IsWhole)
  (arg16 : Memref sig .tc .vmem S12x16x128 .bf16) (harg16 : arg16.IsWhole)
  (x0 x1 : Vec F S3x24 .f32) (x2 x3 x4 : Vec F S1x32x96x128 .bf16)
  (xs0 xs1 : Vec F S12x16x128 .bf16) (xs2 : Vec F S12x8x128 .f32) (xs3 xs4 : Vec F S12x16x128 .bf16)

set_option maxHeartbeats 0 in
/-- The output's pieces. -/
theorem out_C (hc0 : ¬cond0_0 i) (hc1 : cond0_1 i) :
    (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 xs0 xs1 xs2 xs3 xs4).1
    = Loads.outs ⟨slice harg4 x2, slice harg5 x3, slice harg6 x4, row harg12 xs0, row harg13 xs1, row8 harg14 xs2⟩ 24 (le_refl _) := by sl_kernel_rfl

/-- The query codes' pieces. -/
theorem q8_C (hc0 : ¬cond0_0 i) (hc1 : cond0_1 i) :
    (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 xs0 xs1 xs2 xs3 xs4).2.1
    = codePieces (Loads.q8 ⟨slice harg4 x2, slice harg5 x3, slice harg6 x4, row harg12 xs0, row harg13 xs1, row8 harg14 xs2⟩) 12 (le_refl _) := by sl_kernel_rfl

/-- The key codes' pieces. -/
theorem k8_C (hc0 : ¬cond0_0 i) (hc1 : cond0_1 i) :
    (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 xs0 xs1 xs2 xs3 xs4).2.2.1
    = codePieces (Loads.k8 ⟨slice harg4 x2, slice harg5 x3, slice harg6 x4, row harg12 xs0, row harg13 xs1, row8 harg14 xs2⟩) 12 (le_refl _) := by sl_kernel_rfl

/-- The pieces of the query's running maxima. -/
theorem maxq_C (hc0 : ¬cond0_0 i) (hc1 : cond0_1 i) :
    (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 xs0 xs1 xs2 xs3 xs4).2.2.2.2.2.2.2.2.1
    = maxOver arg15.view (slice harg4 x2) 12 (le_refl _) (maxFrom (row harg15 xs3) (slice harg4 x2) 0 (by decide) [] 12 (le_refl _)) 12 (le_refl _) := by sl_kernel_rfl

/-- The pieces of the key's running maxima. -/
theorem maxk_C (hc0 : ¬cond0_0 i) (hc1 : cond0_1 i) :
    (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 xs0 xs1 xs2 xs3 xs4).2.2.2.2.2.2.2.2.2.1
    = maxOver arg16.view (slice harg5 x3) 12 (le_refl _) (maxFrom (row harg16 xs4) (slice harg5 x3) 0 (by decide) [] 12 (le_refl _)) 12 (le_refl _) := by sl_kernel_rfl

/-- The stored row of the query's maxima. -/
theorem amax8_C (hc0 : ¬cond0_0 i) (hc1 : cond0_1 i) :
    (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 xs0 xs1 xs2 xs3 xs4).2.2.2.1
    = [⟨Rect.unit (s := S3x24) (k0_off25 i) S1x24.size (k0_off25_inb i (by sl_exact hc1)), amaxRow (rowCov arg15 (maxOver arg15.view (slice harg4 x2) 12 (le_refl _) (maxFrom (row harg15 xs3) (slice harg4 x2) 0 (by decide) [] 12 (le_refl _)) 12 (le_refl _)))⟩] := by sl_kernel_rfl

/-- The stored row of the key's maxima. -/
theorem amax9_C (hc0 : ¬cond0_0 i) (hc1 : cond0_1 i) :
    (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 xs0 xs1 xs2 xs3 xs4).2.2.2.2.1
    = [⟨Rect.unit (s := S3x24) (k0_off25 i) S1x24.size (k0_off25_inb i (by sl_exact hc1)), amaxRow (rowCov arg16 (maxOver arg16.view (slice harg5 x3) 12 (le_refl _) (maxFrom (row harg16 xs4) (slice harg5 x3) 0 (by decide) [] 12 (le_refl _)) 12 (le_refl _)))⟩] := by sl_kernel_rfl

end Cert.KernelIdeal.Block

end
-- ==== Proof.Step.lean ====
/-
  The body's run at each kind of grid point, stated of contents: from the input blocks and what the buffers held before, to
  the output block, the blocks of codes, the tables, and the running maxima.
-/
module

public import proofs.«01_k».proof.Proof.Tables
public import proofs.«01_k».proof.Proof.ListsA
public import proofs.«01_k».proof.Proof.ListsB
public import proofs.«01_k».proof.Proof.ListsC

@[expose] public section

set_option maxRecDepth 16384

noncomputable section

namespace Cert.KernelIdeal.Block

open Idealize.ShloMosaic Idealize.ShloMosaic.TcCoe Idealize.ShloMosaic.Tactic Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- Everything the groups of a point read. -/
def loadsAt (x0 x1 : Vec F S3x24 .f32) (x2 x3 x4 : Vec F S1x32x96x128 .bf16) (i : grid0.Coords) : Loads F :=
  ⟨sliceOf x2, sliceOf x3, sliceOf x4, invOf x0 i, invOf x1 i, facOf x0 x1 i⟩

/-- The block of maxima with the point's batch entry's row replaced. -/
def putRow (i : grid0.Coords) (X : Vec F S3x24 .f32) (r : Vec F S1x24 .f32) : Vec F S3x24 .f32 := fun y =>
  if (y 0).val = (i 0).val then r (ix2 (n0 := 1) (n1 := 24) 0 (y 1)) else X y

theorem off25_0 (i : grid0.Coords) : k0_off25 i 0 = (i 0).val := by
  have hlt := (i 0).isLt
  show (Scalar.indexCast (BitVec.ofNat 32 (i 0).val)).toNat = (i 0).val
  revert hlt; generalize (i 0).val = n; intro hlt
  have : n = 0 ∨ n = 1 ∨ n = 2 := by have : n < 3 := hlt; omega
  rcases this with rfl | rfl | rfl <;> decide

theorem read_putRow {arg : Memref sig .tc .vmem S3x24 .f32} (harg : arg.IsWhole) (i : grid0.Coords)
    (hin : ∀ a, k0_off25 i a + S1x24.size a ≤ S3x24.size a) (X : Vec F S3x24 .f32) (r : Vec F S1x24 .f32) :
    arg.view.read (Elt F) (arg.view.writes (Elt F) (harg.unread X) [⟨Rect.unit (s := S3x24) (k0_off25 i) S1x24.size hin, r⟩]) = putRow i X r := by
  funext y
  have h0 := off25_0 i
  unfold putRow
  by_cases e : (y 0).val = (i 0).val
  · rw [if_pos e]
    exact View.read_writes_cons_hit_of_coords arg.view _ (Rect.unit (s := S3x24) (k0_off25 i) S1x24.size hin) r [] _ y (by
      intro a
      match a with
      | ⟨0, _⟩ => show (y 0).val = k0_off25 i 0 + 1 * 0; omega
      | ⟨1, _⟩ => show (y 1).val = 0 + 1 * (y 1).val; omega)
  · rw [if_neg e]
    refine (View.read_writes_cons_miss_of_axis arg.view _ _ [] y 0 ((i 0).val) 1 h0 rfl rfl (by omega)).trans ?_
    exact congrFun (harg.read_unread X) y

theorem owns_of_writes (c : Dev nD) {sp : Space} {s : Shape} {e : EltTy} (arg : Memref sig .tc sp s e) (L : List (View.Piece (Elt F) s e))
    (X : Vec F s e) (h : ∀ f, arg.view.read (Elt F) (arg.view.writes (Elt F) f L) = X) :
    iprop(∃ f, arg.view.loc (c : Thread nD τ) ↦[arg.view.set]{fullShare} arg.view.writes (Elt F) f L) ⊢ (owns (c : Thread nD τ) arg fullShare X : sProp 𝕄) := by
  iintro ⟨%f, H⟩
  unfold owns; iexists _; isplitr
  swap; · iexact H
  ipureintro; exact h f

theorem owns_of_writes' (c : Dev nD) {sp : Space} {s : Shape} {e : EltTy} (arg : Memref sig .tc sp s e) (L : List (View.Piece (Elt F) s e))
    (X : Vec F s e) (f : arg.view.ty.Contents (Elt F)) (h : arg.view.read (Elt F) (arg.view.writes (Elt F) f L) = X) :
    iprop(arg.view.loc (c : Thread nD τ) ↦[arg.view.set]{fullShare} arg.view.writes (Elt F) f L) ⊢ (owns (c : Thread nD τ) arg fullShare X : sProp 𝕄) := by
  iintro H
  unfold owns; iexists _; isplitr
  swap; · iexact H
  ipureintro; exact h

set_option maxHeartbeats 4000000 in
/-- The body at a batch entry's first point: it fills the tables and starts the maxima from zeros. -/
theorem step_A (c : Dev nD) (i : grid0.Coords) (arg2 : Memref sig .tc .smem S3x24 .f32) (harg2 : arg2.IsWhole)
  (arg3 : Memref sig .tc .smem S3x24 .f32) (harg3 : arg3.IsWhole)
  (arg4 : Memref sig .tc .vmem S1x32x96x128 .bf16) (harg4 : arg4.IsWhole)
  (arg5 : Memref sig .tc .vmem S1x32x96x128 .bf16) (harg5 : arg5.IsWhole)
  (arg6 : Memref sig .tc .vmem S1x32x96x128 .bf16) (harg6 : arg6.IsWhole)
  (arg7 : Memref sig .tc .vmem S1x32x96x128 .bf16) (harg7 : arg7.IsWhole)
  (arg8 : Memref sig .tc .vmem S1x32x96x128 .fp8e4m3) (harg8 : arg8.IsWhole)
  (arg9 : Memref sig .tc .vmem S1x32x96x128 .fp8e4m3) (harg9 : arg9.IsWhole)
  (arg10 : Memref sig .tc .vmem S3x24 .f32) (harg10 : arg10.IsWhole)
  (arg11 : Memref sig .tc .vmem S3x24 .f32) (harg11 : arg11.IsWhole)
  (arg12 : Memref sig .tc .vmem S12x16x128 .bf16) (harg12 : arg12.IsWhole)
  (arg13 : Memref sig .tc .vmem S12x16x128 .bf16) (harg13 : arg13.IsWhole)
  (arg14 : Memref sig .tc .vmem S12x8x128 .f32) (harg14 : arg14.IsWhole)
  (arg15 : Memref sig .tc .vmem S12x16x128 .bf16) (harg15 : arg15.IsWhole)
  (arg16 : Memref sig .tc .vmem S12x16x128 .bf16) (harg16 : arg16.IsWhole)
  (x0 x1 : Vec F S3x24 .f32) (x2 x3 x4 : Vec F S1x32x96x128 .bf16) (hc0 : cond0_0 i) (hc1 : ¬cond0_1 i) (xi8 xi9 : Vec F S3x24 .f32) (E : Set ℕ) (K : PUnit → sProp 𝕄) :
  iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xi8 ∗ owns (c : Thread nD τ) arg11 fullShare xi9 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (outBlk (loadsAt x0 x1 x2 x3 x4 i)) ∗ owns (c : Thread nD τ) arg8 fullShare (codeBlk (loadsAt x0 x1 x2 x3 x4 i).q8) ∗ owns (c : Thread nD τ) arg9 fullShare (codeBlk (loadsAt x0 x1 x2 x3 x4 i).k8) ∗ owns (c : Thread nD τ) arg10 fullShare xi8 ∗ owns (c : Thread nD τ) arg11 fullShare xi9 ∗ owns (c : Thread nD τ) arg12 fullShare (tabOf (invOf x0 i)) ∗ owns (c : Thread nD τ) arg13 fullShare (tabOf (invOf x1 i)) ∗ owns (c : Thread nD τ) arg14 fullShare (tabOf8 (facOf x0 x1 i)) ∗ owns (c : Thread nD τ) arg15 fullShare (tabOf (stepMax (sliceOf x2) (rowOf k0_pay127))) ∗ owns (c : Thread nD τ) arg16 fullShare (tabOf (stepMax (sliceOf x3) (rowOf k0_pay128)))) -∗ K ⟨⟩))
    ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  have e5 : ∀ f, arg7.view.read (Elt F) (arg7.view.writes (Elt F) f (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4).1) = outBlk (loadsAt x0 x1 x2 x3 x4 i) := by
    intro f; rw [out_A c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 hc0 hc1, slice_eq, slice_eq, slice_eq, invRows_eq, invRows_eq, scaleRows_eq, rowCov_rowPieces, rowCov_rowPieces, rowCov8_rowPieces]; exact read_outs_all _ _ _
  have e6 : ∀ f, arg8.view.read (Elt F) (arg8.view.writes (Elt F) f (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4).2.1) = codeBlk (loadsAt x0 x1 x2 x3 x4 i).q8 := by
    intro f; rw [q8_A c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 hc0 hc1, slice_eq, slice_eq, slice_eq, invRows_eq, invRows_eq, scaleRows_eq, rowCov_rowPieces, rowCov_rowPieces, rowCov8_rowPieces]; exact read_codes_all _ _ _
  have e7 : ∀ f, arg9.view.read (Elt F) (arg9.view.writes (Elt F) f (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4).2.2.1) = codeBlk (loadsAt x0 x1 x2 x3 x4 i).k8 := by
    intro f; rw [k8_A c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 hc0 hc1, slice_eq, slice_eq, slice_eq, invRows_eq, invRows_eq, scaleRows_eq, rowCov_rowPieces, rowCov_rowPieces, rowCov8_rowPieces]; exact read_codes_all _ _ _
  have s0 : ∀ f, arg12.view.read (Elt F) (arg12.view.writes (Elt F) f (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4).2.2.2.2.2.1) = tabOf (invOf x0 i) := by
    intro f; rw [tab0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 hc0 hc1, invRows_eq]; exact read_tab_all _ _ _
  have s1 : ∀ f, arg13.view.read (Elt F) (arg13.view.writes (Elt F) f (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4).2.2.2.2.2.2.1) = tabOf (invOf x1 i) := by
    intro f; rw [tab1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 hc0 hc1, invRows_eq]; exact read_tab_all _ _ _
  have s2 : ∀ f, arg14.view.read (Elt F) (arg14.view.writes (Elt F) f (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4).2.2.2.2.2.2.2.1) = tabOf8 (facOf x0 x1 i) := by
    intro f; rw [tab2_A c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 hc0 hc1, scaleRows_eq]; exact read_tab8_all _ _ _
  have s3 : ∀ f, arg15.view.read (Elt F) (arg15.view.writes (Elt F) f (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4).2.2.2.2.2.2.2.2.1) = tabOf (stepMax (sliceOf x2) (rowOf k0_pay127)) := by
    intro f; rw [maxq_A c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 hc0 hc1, slice_eq]; exact read_max0 _ _ _ _
  have s4 : ∀ f, arg16.view.read (Elt F) (arg16.view.writes (Elt F) f (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4).2.2.2.2.2.2.2.2.2.1) = tabOf (stepMax (sliceOf x3) (rowOf k0_pay128)) := by
    intro f; rw [maxk_A c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 hc0 hc1, slice_eq]; exact read_max0 _ _ _ _
  iintro ⟨H0, H1, H2, H3, H4, H5, H6, H7, H8, H9, HS0, HS1, HS2, HS3, HS4, Hk⟩
  iapply ((kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4).2.2.2.2.2.2.2.2.2.2 xi8 xi9 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, H9, HS0, HS1, HS2, HS3, HS4⟩
  iapply Hk
  isplitl [H0]; · iexact H0
  isplitl [H1]; · iexact H1
  isplitl [H2]; · iexact H2
  isplitl [H3]; · iexact H3
  isplitl [H4]; · iexact H4
  isplitl [H5]; · iapply (owns_of_writes c _ _ _ e5); iexact H5
  isplitl [H6]; · iapply (owns_of_writes c _ _ _ e6); iexact H6
  isplitl [H7]; · iapply (owns_of_writes c _ _ _ e7); iexact H7
  isplitl [H8]; · iexact H8
  isplitl [H9]; · iexact H9
  isplitl [HS0]; · iapply (owns_of_writes c _ _ _ s0); iexact HS0
  isplitl [HS1]; · iapply (owns_of_writes c _ _ _ s1); iexact HS1
  isplitl [HS2]; · iapply (owns_of_writes c _ _ _ s2); iexact HS2
  isplitl [HS3]; · iapply (owns_of_writes c _ _ _ s3); iexact HS3
  iapply (owns_of_writes c _ _ _ s4); iexact HS4

set_option maxHeartbeats 4000000 in
/-- The body at a point between: it reads the tables and goes on with the maxima. -/
theorem step_B (c : Dev nD) (i : grid0.Coords) (arg2 : Memref sig .tc .smem S3x24 .f32) (harg2 : arg2.IsWhole)
  (arg3 : Memref sig .tc .smem S3x24 .f32) (harg3 : arg3.IsWhole)
  (arg4 : Memref sig .tc .vmem S1x32x96x128 .bf16) (harg4 : arg4.IsWhole)
  (arg5 : Memref sig .tc .vmem S1x32x96x128 .bf16) (harg5 : arg5.IsWhole)
  (arg6 : Memref sig .tc .vmem S1x32x96x128 .bf16) (harg6 : arg6.IsWhole)
  (arg7 : Memref sig .tc .vmem S1x32x96x128 .bf16) (harg7 : arg7.IsWhole)
  (arg8 : Memref sig .tc .vmem S1x32x96x128 .fp8e4m3) (harg8 : arg8.IsWhole)
  (arg9 : Memref sig .tc .vmem S1x32x96x128 .fp8e4m3) (harg9 : arg9.IsWhole)
  (arg10 : Memref sig .tc .vmem S3x24 .f32) (harg10 : arg10.IsWhole)
  (arg11 : Memref sig .tc .vmem S3x24 .f32) (harg11 : arg11.IsWhole)
  (arg12 : Memref sig .tc .vmem S12x16x128 .bf16) (harg12 : arg12.IsWhole)
  (arg13 : Memref sig .tc .vmem S12x16x128 .bf16) (harg13 : arg13.IsWhole)
  (arg14 : Memref sig .tc .vmem S12x8x128 .f32) (harg14 : arg14.IsWhole)
  (arg15 : Memref sig .tc .vmem S12x16x128 .bf16) (harg15 : arg15.IsWhole)
  (arg16 : Memref sig .tc .vmem S12x16x128 .bf16) (harg16 : arg16.IsWhole)
  (x0 x1 : Vec F S3x24 .f32) (x2 x3 x4 : Vec F S1x32x96x128 .bf16) (o3 o4 : (h : ℕ) → h < 12 → Vec F S1x16x128 .bf16) (hc0 : ¬cond0_0 i) (hc1 : ¬cond0_1 i) (xi8 xi9 : Vec F S3x24 .f32) (E : Set ℕ) (K : PUnit → sProp 𝕄) :
  iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xi8 ∗ owns (c : Thread nD τ) arg11 fullShare xi9 ∗ owns (c : Thread nD τ) arg12 fullShare (tabOf (invOf x0 i)) ∗ owns (c : Thread nD τ) arg13 fullShare (tabOf (invOf x1 i)) ∗ owns (c : Thread nD τ) arg14 fullShare (tabOf8 (facOf x0 x1 i)) ∗ owns (c : Thread nD τ) arg15 fullShare (tabOf o3) ∗ owns (c : Thread nD τ) arg16 fullShare (tabOf o4)
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (outBlk (loadsAt x0 x1 x2 x3 x4 i)) ∗ owns (c : Thread nD τ) arg8 fullShare (codeBlk (loadsAt x0 x1 x2 x3 x4 i).q8) ∗ owns (c : Thread nD τ) arg9 fullShare (codeBlk (loadsAt x0 x1 x2 x3 x4 i).k8) ∗ owns (c : Thread nD τ) arg10 fullShare xi8 ∗ owns (c : Thread nD τ) arg11 fullShare xi9 ∗ owns (c : Thread nD τ) arg12 fullShare (tabOf (invOf x0 i)) ∗ owns (c : Thread nD τ) arg13 fullShare (tabOf (invOf x1 i)) ∗ owns (c : Thread nD τ) arg14 fullShare (tabOf8 (facOf x0 x1 i)) ∗ owns (c : Thread nD τ) arg15 fullShare (tabOf (stepMax (sliceOf x2) o3)) ∗ owns (c : Thread nD τ) arg16 fullShare (tabOf (stepMax (sliceOf x3) o4))) -∗ K ⟨⟩))
    ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  have e5 : ∀ f, arg7.view.read (Elt F) (arg7.view.writes (Elt F) f (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 (tabOf (invOf x0 i)) (tabOf (invOf x1 i)) (tabOf8 (facOf x0 x1 i)) (tabOf o3) (tabOf o4)).1) = outBlk (loadsAt x0 x1 x2 x3 x4 i) := by
    intro f; rw [out_B c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 (tabOf (invOf x0 i)) (tabOf (invOf x1 i)) (tabOf8 (facOf x0 x1 i)) (tabOf o3) (tabOf o4) hc0 hc1, slice_eq, slice_eq, slice_eq, row_eq, row_eq, row8_eq, rowOf_tabOf, rowOf_tabOf, rowOf8_tabOf8]; exact read_outs_all _ _ _
  have e6 : ∀ f, arg8.view.read (Elt F) (arg8.view.writes (Elt F) f (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 (tabOf (invOf x0 i)) (tabOf (invOf x1 i)) (tabOf8 (facOf x0 x1 i)) (tabOf o3) (tabOf o4)).2.1) = codeBlk (loadsAt x0 x1 x2 x3 x4 i).q8 := by
    intro f; rw [q8_B c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 (tabOf (invOf x0 i)) (tabOf (invOf x1 i)) (tabOf8 (facOf x0 x1 i)) (tabOf o3) (tabOf o4) hc0 hc1, slice_eq, slice_eq, slice_eq, row_eq, row_eq, row8_eq, rowOf_tabOf, rowOf_tabOf, rowOf8_tabOf8]; exact read_codes_all _ _ _
  have e7 : ∀ f, arg9.view.read (Elt F) (arg9.view.writes (Elt F) f (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 (tabOf (invOf x0 i)) (tabOf (invOf x1 i)) (tabOf8 (facOf x0 x1 i)) (tabOf o3) (tabOf o4)).2.2.1) = codeBlk (loadsAt x0 x1 x2 x3 x4 i).k8 := by
    intro f; rw [k8_B c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 (tabOf (invOf x0 i)) (tabOf (invOf x1 i)) (tabOf8 (facOf x0 x1 i)) (tabOf o3) (tabOf o4) hc0 hc1, slice_eq, slice_eq, slice_eq, row_eq, row_eq, row8_eq, rowOf_tabOf, rowOf_tabOf, rowOf8_tabOf8]; exact read_codes_all _ _ _
  have s3 : ∀ f, arg15.view.read (Elt F) (arg15.view.writes (Elt F) f (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 (tabOf (invOf x0 i)) (tabOf (invOf x1 i)) (tabOf8 (facOf x0 x1 i)) (tabOf o3) (tabOf o4)).2.2.2.2.2.2.2.2.1) = tabOf (stepMax (sliceOf x2) o3) := by
    intro f; rw [maxq_B c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 (tabOf (invOf x0 i)) (tabOf (invOf x1 i)) (tabOf8 (facOf x0 x1 i)) (tabOf o3) (tabOf o4) hc0 hc1, slice_eq, row_eq, rowOf_tabOf]; exact read_max _ _ _ _
  have s4 : ∀ f, arg16.view.read (Elt F) (arg16.view.writes (Elt F) f (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 (tabOf (invOf x0 i)) (tabOf (invOf x1 i)) (tabOf8 (facOf x0 x1 i)) (tabOf o3) (tabOf o4)).2.2.2.2.2.2.2.2.2.1) = tabOf (stepMax (sliceOf x3) o4) := by
    intro f; rw [maxk_B c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 (tabOf (invOf x0 i)) (tabOf (invOf x1 i)) (tabOf8 (facOf x0 x1 i)) (tabOf o3) (tabOf o4) hc0 hc1, slice_eq, row_eq, rowOf_tabOf]; exact read_max _ _ _ _
  iintro ⟨H0, H1, H2, H3, H4, H5, H6, H7, H8, H9, HS0, HS1, HS2, HS3, HS4, Hk⟩
  iapply ((kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 (tabOf (invOf x0 i)) (tabOf (invOf x1 i)) (tabOf8 (facOf x0 x1 i)) (tabOf o3) (tabOf o4)).2.2.2.2.2.2.2.2.2.2 xi8 xi9 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, H9, HS0, HS1, HS2, HS3, HS4⟩
  iapply Hk
  isplitl [H0]; · iexact H0
  isplitl [H1]; · iexact H1
  isplitl [H2]; · iexact H2
  isplitl [H3]; · iexact H3
  isplitl [H4]; · iexact H4
  isplitl [H5]; · iapply (owns_of_writes c _ _ _ e5); iexact H5
  isplitl [H6]; · iapply (owns_of_writes c _ _ _ e6); iexact H6
  isplitl [H7]; · iapply (owns_of_writes c _ _ _ e7); iexact H7
  isplitl [H8]; · iexact H8
  isplitl [H9]; · iexact H9
  isplitl [HS0]; · iexact HS0
  isplitl [HS1]; · iexact HS1
  isplitl [HS2]; · iexact HS2
  isplitl [HS3]; · iapply (owns_of_writes c _ _ _ s3); iexact HS3
  iapply (owns_of_writes c _ _ _ s4); iexact HS4

set_option maxHeartbeats 4000000 in
/-- The body at a batch entry's last point: it also stores the entry's rows of maxima. -/
theorem step_C (c : Dev nD) (i : grid0.Coords) (arg2 : Memref sig .tc .smem S3x24 .f32) (harg2 : arg2.IsWhole)
  (arg3 : Memref sig .tc .smem S3x24 .f32) (harg3 : arg3.IsWhole)
  (arg4 : Memref sig .tc .vmem S1x32x96x128 .bf16) (harg4 : arg4.IsWhole)
  (arg5 : Memref sig .tc .vmem S1x32x96x128 .bf16) (harg5 : arg5.IsWhole)
  (arg6 : Memref sig .tc .vmem S1x32x96x128 .bf16) (harg6 : arg6.IsWhole)
  (arg7 : Memref sig .tc .vmem S1x32x96x128 .bf16) (harg7 : arg7.IsWhole)
  (arg8 : Memref sig .tc .vmem S1x32x96x128 .fp8e4m3) (harg8 : arg8.IsWhole)
  (arg9 : Memref sig .tc .vmem S1x32x96x128 .fp8e4m3) (harg9 : arg9.IsWhole)
  (arg10 : Memref sig .tc .vmem S3x24 .f32) (harg10 : arg10.IsWhole)
  (arg11 : Memref sig .tc .vmem S3x24 .f32) (harg11 : arg11.IsWhole)
  (arg12 : Memref sig .tc .vmem S12x16x128 .bf16) (harg12 : arg12.IsWhole)
  (arg13 : Memref sig .tc .vmem S12x16x128 .bf16) (harg13 : arg13.IsWhole)
  (arg14 : Memref sig .tc .vmem S12x8x128 .f32) (harg14 : arg14.IsWhole)
  (arg15 : Memref sig .tc .vmem S12x16x128 .bf16) (harg15 : arg15.IsWhole)
  (arg16 : Memref sig .tc .vmem S12x16x128 .bf16) (harg16 : arg16.IsWhole)
  (x0 x1 : Vec F S3x24 .f32) (x2 x3 x4 : Vec F S1x32x96x128 .bf16) (o3 o4 : (h : ℕ) → h < 12 → Vec F S1x16x128 .bf16) (hc0 : ¬cond0_0 i) (hc1 : cond0_1 i) (xi8 xi9 : Vec F S3x24 .f32) (E : Set ℕ) (K : PUnit → sProp 𝕄) :
  iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xi8 ∗ owns (c : Thread nD τ) arg11 fullShare xi9 ∗ owns (c : Thread nD τ) arg12 fullShare (tabOf (invOf x0 i)) ∗ owns (c : Thread nD τ) arg13 fullShare (tabOf (invOf x1 i)) ∗ owns (c : Thread nD τ) arg14 fullShare (tabOf8 (facOf x0 x1 i)) ∗ owns (c : Thread nD τ) arg15 fullShare (tabOf o3) ∗ owns (c : Thread nD τ) arg16 fullShare (tabOf o4)
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (outBlk (loadsAt x0 x1 x2 x3 x4 i)) ∗ owns (c : Thread nD τ) arg8 fullShare (codeBlk (loadsAt x0 x1 x2 x3 x4 i).q8) ∗ owns (c : Thread nD τ) arg9 fullShare (codeBlk (loadsAt x0 x1 x2 x3 x4 i).k8) ∗ owns (c : Thread nD τ) arg10 fullShare (putRow i xi8 (amaxRow (stepMax (sliceOf x2) o3))) ∗ owns (c : Thread nD τ) arg11 fullShare (putRow i xi9 (amaxRow (stepMax (sliceOf x3) o4))) ∗ owns (c : Thread nD τ) arg12 fullShare (tabOf (invOf x0 i)) ∗ owns (c : Thread nD τ) arg13 fullShare (tabOf (invOf x1 i)) ∗ owns (c : Thread nD τ) arg14 fullShare (tabOf8 (facOf x0 x1 i)) ∗ owns (c : Thread nD τ) arg15 fullShare (tabOf (stepMax (sliceOf x2) o3)) ∗ owns (c : Thread nD τ) arg16 fullShare (tabOf (stepMax (sliceOf x3) o4))) -∗ K ⟨⟩))
    ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  have e5 : ∀ f, arg7.view.read (Elt F) (arg7.view.writes (Elt F) f (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 (tabOf (invOf x0 i)) (tabOf (invOf x1 i)) (tabOf8 (facOf x0 x1 i)) (tabOf o3) (tabOf o4)).1) = outBlk (loadsAt x0 x1 x2 x3 x4 i) := by
    intro f; rw [out_C c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 (tabOf (invOf x0 i)) (tabOf (invOf x1 i)) (tabOf8 (facOf x0 x1 i)) (tabOf o3) (tabOf o4) hc0 hc1, slice_eq, slice_eq, slice_eq, row_eq, row_eq, row8_eq, rowOf_tabOf, rowOf_tabOf, rowOf8_tabOf8]; exact read_outs_all _ _ _
  have e6 : ∀ f, arg8.view.read (Elt F) (arg8.view.writes (Elt F) f (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 (tabOf (invOf x0 i)) (tabOf (invOf x1 i)) (tabOf8 (facOf x0 x1 i)) (tabOf o3) (tabOf o4)).2.1) = codeBlk (loadsAt x0 x1 x2 x3 x4 i).q8 := by
    intro f; rw [q8_C c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 (tabOf (invOf x0 i)) (tabOf (invOf x1 i)) (tabOf8 (facOf x0 x1 i)) (tabOf o3) (tabOf o4) hc0 hc1, slice_eq, slice_eq, slice_eq, row_eq, row_eq, row8_eq, rowOf_tabOf, rowOf_tabOf, rowOf8_tabOf8]; exact read_codes_all _ _ _
  have e7 : ∀ f, arg9.view.read (Elt F) (arg9.view.writes (Elt F) f (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 (tabOf (invOf x0 i)) (tabOf (invOf x1 i)) (tabOf8 (facOf x0 x1 i)) (tabOf o3) (tabOf o4)).2.2.1) = codeBlk (loadsAt x0 x1 x2 x3 x4 i).k8 := by
    intro f; rw [k8_C c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 (tabOf (invOf x0 i)) (tabOf (invOf x1 i)) (tabOf8 (facOf x0 x1 i)) (tabOf o3) (tabOf o4) hc0 hc1, slice_eq, slice_eq, slice_eq, row_eq, row_eq, row8_eq, rowOf_tabOf, rowOf_tabOf, rowOf8_tabOf8]; exact read_codes_all _ _ _
  have s3 : ∀ f, arg15.view.read (Elt F) (arg15.view.writes (Elt F) f (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 (tabOf (invOf x0 i)) (tabOf (invOf x1 i)) (tabOf8 (facOf x0 x1 i)) (tabOf o3) (tabOf o4)).2.2.2.2.2.2.2.2.1) = tabOf (stepMax (sliceOf x2) o3) := by
    intro f; rw [maxq_C c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 (tabOf (invOf x0 i)) (tabOf (invOf x1 i)) (tabOf8 (facOf x0 x1 i)) (tabOf o3) (tabOf o4) hc0 hc1, slice_eq, row_eq, rowOf_tabOf]; exact read_max _ _ _ _
  have s4 : ∀ f, arg16.view.read (Elt F) (arg16.view.writes (Elt F) f (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 (tabOf (invOf x0 i)) (tabOf (invOf x1 i)) (tabOf8 (facOf x0 x1 i)) (tabOf o3) (tabOf o4)).2.2.2.2.2.2.2.2.2.1) = tabOf (stepMax (sliceOf x3) o4) := by
    intro f; rw [maxk_C c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 (tabOf (invOf x0 i)) (tabOf (invOf x1 i)) (tabOf8 (facOf x0 x1 i)) (tabOf o3) (tabOf o4) hc0 hc1, slice_eq, row_eq, rowOf_tabOf]; exact read_max _ _ _ _
  have e8 : arg10.view.read (Elt F) (arg10.view.writes (Elt F) (harg10.unread xi8) (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 (tabOf (invOf x0 i)) (tabOf (invOf x1 i)) (tabOf8 (facOf x0 x1 i)) (tabOf o3) (tabOf o4)).2.2.2.1) = (putRow i xi8 (amaxRow (stepMax (sliceOf x2) o3))) := by
    rw [amax8_C c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 (tabOf (invOf x0 i)) (tabOf (invOf x1 i)) (tabOf8 (facOf x0 x1 i)) (tabOf o3) (tabOf o4) hc0 hc1, slice_eq, row_eq, rowOf_tabOf, cov_max]; exact read_putRow harg10 i _ xi8 _
  have e9 : arg11.view.read (Elt F) (arg11.view.writes (Elt F) (harg11.unread xi9) (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 (tabOf (invOf x0 i)) (tabOf (invOf x1 i)) (tabOf8 (facOf x0 x1 i)) (tabOf o3) (tabOf o4)).2.2.2.2.1) = (putRow i xi9 (amaxRow (stepMax (sliceOf x3) o4))) := by
    rw [amax9_C c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 (tabOf (invOf x0 i)) (tabOf (invOf x1 i)) (tabOf8 (facOf x0 x1 i)) (tabOf o3) (tabOf o4) hc0 hc1, slice_eq, row_eq, rowOf_tabOf, cov_max]; exact read_putRow harg11 i _ xi9 _
  iintro ⟨H0, H1, H2, H3, H4, H5, H6, H7, H8, H9, HS0, HS1, HS2, HS3, HS4, Hk⟩
  iapply ((kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 (tabOf (invOf x0 i)) (tabOf (invOf x1 i)) (tabOf8 (facOf x0 x1 i)) (tabOf o3) (tabOf o4)).2.2.2.2.2.2.2.2.2.2 xi8 xi9 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, H9, HS0, HS1, HS2, HS3, HS4⟩
  iapply Hk
  isplitl [H0]; · iexact H0
  isplitl [H1]; · iexact H1
  isplitl [H2]; · iexact H2
  isplitl [H3]; · iexact H3
  isplitl [H4]; · iexact H4
  isplitl [H5]; · iapply (owns_of_writes c _ _ _ e5); iexact H5
  isplitl [H6]; · iapply (owns_of_writes c _ _ _ e6); iexact H6
  isplitl [H7]; · iapply (owns_of_writes c _ _ _ e7); iexact H7
  isplitl [H8]; · iapply (owns_of_writes' c _ _ _ _ e8); iexact H8
  isplitl [H9]; · iapply (owns_of_writes' c _ _ _ _ e9); iexact H9
  isplitl [HS0]; · iexact HS0
  isplitl [HS1]; · iexact HS1
  isplitl [HS2]; · iexact HS2
  isplitl [HS3]; · iapply (owns_of_writes c _ _ _ s3); iexact HS3
  iapply (owns_of_writes c _ _ _ s4); iexact HS4

end Cert.KernelIdeal.Block

end
-- ==== Proof.KFrame.lean ====
/-
  The idealized kernel's run: what every buffer holds after each grid point, and the arrays at the end.

  The tables of a batch entry are filled at its first point and read at its others; the running maxima go from point to
  point; the two blocks of maxima are written one row per batch entry, so of them it is stated which rows are known.
-/
module

public import proofs.«01_k».proof.Proof.Step
public import Idealize.ShloMosaic.Lib.Claim

@[expose] public section

set_option maxRecDepth 16384

noncomputable section

namespace Cert.KernelIdeal.Block

open Idealize.ShloMosaic Idealize.ShloMosaic.TcCoe Idealize.ShloMosaic.Tactic Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What the points compute -/

theorem coords_0 : ∀ t : Fin cfg0.N, ((grid0.coords t) 0).val = t.val / 96 := by decide +kernel

/-- A head's scale is the word of the point's batch entry and the head. -/
theorem scaleOf_eq (x : Vec F S3x24 .f32) (i : grid0.Coords) (h : ℕ) (hh : h < 24) :
    scaleOf x i h hh = x (ix2 (n0 := 3) (n1 := 24) ⟨(i 0).val, (i 0).isLt⟩ ⟨h, hh⟩) := by
  have h0 : soff i h 0 = (i 0).val := off25_0 i
  unfold scaleOf
  congr 1
  funext a
  match a with
  | ⟨0, _⟩ => exact Fin.ext (by show soff i h 0 + 1 * 0 = (i 0).val; omega)
  | ⟨1, _⟩ => exact Fin.ext (by show h + 1 * 0 = h; omega)

/-- Everything the groups of point `t` read. -/
def ldAt (c : Dev nD) (t : Fin cfg0.N) : Loads F :=
  loadsAt (iblk m c 0 t) (iblk m c 1 t) (iblk m c 2 t) (iblk m c 3 t) (iblk m c 4 t) (grid0.coords t)

/-- The query's running maxima after point `n`. -/
def qmax (c : Dev nD) : (n : ℕ) → n < cfg0.N → (h : ℕ) → h < 12 → Vec F S1x16x128 .bf16
  | 0, hn => stepMax (sliceOf (iblk m c 2 ⟨0, hn⟩)) (rowOf k0_pay127)
  | n + 1, hn => stepMax (sliceOf (iblk m c 2 ⟨n + 1, hn⟩)) (if (n + 1) % 96 = 0 then rowOf k0_pay127 else qmax c n (Nat.lt_of_succ_lt hn))

/-- The key's running maxima after point `n`. -/
def kmax (c : Dev nD) : (n : ℕ) → n < cfg0.N → (h : ℕ) → h < 12 → Vec F S1x16x128 .bf16
  | 0, hn => stepMax (sliceOf (iblk m c 3 ⟨0, hn⟩)) (rowOf k0_pay128)
  | n + 1, hn => stepMax (sliceOf (iblk m c 3 ⟨n + 1, hn⟩)) (if (n + 1) % 96 = 0 then rowOf k0_pay128 else kmax c n (Nat.lt_of_succ_lt hn))

theorem qmax_A (c : Dev nD) (t : Fin cfg0.N) (h : t.val % 96 = 0) : qmax m c t.val t.isLt = stepMax (sliceOf (iblk m c 2 t)) (rowOf k0_pay127) := by
  obtain ⟨n, hn⟩ := t
  cases n with
  | zero => rfl
  | succ n => show stepMax _ (if (n + 1) % 96 = 0 then rowOf k0_pay127 else _) = _; rw [if_pos h]

theorem kmax_A (c : Dev nD) (t : Fin cfg0.N) (h : t.val % 96 = 0) : kmax m c t.val t.isLt = stepMax (sliceOf (iblk m c 3 t)) (rowOf k0_pay128) := by
  obtain ⟨n, hn⟩ := t
  cases n with
  | zero => rfl
  | succ n => show stepMax _ (if (n + 1) % 96 = 0 then rowOf k0_pay128 else _) = _; rw [if_pos h]

theorem qmax_B (c : Dev nD) (t : Fin cfg0.N) (h : ¬t.val % 96 = 0) :
    qmax m c t.val t.isLt = stepMax (sliceOf (iblk m c 2 t)) (qmax m c (t.val - 1) (Nat.lt_of_le_of_lt (Nat.sub_le _ _) t.isLt)) := by
  obtain ⟨n, hn⟩ := t
  cases n with
  | zero => exact absurd (Nat.zero_mod _) h
  | succ n => show stepMax _ (if (n + 1) % 96 = 0 then rowOf k0_pay127 else _) = _; rw [if_neg h]; rfl

theorem kmax_B (c : Dev nD) (t : Fin cfg0.N) (h : ¬t.val % 96 = 0) :
    kmax m c t.val t.isLt = stepMax (sliceOf (iblk m c 3 t)) (kmax m c (t.val - 1) (Nat.lt_of_le_of_lt (Nat.sub_le _ _) t.isLt)) := by
  obtain ⟨n, hn⟩ := t
  cases n with
  | zero => exact absurd (Nat.zero_mod _) h
  | succ n => show stepMax _ (if (n + 1) % 96 = 0 then rowOf k0_pay128 else _) = _; rw [if_neg h]; rfl

/-- The tables of point `t`'s batch entry. -/
def tabQ (c : Dev nD) (t : Fin cfg0.N) : Vec F S12x16x128 .bf16 := tabOf (invOf (iblk m c 0 t) (grid0.coords t))
def tabK (c : Dev nD) (t : Fin cfg0.N) : Vec F S12x16x128 .bf16 := tabOf (invOf (iblk m c 1 t) (grid0.coords t))
def tabC (c : Dev nD) (t : Fin cfg0.N) : Vec F S12x8x128 .f32 := tabOf8 (facOf (iblk m c 0 t) (iblk m c 1 t) (grid0.coords t))

/-- The scales' block is the whole array at every point. -/
theorem iblk_0 (c : Dev nD) (t t' : Fin cfg0.N) : (iblk m c 0 t : Vec F S3x24 .f32) = iblk m c 0 t' := rfl
theorem iblk_1 (c : Dev nD) (t t' : Fin cfg0.N) : (iblk m c 1 t : Vec F S3x24 .f32) = iblk m c 1 t' := rfl

theorem scaleOf_congr (x : Vec F S3x24 .f32) (i i' : grid0.Coords) (e : (i 0).val = (i' 0).val) (h : ℕ) (hh : h < 24) : scaleOf x i h hh = scaleOf x i' h hh := by
  rw [scaleOf_eq, scaleOf_eq]; congr 2; exact Fin.ext e

theorem invOf_congr (x : Vec F S3x24 .f32) (i i' : grid0.Coords) (e : (i 0).val = (i' 0).val) : invOf x i = invOf x i' := by
  funext h hh; unfold invOf; rw [scaleOf_congr x i i' e, scaleOf_congr x i i' e]

theorem facOf_congr (x x' : Vec F S3x24 .f32) (i i' : grid0.Coords) (e : (i 0).val = (i' 0).val) : facOf x x' i = facOf x x' i' := by
  funext h hh; unfold facOf; rw [scaleOf_congr x i i' e, scaleOf_congr x i i' e, scaleOf_congr x' i i' e, scaleOf_congr x' i i' e]

theorem coords_pred (t t' : Fin cfg0.N) (ht : t'.val = t.val - 1) (h : ¬t.val % 96 = 0) : ((grid0.coords t') 0).val = ((grid0.coords t) 0).val := by
  rw [coords_0, coords_0]; omega

theorem tabQ_pred (c : Dev nD) (t t' : Fin cfg0.N) (ht : t'.val = t.val - 1) (h : ¬t.val % 96 = 0) : tabQ m c t' = tabQ m c t := by
  unfold tabQ; rw [iblk_0 m c t' t, invOf_congr _ _ _ (coords_pred t t' ht h)]
theorem tabK_pred (c : Dev nD) (t t' : Fin cfg0.N) (ht : t'.val = t.val - 1) (h : ¬t.val % 96 = 0) : tabK m c t' = tabK m c t := by
  unfold tabK; rw [iblk_1 m c t' t, invOf_congr _ _ _ (coords_pred t t' ht h)]
theorem tabC_pred (c : Dev nD) (t t' : Fin cfg0.N) (ht : t'.val = t.val - 1) (h : ¬t.val % 96 = 0) : tabC m c t' = tabC m c t := by
  unfold tabC; rw [iblk_0 m c t' t, iblk_1 m c t' t, facOf_congr _ _ _ _ (coords_pred t t' ht h)]

/-- The block of maxima after a point: its batch entry's row replaced at the entry's last point. -/
def upd (mx : (n : ℕ) → n < cfg0.N → (h : ℕ) → h < 12 → Vec F S1x16x128 .bf16) (t : Fin cfg0.N) (X : Vec F S3x24 .f32) : Vec F S3x24 .f32 :=
  if t.val % 96 = 95 then putRow (grid0.coords t) X (amaxRow (mx t.val t.isLt)) else X

/-- The rows of the block of maxima that are known after a point: those of the batch entries that are finished. -/
def Rows (mx : (n : ℕ) → n < cfg0.N → (h : ℕ) → h < 12 → Vec F S1x16x128 .bf16) (t : Fin cfg0.N) (X : Vec F S3x24 .f32) : Prop :=
  ∀ (b : ℕ) (hb : 96 * b + 95 ≤ t.val) (y : S3x24.Idx), (y 0).val = b →
    X y = amaxRow (mx (96 * b + 95) (Nat.lt_of_le_of_lt hb t.isLt)) (ix2 (n0 := 1) (n1 := 24) 0 (y 1))

theorem rows_upd (mx : (n : ℕ) → n < cfg0.N → (h : ℕ) → h < 12 → Vec F S1x16x128 .bf16) (t : Fin cfg0.N) (X : Vec F S3x24 .f32)
    (h : t.val ≠ 0 → Rows mx ⟨t.val - 1, Nat.lt_of_le_of_lt (Nat.sub_le _ _) t.isLt⟩ X) : Rows mx t (upd mx t X) := by
  intro b hb y hy
  have h0 : t.val ≠ 0 := by omega
  have hc := coords_0 t
  unfold upd
  by_cases h1 : t.val % 96 = 95
  · rw [if_pos h1]
    unfold putRow
    by_cases e : 96 * b + 95 = t.val
    · rw [if_pos (by omega)]
      have : mx (96 * b + 95) (Nat.lt_of_le_of_lt hb t.isLt) = mx t.val t.isLt := by congr 1
      rw [this]
    · rw [if_neg (by omega)]
      exact h h0 b (by show 96 * b + 95 ≤ t.val - 1; omega) y hy
  · rw [if_neg h1]
    exact h h0 b (by show 96 * b + 95 ≤ t.val - 1; omega) y hy

/-! ## The invariant -/

def PhiS (c : Dev nD) : (n : ℕ) → n ≤ cfg0.N → sProp 𝕄
  | 0, _ => Pipeline.ΦA spec0 c
  | n + 1, hn => iprop(iprop(owns (c : Thread nD τ) scM0_0 fullShare (tabQ m c ⟨n, hn⟩) ∗ owns (c : Thread nD τ) scM0_1 fullShare (tabK m c ⟨n, hn⟩)
      ∗ owns (c : Thread nD τ) scM0_2 fullShare (tabC m c ⟨n, hn⟩) ∗ owns (c : Thread nD τ) scM0_3 fullShare (tabOf (qmax m c n hn))
      ∗ owns (c : Thread nD τ) scM0_4 fullShare (tabOf (kmax m c n hn))) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (t : Fin cfg0.N) :
    PhiS m c (t.val + 1) t.isLt = iprop(iprop(owns (c : Thread nD τ) scM0_0 fullShare (tabQ m c t) ∗ owns (c : Thread nD τ) scM0_1 fullShare (tabK m c t)
      ∗ owns (c : Thread nD τ) scM0_2 fullShare (tabC m c t) ∗ owns (c : Thread nD τ) scM0_3 fullShare (tabOf (qmax m c t.val t.isLt))
      ∗ owns (c : Thread nD τ) scM0_4 fullShare (tabOf (kmax m c t.val t.isLt))) ∗ (∃ r, prngReg c r)) := rfl

theorem PhiS_pos (c : Dev nD) (n : ℕ) (h : n ≤ cfg0.N) (hz : n ≠ 0) :
    PhiS m c n h = iprop(iprop(owns (c : Thread nD τ) scM0_0 fullShare (tabQ m c ⟨n - 1, by omega⟩) ∗ owns (c : Thread nD τ) scM0_1 fullShare (tabK m c ⟨n - 1, by omega⟩)
      ∗ owns (c : Thread nD τ) scM0_2 fullShare (tabC m c ⟨n - 1, by omega⟩) ∗ owns (c : Thread nD τ) scM0_3 fullShare (tabOf (qmax m c (n - 1) (by omega)))
      ∗ owns (c : Thread nD τ) scM0_4 fullShare (tabOf (kmax m c (n - 1) (by omega)))) ∗ (∃ r, prngReg c r)) := by
  cases n with
  | zero => exact absurd rfl hz
  | succ n => rfl

/-- At a batch entry's first point the invariant's scratch is used at anything. -/
theorem PhiS_any (c : Dev nD) (n : ℕ) (h : n ≤ cfg0.N) : PhiS m c n h ⊢ Pipeline.ΦA spec0 c := by
  by_cases hz : n = 0
  · rw [PhiS_zero m c n h hz]
    try exact Idealize.SL.BI.Entails.refl _
  · rw [PhiS_pos m c n h hz, PhiA0_eq]
    iintro ⟨⟨HS0, HS1, HS2, HS3, HS4⟩, Hg⟩
    isplitl [HS0 HS1 HS2 HS3 HS4]
    · isplitl [HS0]; · iexists _; iexact HS0
      isplitl [HS1]; · iexists _; iexact HS1
      isplitl [HS2]; · iexists _; iexact HS2
      isplitl [HS3]; · iexists _; iexact HS3
      iexists _; iexact HS4
    iexact Hg

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlk (ldAt m c t)
    | ⟨6, _⟩ => codeBlk (ldAt m c t).q8
    | ⟨7, _⟩ => codeBlk (ldAt m c t).k8
    | ⟨8, h⟩ => Pipeline.Dat.unnamed (cfg := cfg0) ⟨8, h⟩ t
    | ⟨9, h⟩ => Pipeline.Dat.unnamed (cfg := cfg0) ⟨9, h⟩ t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outBlk (ldAt m c t) := by dsimp only [dats]
theorem after0_6 (c : Dev nD) (t : Fin cfg0.N) : (dats m 0 c).after 6 t = codeBlk (ldAt m c t).q8 := by dsimp only [dats]
theorem after0_7 (c : Dev nD) (t : Fin cfg0.N) : (dats m 0 c).after 7 t = codeBlk (ldAt m c t).k8 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- The two blocks of maxima are known by rows. -/
def ovr (c : Dev nD) : (w : Fin cfg0.W) → Option (Fin cfg0.N → (Y X : (cfg0.win w).block.Idx → Elt F (cfg0.win w).elt) → Prop) := fun w =>
  match w with
  | ⟨0, _⟩ => none
  | ⟨1, _⟩ => none
  | ⟨2, _⟩ => none
  | ⟨3, _⟩ => none
  | ⟨4, _⟩ => none
  | ⟨5, _⟩ => none
  | ⟨6, _⟩ => none
  | ⟨7, _⟩ => none
  | ⟨8, _⟩ => some fun t _ X => Rows (qmax m c) t X
  | ⟨9, _⟩ => some fun t _ X => Rows (kmax m c) t X

/-- The proof data of core `c`. -/
abbrev rdat (c : Dev nD) : RDat τ (Elt F) Unit ℕ (UR sig nD τ) ℕ cfg0 c := (dats m 0 c).toR.override (ovr m c)

/-! ## The body at any point -/

def bodyPre (c : Dev nD) (t : Fin cfg0.N) (X8 X9 : Vec F S3x24 .f32) : sProp 𝕄 :=
  iprop(PhiS m c t.val (Nat.le_of_lt t.isLt) ∗ (dats m 0 c).owesAt () t.castSucc
    ∗ owns (c : Thread nD τ) (ms0_0 t) fullShare (iblk m c 0 t)
    ∗ owns (c : Thread nD τ) (ms0_1 t) fullShare (iblk m c 1 t)
    ∗ owns (c : Thread nD τ) (ms0_2 t) fullShare (iblk m c 2 t)
    ∗ owns (c : Thread nD τ) (ms0_3 t) fullShare (iblk m c 3 t)
    ∗ owns (c : Thread nD τ) (ms0_4 t) fullShare (iblk m c 4 t)
    ∗ (∃ d, owns (c : Thread nD τ) (ms0_5 t) fullShare d)
    ∗ (∃ d, owns (c : Thread nD τ) (ms0_6 t) fullShare d)
    ∗ (∃ d, owns (c : Thread nD τ) (ms0_7 t) fullShare d)
    ∗ owns (c : Thread nD τ) (ms0_8 t) fullShare X8
    ∗ owns (c : Thread nD τ) (ms0_9 t) fullShare X9)

def bodyPost (c : Dev nD) (t : Fin cfg0.N) (X8 X9 : Vec F S3x24 .f32) : sProp 𝕄 :=
  iprop(PhiS m c (t.val + 1) t.isLt ∗ (dats m 0 c).owesAt () t.castSucc
    ∗ owns (c : Thread nD τ) (ms0_0 t) fullShare (iblk m c 0 t)
    ∗ owns (c : Thread nD τ) (ms0_1 t) fullShare (iblk m c 1 t)
    ∗ owns (c : Thread nD τ) (ms0_2 t) fullShare (iblk m c 2 t)
    ∗ owns (c : Thread nD τ) (ms0_3 t) fullShare (iblk m c 3 t)
    ∗ owns (c : Thread nD τ) (ms0_4 t) fullShare (iblk m c 4 t)
    ∗ owns (c : Thread nD τ) (ms0_5 t) fullShare (outBlk (ldAt m c t))
    ∗ owns (c : Thread nD τ) (ms0_6 t) fullShare (codeBlk (ldAt m c t).q8)
    ∗ owns (c : Thread nD τ) (ms0_7 t) fullShare (codeBlk (ldAt m c t).k8)
    ∗ owns (c : Thread nD τ) (ms0_8 t) fullShare (upd (qmax m c) t X8)
    ∗ owns (c : Thread nD τ) (ms0_9 t) fullShare (upd (kmax m c) t X9))

set_option maxHeartbeats 4000000 in
theorem sound_body (c : Dev nD) (t : Fin cfg0.N) (X8 X9 : Vec F S3x24 .f32) :
    bodyPre m c t X8 X9 ⊢ wp frame (wpE (defs₀ (F := F)) Variants.none c none) Set.univ (bodyAt0 t) (fun _ => bodyPost m c t X8 X9) := by
  unfold bodyPre bodyPost bodyAt0
  have hN : t.val < 288 := lt_of_lt_of_eq t.isLt (show cfg0.N = 288 from N_0)
  rw [PhiS_succ]
  by_cases h0 : t.val % 96 = 0
  · have h1 : ¬t.val % 96 = 95 := by omega
    have u8 : upd (qmax m c) t X8 = X8 := by unfold upd; rw [if_neg h1]
    have u9 : upd (kmax m c) t X9 = X9 := by unfold upd; rw [if_neg h1]
    rw [u8, u9, qmax_A m c t h0, kmax_A m c t h0]
    refine (sep_mono (PhiS_any m c t.val _) .rfl).trans ?_
    rw [PhiA0_eq]
    iintro ⟨⟨⟨HS0, HS1, HS2, HS3, HS4⟩, Hg⟩, Ho, H0, H1, H2, H3, H4, H5, H6, H7, H8, H9⟩
    iapply (step_A c (grid0.coords t) _ _ _ _ _ _ _ _ _ _ _ _ _ _ _ _ _ _ _ _ _ _ _ _ _ _ _ _ _ _ (iblk m c 0 t) (iblk m c 1 t) (iblk m c 2 t) (iblk m c 3 t) (iblk m c 4 t)
      ((hcond0_0 t).mpr h0) (fun h => h1 ((hcond0_1 t).mp h)) X8 X9 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HS0]; · iexact HS0
    isplitl [HS1]; · iexact HS1
    isplitl [HS2]; · iexact HS2
    isplitl [HS3]; · iexact HS3
    isplitl [HS4]; · iexact HS4
    iintro ⟨H0, H1, H2, H3, H4, H5, H6, H7, H8, H9, HS0, HS1, HS2, HS3, HS4⟩
    isplitl [HS0 HS1 HS2 HS3 HS4 Hg]
    · isplitl [HS0 HS1 HS2 HS3 HS4]
      · isplitl [HS0]; · iexact HS0
        isplitl [HS1]; · iexact HS1
        isplitl [HS2]; · iexact HS2
        isplitl [HS3]; · iexact HS3
        iexact HS4
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · have hz : t.val ≠ 0 := by omega
    rw [PhiS_pos m c t.val _ hz, tabQ_pred m c t ⟨t.val - 1, _⟩ rfl h0, tabK_pred m c t ⟨t.val - 1, _⟩ rfl h0, tabC_pred m c t ⟨t.val - 1, _⟩ rfl h0]
    rw [qmax_B m c t h0, kmax_B m c t h0]
    by_cases h1 : t.val % 96 = 95
    · have u8 : upd (qmax m c) t X8 = putRow (grid0.coords t) X8 (amaxRow (stepMax (sliceOf (iblk m c 2 t)) (qmax m c (t.val - 1) (Nat.lt_of_le_of_lt (Nat.sub_le _ _) t.isLt)))) := by
        unfold upd; rw [if_pos h1, qmax_B m c t h0]
      have u9 : upd (kmax m c) t X9 = putRow (grid0.coords t) X9 (amaxRow (stepMax (sliceOf (iblk m c 3 t)) (kmax m c (t.val - 1) (Nat.lt_of_le_of_lt (Nat.sub_le _ _) t.isLt)))) := by
        unfold upd; rw [if_pos h1, kmax_B m c t h0]
      rw [u8, u9]
      iintro ⟨⟨⟨HS0, HS1, HS2, HS3, HS4⟩, Hg⟩, Ho, H0, H1, H2, H3, H4, H5, H6, H7, H8, H9⟩
      iapply (step_C c (grid0.coords t) _ _ _ _ _ _ _ _ _ _ _ _ _ _ _ _ _ _ _ _ _ _ _ _ _ _ _ _ _ _ (iblk m c 0 t) (iblk m c 1 t) (iblk m c 2 t) (iblk m c 3 t) (iblk m c 4 t)
        (qmax m c (t.val - 1) (Nat.lt_of_le_of_lt (Nat.sub_le _ _) t.isLt)) (kmax m c (t.val - 1) (Nat.lt_of_le_of_lt (Nat.sub_le _ _) t.isLt))
        (fun h => h0 ((hcond0_0 t).mp h)) ((hcond0_1 t).mpr h1) X8 X9 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS0]; · iexact HS0
      isplitl [HS1]; · iexact HS1
      isplitl [HS2]; · iexact HS2
      isplitl [HS3]; · iexact HS3
      isplitl [HS4]; · iexact HS4
      iintro ⟨H0, H1, H2, H3, H4, H5, H6, H7, H8, H9, HS0, HS1, HS2, HS3, HS4⟩
      isplitl [HS0 HS1 HS2 HS3 HS4 Hg]
      · isplitl [HS0 HS1 HS2 HS3 HS4]
        · isplitl [HS0]; · iexact HS0
          isplitl [HS1]; · iexact HS1
          isplitl [HS2]; · iexact HS2
          isplitl [HS3]; · iexact HS3
          iexact HS4
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    · have u8 : upd (qmax m c) t X8 = X8 := by unfold upd; rw [if_neg h1]
      have u9 : upd (kmax m c) t X9 = X9 := by unfold upd; rw [if_neg h1]
      rw [u8, u9]
      iintro ⟨⟨⟨HS0, HS1, HS2, HS3, HS4⟩, Hg⟩, Ho, H0, H1, H2, H3, H4, H5, H6, H7, H8, H9⟩
      iapply (step_B c (grid0.coords t) _ _ _ _ _ _ _ _ _ _ _ _ _ _ _ _ _ _ _ _ _ _ _ _ _ _ _ _ _ _ (iblk m c 0 t) (iblk m c 1 t) (iblk m c 2 t) (iblk m c 3 t) (iblk m c 4 t)
        (qmax m c (t.val - 1) (Nat.lt_of_le_of_lt (Nat.sub_le _ _) t.isLt)) (kmax m c (t.val - 1) (Nat.lt_of_le_of_lt (Nat.sub_le _ _) t.isLt))
        (fun h => h0 ((hcond0_0 t).mp h)) (fun h => h1 ((hcond0_1 t).mp h)) X8 X9 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS0]; · iexact HS0
      isplitl [HS1]; · iexact HS1
      isplitl [HS2]; · iexact HS2
      isplitl [HS3]; · iexact HS3
      isplitl [HS4]; · iexact HS4
      iintro ⟨H0, H1, H2, H3, H4, H5, H6, H7, H8, H9, HS0, HS1, HS2, HS3, HS4⟩
      isplitl [HS0 HS1 HS2 HS3 HS4 Hg]
      · isplitl [HS0 HS1 HS2 HS3 HS4]
        · isplitl [HS0]; · iexact HS0
          isplitl [HS1]; · iexact HS1
          isplitl [HS2]; · iexact HS2
          isplitl [HS3]; · iexact HS3
          iexact HS4
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9

/-! ## The body obligation -/

theorem flush_8 : ∀ t : Fin cfg0.N, (cfg0.win 8).flush t = true → t.val = 287 := by decide +kernel
theorem flush_9 : ∀ t : Fin cfg0.N, (cfg0.win 9).flush t = true → t.val = 287 := by decide +kernel
theorem fetch_8 : ∀ t : Fin cfg0.N, (cfg0.win 8).fetch t = false := fun _ => rfl
theorem fetch_9 : ∀ t : Fin cfg0.N, (cfg0.win 9).fetch t = false := fun _ => rfl

theorem after_8 (c : Dev nD) (t : Fin cfg0.N) (Y X : Vec F S3x24 .f32) : (rdat m c).after 8 t Y X ↔ Rows (qmax m c) t X := by
  rw [RDat.override_after_of_eq_some (dats m 0 c).toR (w := 8) (R := fun t _ X => Rows (qmax m c) t X) rfl]
theorem after_9 (c : Dev nD) (t : Fin cfg0.N) (Y X : Vec F S3x24 .f32) : (rdat m c).after 9 t Y X ↔ Rows (kmax m c) t X := by
  rw [RDat.override_after_of_eq_some (dats m 0 c).toR (w := 9) (R := fun t _ X => Rows (kmax m c) t X) rfl]

theorem finds_8 (c : Dev nD) (t : Fin cfg0.N) (X : Vec F S3x24 .f32) (h : (rdat m c).Finds 8 t X) (ht : t.val ≠ 0) :
    Rows (qmax m c) ⟨t.val - 1, Nat.lt_of_le_of_lt (Nat.sub_le _ _) t.isLt⟩ X := by
  have hN : t.val < 288 := lt_of_lt_of_eq t.isLt (show cfg0.N = 288 from N_0)
  rcases ((rdat m c).finds_of_pos (fetch_8 t) ht X).mp h with hf | ⟨Y, -, hL⟩
  · have := flush_8 _ hf; simp only at this; omega
  · exact (after_8 m c _ Y X).mp hL

theorem finds_9 (c : Dev nD) (t : Fin cfg0.N) (X : Vec F S3x24 .f32) (h : (rdat m c).Finds 9 t X) (ht : t.val ≠ 0) :
    Rows (kmax m c) ⟨t.val - 1, Nat.lt_of_le_of_lt (Nat.sub_le _ _) t.isLt⟩ X := by
  have hN : t.val < 288 := lt_of_lt_of_eq t.isLt (show cfg0.N = 288 from N_0)
  rcases ((rdat m c).finds_of_pos (fetch_9 t) ht X).mp h with hf | ⟨Y, -, hL⟩
  · have := flush_9 _ hf; simp only at this; omega
  · exact (after_9 m c _ Y X).mp hL

theorem finds_in (c : Dev nD) (t : Fin cfg0.N) (w : Fin cfg0.W) (hw : ovr m c w = none) (X : (cfg0.win w).block.Idx → Elt F (cfg0.win w).elt)
    (h : (rdat m c).Finds w t X) : ∃ d, X = (dats m 0 c).before w t d :=
  (dats m 0 c).toR_finds w t X (((dats m 0 c).toR.override_finds hw t X).mp h)

theorem after_live (c : Dev nD) (t : Fin cfg0.N) (w : Fin cfg0.W) (hw : ovr m c w = none) (hi : cfg0.idle w (cfg0.grid.coords t) = false) (hl : cfg0.loose w = false)
    (Y X : (cfg0.win w).block.Idx → Elt F (cfg0.win w).elt) (h : X = (dats m 0 c).after w t) : (rdat m c).after w t Y X := by
  rw [RDat.override_after_of_eq_none (dats m 0 c).toR hw]
  show (dats m 0 c).Leaves w t X
  unfold Dat.Leaves
  rw [hi, hl]
  exact h

theorem owns_congr (c : Dev nD) {sp : Space} {s : Shape} {e : EltTy} (arg : Memref sig .tc sp s e) (X Y : s.Idx → Elt F e) (h : X = Y) :
    (owns (c : Thread nD τ) arg fullShare X : sProp 𝕄) ⊢ owns (c : Thread nD τ) arg fullShare Y := by
  subst h; exact Idealize.SL.BI.Entails.refl _

theorem defs₀_row (t : Fin cfg0.N) :
    defs₀ (F := F) .tc cfg0.body (cfg0.bodyArgs t (cfg0.slots t)) = bodyAt0 t := by
  unfold defs₀; rw [Defs.onTc_tc]

set_option maxHeartbeats 4000000 in
theorem body_obligation (c : Dev nD) : (rdat (F := F) m c).BodyObligation (defs₀ (F := F)) Variants.none () Set.univ := fun t Y hY => by
  have y0 : Y 0 = iblk m c 0 t := by obtain ⟨d, h⟩ := finds_in m c t 0 rfl _ (hY 0); rw [h, before0_0]
  have y1 : Y 1 = iblk m c 1 t := by obtain ⟨d, h⟩ := finds_in m c t 1 rfl _ (hY 1); rw [h, before0_1]
  have y2 : Y 2 = iblk m c 2 t := by obtain ⟨d, h⟩ := finds_in m c t 2 rfl _ (hY 2); rw [h, before0_2]
  have y3 : Y 3 = iblk m c 3 t := by obtain ⟨d, h⟩ := finds_in m c t 3 rfl _ (hY 3); rw [h, before0_3]
  have y4 : Y 4 = iblk m c 4 t := by obtain ⟨d, h⟩ := finds_in m c t 4 rfl _ (hY 4); rw [h, before0_4]
  have r8 : Rows (qmax m c) t (upd (qmax m c) t (Y 8)) := rows_upd _ t _ (finds_8 m c t (Y 8) (hY 8))
  have r9 : Rows (kmax m c) t (upd (kmax m c) t (Y 9)) := rows_upd _ t _ (finds_9 m c t (Y 9) (hY 9))
  rw [bigSep_W0, bigSep_W0, defs₀_row]
  refine triple_restated (sound_body m c t (Y 8) (Y 9)) rfl ?_ fun _ => ?_
  · unfold bodyPre
    rw [show (rdat m c).Φ t.castSucc = PhiS m c t.val (Nat.le_of_lt t.isLt) from PhiS_castSucc m c t]
    iintro ⟨HP, Ho, H0, H1, H2, H3, H4, H5, H6, H7, H8, H9⟩
    isplitl [HP]; · iexact HP
    isplitl [Ho]; · iexact Ho
    isplitl [H0]; · iapply (owns_congr c (ms0_0 t) _ _ y0); iexact H0
    isplitl [H1]; · iapply (owns_congr c (ms0_1 t) _ _ y1); iexact H1
    isplitl [H2]; · iapply (owns_congr c (ms0_2 t) _ _ y2); iexact H2
    isplitl [H3]; · iapply (owns_congr c (ms0_3 t) _ _ y3); iexact H3
    isplitl [H4]; · iapply (owns_congr c (ms0_4 t) _ _ y4); iexact H4
    isplitl [H5]; · iexists _; iexact H5
    isplitl [H6]; · iexists _; iexact H6
    isplitl [H7]; · iexists _; iexact H7
    isplitl [H8]; · iexact H8
    iexact H9
  · unfold bodyPost
    rw [show (rdat m c).Φ t.succ = PhiS m c (t.val + 1) t.isLt from rfl]
    iintro ⟨HP, Ho, H0, H1, H2, H3, H4, H5, H6, H7, H8, H9⟩
    isplitl [HP]; · iexact HP
    isplitl [Ho]; · iexact Ho
    isplitl [H0]; · iexists _; isplitr; · ipureintro; exact after_live m c t 0 rfl (liveAt0_0 t) rfl _ _ (after0_0 m c t).symm
                    iexact H0
    isplitl [H1]; · iexists _; isplitr; · ipureintro; exact after_live m c t 1 rfl (liveAt0_1 t) rfl _ _ (after0_1 m c t).symm
                    iexact H1
    isplitl [H2]; · iexists _; isplitr; · ipureintro; exact after_live m c t 2 rfl (liveAt0_2 t) rfl _ _ (after0_2 m c t).symm
                    iexact H2
    isplitl [H3]; · iexists _; isplitr; · ipureintro; exact after_live m c t 3 rfl (liveAt0_3 t) rfl _ _ (after0_3 m c t).symm
                    iexact H3
    isplitl [H4]; · iexists _; isplitr; · ipureintro; exact after_live m c t 4 rfl (liveAt0_4 t) rfl _ _ (after0_4 m c t).symm
                    iexact H4
    isplitl [H5]; · iexists _; isplitr; · ipureintro; exact after_live m c t 5 rfl (liveAt0_5 t) rfl _ _ (after0_5 m c t).symm
                    iexact H5
    isplitl [H6]; · iexists _; isplitr; · ipureintro; exact after_live m c t 6 rfl (liveAt0_6 t) rfl _ _ (after0_6 m c t).symm
                    iexact H6
    isplitl [H7]; · iexists _; isplitr; · ipureintro; exact after_live m c t 7 rfl (liveAt0_7 t) rfl _ _ (after0_7 m c t).symm
                    iexact H7
    isplitl [H8]; · iexists _; isplitr; · ipureintro; exact (after_8 m c t _ _).mpr r8
                    iexact H8
    iexists _; isplitr; · ipureintro; exact (after_9 m c t _ _).mpr r9
    iexact H9

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c :=
  PhiS_any m c cfg0.N _

/-! ## The run -/

set_option backward.isDefEq.respectTransparency.types false in
/-- The launch of any such proof data. -/
theorem run_of (dats : (p : Fin 1) → (c : Dev nD) → Dat τ (Elt F) Unit ℕ (UR sig nD τ) ℕ (cfgs p) c)
    (ovr : (c : Dev nD) → (w : Fin cfg0.W) → Option (Fin cfg0.N → (Y X : (cfg0.win w).block.Idx → Elt F (cfg0.win w).elt) → Prop))
    (hbody : ∀ c, ((dats 0 c).toR.override (ovr c)).BodyObligation (defs₀ (F := F)) Variants.none () Set.univ)
    (hshare : ∀ c w, (dats 0 c).share w = fullShare) (howed : ∀ c t, (dats 0 c).owed t = 0)
    (hA : ∀ c w, (dats 0 c).A w = V m c (Pipeline.arrRef spec0 w))
    (hin : ∀ c, Pipeline.ΦA spec0 c ⊢ (dats 0 c).Φ 0) (hout : ∀ c, (dats 0 c).Φ (Fin.last cfg0.N) ⊢ Pipeline.ΦA spec0 c) :
    θ_run defs (onTc (τ := τ) (main (F := F))) (s₀ m ρ)
      (fun r => Pipeline.RDat.FramePost (cfgs 0) (fun c => (dats 0 c).toR.override (ovr c)) (V m) r ∧ r.2.sem = fun _ => 0) :=
  Pipeline.RDat.θ_run_frame_track (Q' := _) cfgs (0 : Fin 1) launch0 defs₀ Variants.none (fun c => (dats 0 c).toR.override (ovr c)) m ρ main
    (hbody := hbody) (hshare := hshare) (howed := howed) (V := V m) (hmain := hmain m Variants.none) (hA := hA) (hin := hin) (hout := hout)

theorem run_main : θ_run defs (onTc (τ := τ) (main (F := F))) (s₀ m ρ)
      (fun r => Pipeline.RDat.FramePost (cfgs 0) (fun c => (dats m 0 c).toR.override (ovr m c)) (V m) r ∧ r.2.sem = fun _ => 0) :=
  run_of m ρ (dats m) (ovr m) (body_obligation m) (fun c => (dats m 0 c).share_full fun _ => rfl) (fun _ _ => rfl) (A_eq m) (hin m) (hout m)

end Cert.KernelIdeal.Block

end
-- ==== Proof.Arrays.lean ====
/-
  The idealized kernel's arrays after the run: the output and the two arrays of codes at every index in terms of the
  point that writes it, the two arrays of maxima in terms of the running maxima at the last point of each batch entry;
  and the input blocks of a point in terms of the arguments.
-/
module

public import proofs.«01_k».proof.Proof.KFrame
public import Idealize.ShloMosaic.Lib.Pipeline.ValueKit
public import Idealize.ShloMosaic.Lib.Pointwise

@[expose] public section

set_option maxRecDepth 16384

noncomputable section

namespace Cert.KernelIdeal.Block

open Idealize.ShloMosaic Idealize.ShloMosaic.TcCoe Idealize.ShloMosaic.Tactic Cert.KernelIdeal Cert.KernelIdeal.Gen
open Idealize.SL.Sem
open Idealize.ShloMosaic.Pipeline (Dat RDat Cfg Window)

variable {F : FTy → Type} [FloatOps F] [Named F]
variable (m : (ℓ : Loc nD τ sig) → Buf (Elt F) ℓ) (ρ : Dev nD → PrngReg)

/-! ## The blocks of the arguments -/

theorem idx_2 : ∀ t : Fin cfg0.N, win0_2.index t = ![t.val / 96, 0, t.val % 96, 0] := by decide +kernel
theorem idx_3 : ∀ t : Fin cfg0.N, win0_3.index t = ![t.val / 96, 0, t.val % 96, 0] := by decide +kernel
theorem idx_4 : ∀ t : Fin cfg0.N, win0_4.index t = ![t.val / 96, 0, t.val % 96, 0] := by decide +kernel
theorem idx_5 : ∀ t : Fin cfg0.N, win0_5.index t = ![t.val / 96, 0, t.val % 96, 0] := by decide +kernel
theorem idx_6 : ∀ t : Fin cfg0.N, win0_6.index t = ![t.val / 96, 0, t.val % 96, 0] := by decide +kernel
theorem idx_7 : ∀ t : Fin cfg0.N, win0_7.index t = ![t.val / 96, 0, t.val % 96, 0] := by decide +kernel

theorem tlt (t : Fin cfg0.N) : t.val < 288 := lt_of_lt_of_eq t.isLt (show cfg0.N = 288 from N_0)

/-- Frame `f`, row `r` of batch entry `b` of an argument of batches of sequences of heads: a row is a pixel's head. -/
def argAt (x : Vec F S3x12288x24x128 .bf16) (b f r l : ℕ) (hb : b < 3) (hf : f < 32) (hr : r < 9216) (hl : l < 128) : F .bf16 :=
  x (ix4 (n0 := 3) (n1 := 12288) (n2 := 24) (n3 := 128) ⟨b, hb⟩ ⟨384 * f + r / 24, by omega⟩ ⟨r % 24, by omega⟩ ⟨l, hl⟩)

theorem reshape_at (x : Vec F S3x12288x24x128 .bf16) (h : S3x12288x24x128.ShapeCasts S3x32x9216x128) (b : Fin 3) (f : Fin 32) (r : Fin 9216) (l : Fin 128) :
    shapeCast S3x32x9216x128 x h (ix4 (n0 := 3) (n1 := 32) (n2 := 9216) (n3 := 128) b f r l) = argAt x b.val f.val r.val l.val b.isLt f.isLt r.isLt l.isLt := by
  refine shapeCast_apply x h _ _ ?_
  rw [Shape.rowMajor_val_four, Shape.rowMajor_val_four]
  have h0 := b.isLt
  have h1 := f.isLt
  have h2 := r.isLt
  have h3 := l.isLt
  show ((b.val * 12288 + (384 * f.val + r.val / 24)) * 24 + r.val % 24) * 128 + l.val = ((b.val * 32 + f.val) * 9216 + r.val) * 128 + l.val
  omega

theorem V_v0 (c : Dev nD) : (V m c main_v0 : Vec F S3x32x9216x128 .bf16) = shapeCast S3x32x9216x128 (m ((c : Thread nD τ).loc main_arg0) : Vec F S3x12288x24x128 .bf16) shapeCasts_S3x12288x24x128_S3x32x9216x128 := by
  show StableHlo.after hostOps0 _ (Proc.devRef .tc main_v0) = _
  after_results
  rfl
theorem V_v1 (c : Dev nD) : (V m c main_v1 : Vec F S3x32x9216x128 .bf16) = shapeCast S3x32x9216x128 (m ((c : Thread nD τ).loc main_arg1) : Vec F S3x12288x24x128 .bf16) shapeCasts_S3x12288x24x128_S3x32x9216x128 := by
  show StableHlo.after hostOps0 _ (Proc.devRef .tc main_v1) = _
  after_results
  rfl
theorem V_v2 (c : Dev nD) : (V m c main_v2 : Vec F S3x32x9216x128 .bf16) = shapeCast S3x32x9216x128 (m ((c : Thread nD τ).loc main_arg2) : Vec F S3x12288x24x128 .bf16) shapeCasts_S3x12288x24x128_S3x32x9216x128 := by
  show StableHlo.after hostOps0 _ (Proc.devRef .tc main_v2) = _
  after_results
  rfl

/-- The query's block of point `t` at frame `f`, row `r`, lane `l`. -/
theorem iblk_2 (c : Dev nD) (t : Fin cfg0.N) (f : Fin 32) (r : Fin 96) (l : Fin 128) :
    (iblk m c 2 t : Vec F S1x32x96x128 .bf16) (ix4 (n0 := 1) (n1 := 32) (n2 := 96) (n3 := 128) 0 f r l)
      = argAt (m ((c : Thread nD τ).loc main_arg0)) (t.val / 96) f.val (96 * (t.val % 96) + r.val) l.val (by have := tlt t; omega) f.isLt (by omega) l.isLt := by
  have hN := tlt t
  rw [← reshape_at (m ((c : Thread nD τ).loc main_arg0)) shapeCasts_S3x12288x24x128_S3x32x9216x128 ⟨t.val / 96, by omega⟩ f ⟨96 * (t.val % 96) + r.val, by omega⟩ l, ← V_v0]
  blk_simp [iblk]
  congr 1
  blk_ext [idx_2 t]

/-- The key's block of point `t` at frame `f`, row `r`, lane `l`. -/
theorem iblk_3 (c : Dev nD) (t : Fin cfg0.N) (f : Fin 32) (r : Fin 96) (l : Fin 128) :
    (iblk m c 3 t : Vec F S1x32x96x128 .bf16) (ix4 (n0 := 1) (n1 := 32) (n2 := 96) (n3 := 128) 0 f r l)
      = argAt (m ((c : Thread nD τ).loc main_arg1)) (t.val / 96) f.val (96 * (t.val % 96) + r.val) l.val (by have := tlt t; omega) f.isLt (by omega) l.isLt := by
  have hN := tlt t
  rw [← reshape_at (m ((c : Thread nD τ).loc main_arg1)) shapeCasts_S3x12288x24x128_S3x32x9216x128 ⟨t.val / 96, by omega⟩ f ⟨96 * (t.val % 96) + r.val, by omega⟩ l, ← V_v1]
  blk_simp [iblk]
  congr 1
  blk_ext [idx_3 t]

/-- The value's block of point `t` at frame `f`, row `r`, lane `l`. -/
theorem iblk_4 (c : Dev nD) (t : Fin cfg0.N) (f : Fin 32) (r : Fin 96) (l : Fin 128) :
    (iblk m c 4 t : Vec F S1x32x96x128 .bf16) (ix4 (n0 := 1) (n1 := 32) (n2 := 96) (n3 := 128) 0 f r l)
      = argAt (m ((c : Thread nD τ).loc main_arg2)) (t.val / 96) f.val (96 * (t.val % 96) + r.val) l.val (by have := tlt t; omega) f.isLt (by omega) l.isLt := by
  have hN := tlt t
  rw [← reshape_at (m ((c : Thread nD τ).loc main_arg2)) shapeCasts_S3x12288x24x128_S3x32x9216x128 ⟨t.val / 96, by omega⟩ f ⟨96 * (t.val % 96) + r.val, by omega⟩ l, ← V_v2]
  blk_simp [iblk]
  congr 1
  blk_ext [idx_4 t]

/-- The array an output block is part of: what the point of row `r` leaves. -/
def ptOf (b r : ℕ) (hb : b < 3) (hr : r < 9216) : Fin cfg0.N := ⟨96 * b + r / 96, by rw [show cfg0.N = 288 from N_0]; omega⟩

def arrOf {e : EltTy} (blk : Fin cfg0.N → Vec F S1x32x96x128 e) : Vec F S3x32x9216x128 e := fun y =>
  blk (ptOf (y 0).val (y 2).val (y 0).isLt (y 2).isLt) (ix4 (n0 := 1) (n1 := 32) (n2 := 96) (n3 := 128) 0 (y 1) ⟨(y 2).val % 96, Nat.mod_lt _ (by decide)⟩ (y 3))

theorem arrOf_blk {e : EltTy} (blk : Fin cfg0.N → Vec F S1x32x96x128 e) (t : Fin cfg0.N) (y : S1x32x96x128.Idx) (z : S3x32x9216x128.Idx)
    (h0 : (z 0).val = t.val / 96) (h1 : (z 1).val = (y 1).val) (h2 : (z 2).val = 96 * (t.val % 96) + (y 2).val) (h3 : (z 3).val = (y 3).val) :
    blk t y = arrOf blk z := by
  have hN := tlt t
  have hy2 : (y 2).val < 96 := (y 2).isLt
  have hy0 : (y 0).val < 1 := (y 0).isLt
  unfold arrOf
  have ht : ptOf (z 0).val (z 2).val (z 0).isLt (z 2).isLt = t := Fin.ext (by show 96 * (z 0).val + (z 2).val / 96 = t.val; omega)
  rw [ht]
  congr 1
  funext a
  match a with
  | ⟨0, _⟩ => exact Fin.ext (by show (y 0).val = 0; omega)
  | ⟨1, _⟩ => exact Fin.ext h1.symm
  | ⟨2, _⟩ => exact Fin.ext (by show (y 2).val = (z 2).val % 96; omega)
  | ⟨3, _⟩ => exact Fin.ext h3.symm

theorem final_5 (c : Dev nD) : (dats m 0 c).arrAt 5 cfg0.N = arrOf fun t => outBlk (ldAt m c t) := by
  refine (dats m 0 c).arrAt_eq_of_covers 5 _ (by decide +kernel) fun t hf y => ?_
  blk_simp
  rw [after0_5]
  have e := idx_5 t
  refine arrOf_blk (fun t => outBlk (ldAt m c t)) t y _ ?_ ?_ ?_ ?_
  all_goals blk_simp [e]
  all_goals (try omega)

theorem final_6 (c : Dev nD) : (dats m 0 c).arrAt 6 cfg0.N = arrOf fun t => codeBlk (ldAt m c t).q8 := by
  refine (dats m 0 c).arrAt_eq_of_covers 6 _ (by decide +kernel) fun t hf y => ?_
  blk_simp
  rw [after0_6]
  have e := idx_6 t
  refine arrOf_blk (fun t => codeBlk (ldAt m c t).q8) t y _ ?_ ?_ ?_ ?_
  all_goals blk_simp [e]
  all_goals (try omega)

theorem final_7 (c : Dev nD) : (dats m 0 c).arrAt 7 cfg0.N = arrOf fun t => codeBlk (ldAt m c t).k8 := by
  refine (dats m 0 c).arrAt_eq_of_covers 7 _ (by decide +kernel) fun t hf y => ?_
  blk_simp
  rw [after0_7]
  have e := idx_7 t
  refine arrOf_blk (fun t => codeBlk (ldAt m c t).k8) t y _ ?_ ?_ ?_ ?_
  all_goals blk_simp [e]
  all_goals (try omega)

/-! ## The maxima -/

/-- What an array may hold that is written back at one point only: the entry contents with that point's block written. -/
theorem arrAt_once {Val : EltTy → Type} {Λ₀ : Labels} {cfg : Cfg sig Λ₀} {Ix Name U Lvl : Type} [DecidableEq Ix] [DecidableEq Name] [Idealize.SL.RA.URA U] {c : Dev nD}
    (rd : RDat τ Val Ix Name U Lvl cfg c) (w : Fin cfg.W) (u : Fin cfg.N) (hu : u.val + 1 = cfg.N) (hf : (cfg.win w).flush u = true)
    (G : Buf Val ((cfg.win w).arr.view.loc (c.tc : Thread nD τ))) (h : rd.ArrAt w cfg.N G) :
    ∃ G₀ X, rd.Leaves w u X ∧ G = ((cfg.win w).blk u).view.write Val G₀ ((cfg.win w).cut (cfg.grid.coords u) X) Finset.univ := by
  rw [← hu, rd.ArrAt_succ w u, if_pos hf] at h
  obtain ⟨G₀, X, -, hX, e⟩ := h
  exact ⟨G₀, X, hX, e⟩

/-- The last point. -/
def tLast : Fin cfg0.N := ⟨287, by rw [show cfg0.N = 288 from N_0]; decide⟩

theorem whole_8 : (cfg0.win 8).WholeAt tLast := by decide +kernel
theorem whole_9 : (cfg0.win 9).WholeAt tLast := by decide +kernel

/-- An element of an array written back whole at one point is what the point left there. -/
theorem write_whole {Val : EltTy → Type} {G : Pipeline.Grid} (w : Window sig G) (u : Fin G.N) (h : w.WholeAt u) (G₀ : w.arr.view.ty.Contents Val) (X : w.block.Idx → Val w.elt) (j : w.shape.Idx) :
    ((w.blk u).view.write Val G₀ (w.cut (G.coords u) X) Finset.univ) (w.arr.view.emb j)
      = _root_.cast (congrArg Val w.arr.view.elt_eq.symm) (X fun a => ⟨j a, h.lt_size j a⟩) := by
  let y : (w.xblock (G.coords u)).Idx := fun a => ⟨j a, h.lt_xsize j a⟩
  have hy : (w.blk u).view.emb y = w.arr.view.emb j := by
    show w.arr.view.emb ((w.rect u).emb y) = _
    congr 1; funext a; apply Fin.ext
    rw [Window.rect_emb_val_of_index_zero _ _ _ (h.2.2 a).1]
  rw [← hy, View.write_emb_of_mem _ _ (Finset.mem_univ _)]

theorem leaves_8 (c : Dev nD) (X : Vec F S3x24 .f32) (h : (rdat m c).Leaves 8 tLast X) : Rows (qmax m c) tLast X := by
  obtain ⟨Y, -, hL⟩ := h
  exact (after_8 m c _ Y X).mp hL
theorem leaves_9 (c : Dev nD) (X : Vec F S3x24 .f32) (h : (rdat m c).Leaves 9 tLast X) : Rows (kmax m c) tLast X := by
  obtain ⟨Y, -, hL⟩ := h
  exact (after_9 m c _ Y X).mp hL

/-- The array of maxima: each row is its batch entry's last running maxima. -/
def maxArr (mx : (n : ℕ) → n < cfg0.N → (h : ℕ) → h < 12 → Vec F S1x16x128 .bf16) : Vec F S3x24 .f32 := fun y =>
  amaxRow (mx (96 * (y 0).val + 95) (by have h : (y 0).val < 3 := (y 0).isLt; rw [show cfg0.N = 288 from N_0]; omega)) (ix2 (n0 := 1) (n1 := 24) 0 (y 1))

theorem rows_last (mx : (n : ℕ) → n < cfg0.N → (h : ℕ) → h < 12 → Vec F S1x16x128 .bf16) (X : Vec F S3x24 .f32) (h : Rows mx tLast X) : X = maxArr mx := by
  funext y
  have h0 : (y 0).val < 3 := (y 0).isLt
  exact h (y 0).val (by show 96 * (y 0).val + 95 ≤ 287; omega) y rfl

theorem final_8 (c : Dev nD) (G : Vec F S3x24 .f32) (h : (rdat m c).ArrAt 8 cfg0.N G) : G = maxArr (qmax m c) := by
  obtain ⟨G₀, X, hX, e⟩ := arrAt_once (rdat m c) 8 tLast (show (287 : ℕ) + 1 = cfg0.N from N_0.symm) ((flush0_8 tLast).mpr rfl) G h
  have := rows_last _ X (leaves_8 m c X hX)
  funext y
  rw [← this, e]
  exact write_whole (cfg0.win 8) tLast whole_8 G₀ X y

theorem final_9 (c : Dev nD) (G : Vec F S3x24 .f32) (h : (rdat m c).ArrAt 9 cfg0.N G) : G = maxArr (kmax m c) := by
  obtain ⟨G₀, X, hX, e⟩ := arrAt_once (rdat m c) 9 tLast (show (287 : ℕ) + 1 = cfg0.N from N_0.symm) ((flush0_9 tLast).mpr rfl) G h
  have := rows_last _ X (leaves_9 m c X hX)
  funext y
  rw [← this, e]
  exact write_whole (cfg0.win 9) tLast whole_9 G₀ X y

/-! ## The run, read at the program's arrays -/

theorem arr_named (c : Dev nD) (w : Fin cfg0.W) (hw : ovr m c w = none) (G : Buf (Elt F) ((cfg0.win w).arr.view.loc (c.tc : Thread nD τ)))
    (h : (rdat m c).ArrAt w cfg0.N G) : G = (dats m 0 c).arrAt w cfg0.N :=
  ((dats m 0 c).toR_arrAt_iff w _ _).mp ((RDat.override_arrAt (dats m 0 c).toR hw _ _).mp h)

/-- What the idealized kernel leaves: its five results, its arguments unchanged, every counter at zero. -/
theorem run : θ_run defs (onTc (τ := τ) (main (F := F))) ⟨m, fun _ => 0, ρ⟩ (fun r => (∀ c : Dev nD,
      (r.2.mem ((c.tc : Thread nD τ).loc main_v3_0) = arrOf (fun t => outBlk (ldAt m c t))
      ∧ r.2.mem ((c.tc : Thread nD τ).loc main_v3_1) = arrOf (fun t => codeBlk (ldAt m c t).q8)
      ∧ r.2.mem ((c.tc : Thread nD τ).loc main_v3_2) = arrOf (fun t => codeBlk (ldAt m c t).k8)
      ∧ r.2.mem ((c.tc : Thread nD τ).loc main_v3_3) = maxArr (qmax m c)
      ∧ r.2.mem ((c.tc : Thread nD τ).loc main_v3_4) = maxArr (kmax m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun r h => ⟨fun c => by
    have h1 := h.1
    refine ⟨⟨?_, ?_, ?_, ?_, ?_⟩, ?_, ?_, ?_, ?_, ?_⟩
    · exact (arr_named m c 5 rfl _ ((h1 c).1 5)).trans (final_5 m c)
    · exact (arr_named m c 6 rfl _ ((h1 c).1 6)).trans (final_6 m c)
    · exact (arr_named m c 7 rfl _ ((h1 c).1 7)).trans (final_7 m c)
    · exact final_8 m c _ ((h1 c).1 8)
    · exact final_9 m c _ ((h1 c).1 9)
    · exact ((h1 c).2 main_arg0 (Pipeline.mem_restRefs_of main_arg0 (by decide) (by decide))).trans (V_main_arg0 m c)
    · exact ((h1 c).2 main_arg1 (Pipeline.mem_restRefs_of main_arg1 (by decide) (by decide))).trans (V_main_arg1 m c)
    · exact ((h1 c).2 main_arg2 (Pipeline.mem_restRefs_of main_arg2 (by decide) (by decide))).trans (V_main_arg2 m c)
    · exact (Pipeline.RDat.FramePost.arr_in h1 c 0 rfl).trans ((A_eq m c 0).trans (V_main_arg3 m c))
    · exact (Pipeline.RDat.FramePost.arr_in h1 c 1 rfl).trans ((A_eq m c 1).trans (V_main_arg4 m c)), h.2⟩) (run_main m ρ)

end Cert.KernelIdeal.Block

end
-- ==== Proof.InvScale.lean ====
/-
  The reciprocal of the power of two below a scale, as the kernel finds it and as the reference writes it. The kernel
  takes the least of the tabled reciprocals whose power is not above the scale; the reference takes two to minus the
  floor of the logarithm in base two. They agree for a zero scale and for a scale of a size from 2^−127 to below 2^127.
-/
module

public import proofs.«01_k».proof.Proof.Block
public import Idealize.ShloMosaic.Lib.Pointwise
public import Mathlib.Analysis.SpecialFunctions.Pow.Real

@[expose] public section

set_option maxRecDepth 16384

noncomputable section

namespace Cert.InvScale

open Idealize.ShloMosaic Idealize.ShloMosaic.TcCoe Cert.KernelIdeal Cert.KernelIdeal.Gen Cert.KernelIdeal.Block

/-- What the programs may be given as a scale: zero, or of a size from 2^−127 to below 2^127. -/
def Ok (s : EReal) : Prop := s = 0 ∨ ∃ a : ℝ, max s (-s) = (a : EReal) ∧ (2 : ℝ) ^ (-127 : ℤ) ≤ a ∧ a < (2 : ℝ) ^ (127 : ℤ)

theorem Ok.real {s : EReal} (h : Ok s) : ∃ r : ℝ, s = (r : EReal) := by
  rcases h with h | ⟨a, h, -, -⟩
  · exact ⟨0, by rw [h]; rfl⟩
  · induction s using EReal.rec with
    | bot => simp at h
    | top => simp at h
    | coe x => exact ⟨x, rfl⟩

/-! ## Words with an exponent and no fraction -/

theorem word_bits : ∀ k : Fin 256, (((BitVec.ofNat 32 k.val) <<< 23).extractLsb' (8 + 23) 1 == 1#1) = false
    ∧ (((BitVec.ofNat 32 k.val) <<< 23).extractLsb' 23 8).toNat = k.val ∧ (((BitVec.ofNat 32 k.val) <<< 23).extractLsb' 0 23).toNat = 0 := by
  decide +kernel

theorem word_top : Ideal.ofBits .f32 ((BitVec.ofNat 32 255) <<< 23) = ⊤ := by
  have h := word_bits ⟨255, by decide⟩
  simp only [Ideal.ofBits, Ideal.ieee, h.1, h.2.1, h.2.2]
  simp

theorem word_zero : Ideal.ofBits .f32 ((BitVec.ofNat 32 0) <<< 23) = 0 := by
  have h := word_bits ⟨0, by decide⟩
  simp only [Ideal.ofBits, Ideal.ieee, h.1, h.2.1, h.2.2]
  simp

/-- Exponent field `k`, fraction zero: two to `k − 127`. -/
theorem word_pow (k : ℕ) (h0 : 0 < k) (hk : k < 255) : Ideal.ofBits .f32 ((BitVec.ofNat 32 k) <<< 23) = (((2 : ℝ) ^ ((k : ℤ) - 127) : ℝ) : EReal) := by
  have h := word_bits ⟨k, by omega⟩
  simp only [Ideal.ofBits, Ideal.ieee, h.1, h.2.1, h.2.2]
  rw [if_neg (by omega), if_neg (by omega)]
  congr 1
  have e : (k : ℤ) - (2 ^ (8 - 1) - 1) - ((23 : ℕ) : ℤ) = ((k : ℤ) - 127) - 23 := by norm_num
  rw [e, zpow_sub₀ (by norm_num : (2 : ℝ) ≠ 0) ((k : ℤ) - 127) 23]
  norm_num
  field_simp

theorem power_word : ∀ (a : Fin 2) (b : Fin 128), IntOp.shli ArithUnit.vector (IntOp.addi (IntOp.muli (BitVec.ofNat 32 a.val) 128#32) (BitVec.ofNat 32 b.val)) 23#32
    = (BitVec.ofNat 32 (128 * a.val + b.val)) <<< 23 := by decide +kernel

theorem recip_word : ∀ (a : Fin 2) (b : Fin 128), 128 * a.val + b.val ≠ 255 →
    IntOp.shli ArithUnit.vector (IntOp.subi (254#32) (IntOp.addi (IntOp.muli (BitVec.ofNat 32 a.val) 128#32) (BitVec.ofNat 32 b.val))) 23#32
    = (BitVec.ofNat 32 (254 - (128 * a.val + b.val))) <<< 23 := by decide +kernel

/-- The subnormal number two to −127: exponent field zero, fraction one half. -/
theorem word_half : Ideal.ofBits .f32 4194304#32 = (((2 : ℝ) ^ (-127 : ℤ) : ℝ) : EReal) := by
  have h : ((4194304#32).extractLsb' (8 + 23) 1 == 1#1) = false ∧ ((4194304#32).extractLsb' 23 8).toNat = 0
      ∧ ((4194304#32).extractLsb' 0 23).toNat = 4194304 := by decide +kernel
  simp only [Ideal.ofBits, Ideal.ieee, h.1, h.2.1, h.2.2]
  norm_num

theorem inf_word : Ideal.ofBits .f32 2139095040#32 = ⊤ := word_top
theorem two_word : Ideal.ofBits .f32 1073741824#32 = ((2 : ℝ) : EReal) := by
  have := word_pow 128 (by decide) (by decide)
  refine Eq.trans this ?_
  norm_num

/-! ## The floor of the logarithm -/

/-- The exponent of the power of two below `a`. -/
def expOf (a : ℝ) : ℤ := ⌊Real.log a / Real.log 2⌋

theorem log2_pos : 0 < Real.log 2 := Real.log_pos (by norm_num)

theorem pow_le_iff {a : ℝ} (ha : 0 < a) (k : ℤ) : (2 : ℝ) ^ k ≤ a ↔ k ≤ expOf a := by
  unfold expOf
  rw [Int.le_floor, le_div_iff₀ log2_pos, ← Real.log_zpow, Real.log_le_log_iff (by positivity) ha]

theorem expOf_lo {a : ℝ} (h : (2 : ℝ) ^ (-127 : ℤ) ≤ a) : -127 ≤ expOf a :=
  (pow_le_iff (lt_of_lt_of_le (by positivity) h) _).mp h

theorem expOf_hi {a : ℝ} (h : (2 : ℝ) ^ (-127 : ℤ) ≤ a) (h' : a < (2 : ℝ) ^ (127 : ℤ)) : expOf a ≤ 126 := by
  by_contra hc
  have : (127 : ℤ) ≤ expOf a := by omega
  exact absurd ((pow_le_iff (lt_of_lt_of_le (by positivity) h) 127).mpr this) (not_le.mpr h')

/-! ## The kernel's search -/

theorem invPow_zero : invPow (F := Ideal) (0 : EReal) = ((2 : ℝ) : EReal) := by
  have h : ∀ s : Ideal .f32, s = 0 → invPow s = ((2 : ℝ) : EReal) := by
    intro s hs
    pointwise [invPow, k0_pay5, k0_pay6, k0_pay4]
    rw [if_pos hs, two_word]
  exact h 0 rfl

theorem invPow_real (s : Ideal .f32) (hs : s ≠ 0) (a : ℝ) (ha : max (s : EReal) (-s) = (a : EReal)) (hlo : (2 : ℝ) ^ (-127 : ℤ) ≤ a) (hhi : a < (2 : ℝ) ^ (127 : ℤ)) :
    invPow s = (((2 : ℝ) ^ (-expOf a) : ℝ) : EReal) := by
  have hpos : 0 < a := lt_of_lt_of_le (by positivity) hlo
  have e1 := expOf_lo hlo
  have e2 := expOf_hi hlo hhi
  pointwise [invPow, k0_pay5, k0_pay6, k0_pay4]
  rw [if_neg hs]
  have hs' : Scalar.absf s = (a : EReal) := ha
  rw [hs']
  simp only [power_word, inf_word]
  apply le_antisymm
  · rw [Finset.fold_min_le]
    refine Or.inr ⟨(⟨(expOf a + 127).toNat / 128, by omega⟩, ⟨(expOf a + 127).toNat % 128, by omega⟩), Finset.mem_univ _, ?_⟩
    have hk : 128 * ((expOf a + 127).toNat / 128) + (expOf a + 127).toNat % 128 = (expOf a + 127).toNat := by omega
    simp only [hk]
    rw [if_pos]
    · have hr := recip_word ⟨(expOf a + 127).toNat / 128, by omega⟩ ⟨(expOf a + 127).toNat % 128, by omega⟩ (by simp only; omega)
      simp only [hk] at hr
      rw [hr]
      rw [word_pow _ (by omega) (by omega)]
      apply le_of_eq
      congr 2
      omega
    · by_cases h0 : (expOf a + 127).toNat = 0
      · rw [h0, word_zero]
        exact EReal.coe_nonneg.mpr hpos.le
      · rw [word_pow _ (by omega) (by omega), EReal.coe_le_coe_iff, pow_le_iff hpos]
        omega
  · rw [Finset.le_fold_min]
    refine ⟨le_top, fun x _ => ?_⟩
    split_ifs with hx
    · have h255 : 128 * x.1.val + x.2.val ≠ 255 := by
        intro e
        rw [e, word_top] at hx
        exact absurd (top_le_iff.mp hx) (EReal.coe_ne_top _)
      have b1 := x.1.isLt
      have b2 := x.2.isLt
      rw [recip_word _ _ h255]
      by_cases h0 : 128 * x.1.val + x.2.val = 0
      · rw [h0, word_pow _ (by decide) (by decide), EReal.coe_le_coe_iff]
        exact zpow_le_zpow_right₀ (by norm_num) (by push_cast; omega)
      · rw [word_pow _ (by omega) (by omega), EReal.coe_le_coe_iff, pow_le_iff hpos] at hx
        rw [word_pow _ (by omega) (by omega), EReal.coe_le_coe_iff]
        exact zpow_le_zpow_right₀ (by norm_num) (by omega)
    · exact le_top

/-! ## The reference's formula -/

/-- The reference's reciprocal, written out. -/
def refInv (s : EReal) : EReal :=
  if s = 0 then Ideal.ofBits FTy.f32 1073741824#32
  else Ideal.pow (Ideal.ofBits FTy.f32 1073741824#32)
    (-Ideal.liftRound Int.floor (Ideal.div (Ideal.log (max s (-s))) (Ideal.log (Ideal.ofBits FTy.f32 1073741824#32))))

theorem log_coe {r : ℝ} (h : 0 < r) : Ideal.log (r : EReal) = ((Real.log r : ℝ) : EReal) := by
  show (if r ≤ 0 then (⊥ : EReal) else _) = _
  rw [if_neg (not_le.mpr h)]

theorem refInv_real (s : EReal) (hs : s ≠ 0) (a : ℝ) (ha : max s (-s) = (a : EReal)) (hpos : 0 < a) :
    refInv s = (((2 : ℝ) ^ (-expOf a) : ℝ) : EReal) := by
  unfold refInv
  rw [if_neg hs, ha, two_word, log_coe hpos, log_coe (by norm_num)]
  have hd : Ideal.div ((Real.log a : ℝ) : EReal) ((Real.log 2 : ℝ) : EReal) = ((Real.log a / Real.log 2 : ℝ) : EReal) := by
    unfold Ideal.div
    rw [if_neg (by rw [← EReal.coe_zero]; exact fun h => log2_pos.ne' (EReal.coe_eq_coe_iff.mp h)), ← EReal.coe_inv, ← EReal.coe_mul]
    rfl
  rw [hd]
  show Ideal.pow ((2 : ℝ) : EReal) (-(((expOf a : ℤ) : ℝ) : EReal)) = _
  rw [← EReal.coe_neg]
  show ((Real.rpow 2 (-((expOf a : ℤ) : ℝ)) : ℝ) : EReal) = _
  congr 1
  show (2 : ℝ) ^ (-((expOf a : ℤ) : ℝ)) = _
  rw [← Int.cast_neg, Real.rpow_intCast]

/-- The kernel's reciprocal is the reference's. -/
theorem invPow_eq (s : Ideal .f32) (h : Ok s) : invPow s = refInv s := by
  by_cases hs : (s : EReal) = 0
  · have e : invPow s = ((2 : ℝ) : EReal) := by
      have := invPow_zero
      rw [← hs] at this
      exact this
    rw [e]
    unfold refInv
    rw [if_pos hs, two_word]
  · rcases h with h | ⟨a, ha, hlo, hhi⟩
    · exact absurd h hs
    · rw [invPow_real s hs a ha hlo hhi, refInv_real s hs a ha (lt_of_lt_of_le (by positivity) hlo)]

end Cert.InvScale

end
-- ==== Proof.RefValues.lean ====
/-
  What the reference computes, read at an index.
-/
module

public import proofs.«01_k».proof.Proof.Ref
public import proofs.«01_k».proof.Proof.Gen.ReferenceIdeal.Read
public import Idealize.ShloMosaic.Lib.Pointwise

@[expose] public section

set_option maxRecDepth 16384

noncomputable section

namespace Cert.RefValues

open Idealize.ShloMosaic Idealize.ShloMosaic.TcCoe Cert.ReferenceIdeal Cert.ReferenceIdeal.Gen Cert.ReferenceIdeal.Read

/-- Queries, keys and values. -/
abbrev X := Vec Ideal S3x12288x24x128 .bf16
/-- Scales. -/
abbrev Y := Vec Ideal S3x24 .f32

/-! The key's operations are the query's. -/

theorem v28_eq (x4 : Y) : val_main_v28 (F := Ideal) x4 = val_main_v11 (F := Ideal) x4 := rfl
theorem v33_eq (x1 : X) (x4 : Y) : val_main_v33 (F := Ideal) x1 x4 = val_main_v16 (F := Ideal) x1 x4 := rfl
theorem v39_eq (x1 : X) : val_main_v39 (F := Ideal) x1 = val_main_v36 (F := Ideal) x1 := rfl
theorem v66_eq (x1 : X) (x4 : Y) : val_main_v66 (F := Ideal) x1 x4 = val_main_v65 (F := Ideal) x1 x4 := rfl
theorem v69_eq (x1 : X) (x4 : Y) : val_main_v69 (F := Ideal) x1 x4 = val_main_v68 (F := Ideal) x1 x4 := rfl

/-- The reciprocal of the power of two below a scale. -/
theorem v11_apply (x3 : Y) (b : Fin 3) (h : Fin 24) : val_main_v11 (F := Ideal) x3 (ix2 b h) =
    if (x3 (ix2 b h) : EReal) = 0 then Ideal.ofBits FTy.f32 1073741824#32
    else Ideal.pow (Ideal.ofBits FTy.f32 1073741824#32)
      (-Ideal.liftRound Int.floor (Ideal.div (Ideal.log (max (x3 (ix2 b h) : EReal) (-x3 (ix2 b h)))) (Ideal.log (Ideal.ofBits FTy.f32 1073741824#32)))) := by
  pointwise [val_main_v11, val_main_v10, val_main_v9, val_main_v8, val_main_v7, val_main_v6, val_main_v5, val_main_v4, val_main_v3, val_main_v2, val_main_v1, val_main_v0,
    val_main_cst, val_main_cst_0, val_main_cst_1, val_main_cst_2, val_main_call0_v0]
  rfl

/-- A clipped element. -/
theorem v16_apply (x0 : X) (x3 : Y) (b : Fin 3) (s : Fin 12288) (h : Fin 24) (l : Fin 128) : val_main_v16 (F := Ideal) x0 x3 (ix4 b s h l) =
    min (Ideal.ofBits .f32 1138753536#32) (max (Ideal.ofBits .f32 3286237184#32) ((x0 (ix4 b s h l) : EReal) * val_main_v11 (F := Ideal) x3 (ix2 b h))) := by
  pointwise [val_main_v16, val_main_v15, val_main_v14, val_main_v13, val_main_v12, val_main_call1_v4, val_main_call1_v3, val_main_call1_v2, val_main_call1_v1, val_main_call1_v0,
    val_main_cst_3, val_main_cst_4]
  rfl

/-- A maximum over the sequence and the lanes. -/
theorem v36_apply (x0 : X) (b : Fin 3) (h : Fin 24) : val_main_v36 (F := Ideal) x0 (ix2 b h) =
    Finset.fold max (Ideal.ofBits FTy.f32 4286578688#32) (fun x => max (x0 x : EReal) (-x0 x)) {i | reducesTo_S3x12288x24x128_S3x24_d1_3.drop i = ix2 b h} := by
  pointwise [val_main_v36, val_main_v35, val_main_v34, val_main_cst_11]
  rfl

/-- A score. -/
theorem v48_apply (x0 x1 : X) (x3 x4 : Y) (b : Fin 3) (p : Fin 384) (h : Fin 24) (f g : Fin 32) : val_main_v48 (F := Ideal) x0 x1 x3 x4 (ix5 b p h f g) =
    (∑ x : Fin 128, (val_main_v16 (F := Ideal) x0 x3 (ix4 b ⟨f.val * 384 + p.val, by omega⟩ h x) : EReal) * val_main_v33 (F := Ideal) x1 x4 (ix4 b ⟨g.val * 384 + p.val, by omega⟩ h x)) *
      ((x3 (ix2 b h) : EReal) * x4 (ix2 b h) * Ideal.ofBits FTy.f32 1035273459#32) := by
  pointwise [val_main_v48, val_main_v47, val_main_v46, val_main_v45, val_main_v44, val_main_v43, val_main_v42, val_main_v41, val_main_v40, val_main_cst_13]

/-- The greatest score of a query. -/
theorem v49_apply (x0 x1 : X) (x3 x4 : Y) (b : Fin 3) (p : Fin 384) (h : Fin 24) (f : Fin 32) : val_main_v49 (F := Ideal) x0 x1 x3 x4 (ix4 b p h f) =
    Finset.fold max (Ideal.ofBits FTy.f32 4286578688#32) (fun x : Fin 32 => (val_main_v48 (F := Ideal) x0 x1 x3 x4 (ix5 b p h f x) : EReal)) Finset.univ := by
  unfold val_main_v49
  generalize val_main_v48 (F := Ideal) x0 x1 x3 x4 = y
  pointwise [val_main_cst_14]

theorem v51_apply (x0 x1 : X) (x3 x4 : Y) (b : Fin 3) (p : Fin 384) (h : Fin 24) (f : Fin 32) : val_main_v51 (F := Ideal) x0 x1 x3 x4 (ix4 b p h f) =
    max (Ideal.ofBits FTy.f32 4286578688#32) (val_main_v49 (F := Ideal) x0 x1 x3 x4 (ix4 b p h f) : EReal) := by
  have key : ∀ a y : Ideal .f32, FloatOps.maximumf a y = (max (a : EReal) y : EReal) := fun _ _ => rfl
  rw [val_main_v51_apply, val_main_v50_apply, val_main_cst_15_apply, key]
  rfl

theorem v55_apply (x0 x1 : X) (x3 x4 : Y) (b : Fin 3) (p : Fin 384) (h : Fin 24) (f g : Fin 32) : val_main_v55 (F := Ideal) x0 x1 x3 x4 (ix5 b p h f g) =
    Ideal.exp ((val_main_v48 (F := Ideal) x0 x1 x3 x4 (ix5 b p h f g) : EReal) - val_main_v51 (F := Ideal) x0 x1 x3 x4 (ix4 b p h f)) := by
  unfold val_main_v55 val_main_v54 val_main_v53 val_main_v52
  generalize val_main_v48 (F := Ideal) x0 x1 x3 x4 = y
  generalize val_main_v51 (F := Ideal) x0 x1 x3 x4 = z
  pointwise

theorem v59_apply (x0 x1 : X) (x3 x4 : Y) (b : Fin 3) (p : Fin 384) (h : Fin 24) (f g : Fin 32) : val_main_v59 (F := Ideal) x0 x1 x3 x4 (ix5 b p h f g) =
    Ideal.div (val_main_v55 (F := Ideal) x0 x1 x3 x4 (ix5 b p h f g)) (∑ x : Fin 32, (val_main_v55 (F := Ideal) x0 x1 x3 x4 (ix5 b p h f x) : EReal)) := by
  unfold val_main_v59 val_main_v58 val_main_v57 val_main_v56
  generalize val_main_v55 (F := Ideal) x0 x1 x3 x4 = y
  pointwise [val_main_cst_16]

/-- An output element. -/
theorem v64_apply (x0 x1 x2 : X) (x3 x4 : Y) (b : Fin 3) (p : Fin 384) (h : Fin 24) (f : Fin 32) (l : Fin 128) : val_main_v64 (F := Ideal) x0 x1 x2 x3 x4 (ix5 b f p h l) =
    ∑ x : Fin 32, (x2 (ix4 b ⟨x.val * 384 + p.val, by omega⟩ h l) : EReal) * val_main_v59 (F := Ideal) x0 x1 x3 x4 (ix5 b p h f x) := by
  unfold val_main_v64 val_main_v63 val_main_v62 val_main_v60
  generalize val_main_v59 (F := Ideal) x0 x1 x3 x4 = y
  pointwise [val_main_v61]

theorem v67_apply (x0 x1 x2 : X) (x3 x4 : Y) (b : Fin 3) (f : Fin 32) (R : Fin 9216) (l : Fin 128) : val_main_v67 (F := Ideal) x0 x1 x2 x3 x4 (ix4 b f R l) =
    val_main_v64 (F := Ideal) x0 x1 x2 x3 x4 (ix5 b f ⟨R.val / 24, by omega⟩ ⟨R.val % 24, by omega⟩ l) := by
  unfold val_main_v67
  generalize val_main_v64 (F := Ideal) x0 x1 x2 x3 x4 = y
  pointwise

/-- A code. -/
theorem v68_apply (x0 : X) (x3 : Y) (b : Fin 3) (f : Fin 32) (R : Fin 9216) (l : Fin 128) : val_main_v68 (F := Ideal) x0 x3 (ix4 b f R l) =
    val_main_v16 (F := Ideal) x0 x3 (ix4 b ⟨f.val * 384 + R.val / 24, by omega⟩ ⟨R.val % 24, by omega⟩ l) := by
  unfold val_main_v68 val_main_v65
  generalize val_main_v16 (F := Ideal) x0 x3 = y
  pointwise

end Cert.RefValues

end
-- ==== Proof.Cells.lean ====
/-
  A group of a point in terms of the whole arrays: its rows, its codes.
-/
module

public import proofs.«01_k».proof.Proof.Group
public import proofs.«01_k».proof.Proof.Arrays
public import proofs.«01_k».proof.Proof.InvScale
public import proofs.«01_k».proof.Proof.RefValues

@[expose] public section

set_option maxRecDepth 16384

noncomputable section

namespace Cert.Cells

open Idealize.ShloMosaic Idealize.ShloMosaic.TcCoe Cert.KernelIdeal Cert.KernelIdeal.Gen Cert.KernelIdeal.Block Cert.Group
open Cert.InvScale (Ok)
open Cert.ReferenceIdeal.Read

/-- The block `blk` is the one of grid point `t` of the array `x`. -/
def Blk (x : Vec Ideal S3x12288x24x128 .bf16) (t : ℕ) (blk : Vec Ideal S1x32x96x128 .bf16) : Prop :=
  ∀ (b : Fin 3) (f : Fin 32) (r : Fin 96) (l : Fin 128) (p : Fin 384) (h : Fin 24), b.val = t / 96 → p.val = 4 * (t % 96) + r.val / 24 → h.val = r.val % 24 →
    blk (ix4 (n0 := 1) (n1 := 32) (n2 := 96) (n3 := 128) 0 f r l)
      = x (ix4 (n0 := 3) (n1 := 12288) (n2 := 24) (n3 := 128) b ⟨f.val * 384 + p.val, by omega⟩ h l)

theorem blk_of (x : Vec Ideal S3x12288x24x128 .bf16) (t : Fin cfg0.N) (blk : Vec Ideal S1x32x96x128 .bf16)
    (h : ∀ (f : Fin 32) (r : Fin 96) (l : Fin 128), blk (ix4 (n0 := 1) (n1 := 32) (n2 := 96) (n3 := 128) 0 f r l)
      = argAt x (t.val / 96) f.val (96 * (t.val % 96) + r.val) l.val (by have := tlt t; omega) f.isLt (by omega) l.isLt) : Blk x t.val blk := by
  intro b f r l p hd hb hp hh
  rw [h]
  unfold argAt
  have e0 : (⟨t.val / 96, by have := tlt t; omega⟩ : Fin 3) = b := Fin.ext hb.symm
  have e1 : (⟨384 * f.val + (96 * (t.val % 96) + r.val) / 24, by omega⟩ : Fin 12288) = ⟨f.val * 384 + p.val, by omega⟩ := Fin.ext (by show 384 * f.val + _ = f.val * 384 + p.val; omega)
  have e2 : (⟨(96 * (t.val % 96) + r.val) % 24, by omega⟩ : Fin 24) = hd := Fin.ext (by show _ % 24 = hd.val; omega)
  rw [e0, e1, e2]

theorem slice_at (x : Vec Ideal S1x32x96x128 .bf16) (w i : ℕ) (hw : w < 24) (hi : i < 2) (f : Fin 32) (u : Fin 2) (l : Fin 128) :
    sliceOf x w i hw hi (ix4 (n0 := 1) (n1 := 32) (n2 := 2) (n3 := 128) 0 f u l)
      = x (ix4 (n0 := 1) (n1 := 32) (n2 := 96) (n3 := 128) 0 f ⟨2 * w + 48 * i + u.val, by omega⟩ l) := by
  unfold sliceOf
  congr 1
  funext a
  match a with
  | ⟨0, _⟩ => rfl
  | ⟨1, _⟩ => exact Fin.ext (by show 0 + 1 * f.val = f.val; omega)
  | ⟨2, _⟩ => exact Fin.ext (by show (2 * w + 48 * i) + 1 * u.val = 2 * w + 48 * i + u.val; omega)
  | ⟨3, _⟩ => exact Fin.ext (by show 0 + 1 * l.val = l.val; omega)

variable {x : Vec Ideal S3x12288x24x128 .bf16} {t : ℕ} {blk : Vec Ideal S1x32x96x128 .bf16}

/-- Row `4 g + j` of group `w` is pixel `4 (t mod 96) + w / 12 + 2 (j / 2)` of frame `g`, head `2 (w mod 12) + j mod 2`. -/
theorem tile_val (hB : Blk x t blk) (w : ℕ) (hw : w < 24) (g : Fin 32) (j : ℕ) (hj : j < 4) (b : Fin 3) (p : Fin 384) (h : Fin 24)
    (hb : b.val = t / 96) (hp : p.val = 4 * (t % 96) + w / 12 + 2 * (j / 2)) (hh : h.val = 2 * (w % 12) + j % 2) (r l : Fin 128) (hr : r.val = 4 * g.val + j) :
    tile (F := Ideal) (sliceOf blk w 0 hw (by decide)) (sliceOf blk w 1 hw (by decide)) (ix2 r l)
      = x (ix4 (n0 := 3) (n1 := 12288) (n2 := 24) (n3 := 128) b ⟨g.val * 384 + p.val, by omega⟩ h l) := by
  rw [tile_apply]
  have eg : (⟨r.val / 4, by omega⟩ : Fin 32) = g := Fin.ext (by show r.val / 4 = g.val; omega)
  rw [eg]
  by_cases h2 : r.val / 2 % 2 = 0
  · rw [if_pos h2, slice_at]
    exact hB b g _ l p h hb (by simp only; omega) (by simp only; omega)
  · rw [if_neg h2, slice_at]
    exact hB b g _ l p h hb (by simp only; omega) (by simp only; omega)

theorem hi_word : Ideal.ofBits .bf16 17376#16 = ((448 : ℝ) : EReal) := by
  simp only [Ideal.ofBits, Ideal.ieee]
  rw [if_neg (by decide +kernel), if_neg (by decide +kernel)]
  congr 1
  rw [show (BitVec.extractLsb' (8 + 7) 1 17376#16 == 1#1) = false by decide +kernel, show (BitVec.extractLsb' 7 8 17376#16).toNat = 135 by decide +kernel,
    show (BitVec.extractLsb' 0 7 17376#16).toNat = 96 by decide +kernel]
  norm_num

theorem lo_word : Ideal.ofBits .bf16 50144#16 = ((-448 : ℝ) : EReal) := by
  simp only [Ideal.ofBits, Ideal.ieee]
  rw [if_neg (by decide +kernel), if_neg (by decide +kernel)]
  congr 1
  rw [show (BitVec.extractLsb' (8 + 7) 1 50144#16 == 1#1) = true by decide +kernel, show (BitVec.extractLsb' 7 8 50144#16).toNat = 135 by decide +kernel,
    show (BitVec.extractLsb' 0 7 50144#16).toNat = 96 by decide +kernel]
  norm_num

theorem hi_word' : Ideal.ofBits .f32 1138753536#32 = ((448 : ℝ) : EReal) := by
  simp only [Ideal.ofBits, Ideal.ieee]
  rw [if_neg (by decide +kernel), if_neg (by decide +kernel)]
  congr 1
  rw [show (BitVec.extractLsb' (8 + 23) 1 1138753536#32 == 1#1) = false by decide +kernel, show (BitVec.extractLsb' 23 8 1138753536#32).toNat = 135 by decide +kernel,
    show (BitVec.extractLsb' 0 23 1138753536#32).toNat = 6291456 by decide +kernel]
  norm_num

theorem lo_word' : Ideal.ofBits .f32 3286237184#32 = ((-448 : ℝ) : EReal) := by
  simp only [Ideal.ofBits, Ideal.ieee]
  rw [if_neg (by decide +kernel), if_neg (by decide +kernel)]
  congr 1
  rw [show (BitVec.extractLsb' (8 + 23) 1 3286237184#32 == 1#1) = true by decide +kernel, show (BitVec.extractLsb' 23 8 3286237184#32).toNat = 135 by decide +kernel,
    show (BitVec.extractLsb' 0 23 3286237184#32).toNat = 6291456 by decide +kernel]
  norm_num

theorem factor_real : ∃ r : ℝ, Ideal.ofBits .f32 1035273459#32 = (r : EReal) := by
  simp only [Ideal.ofBits, Ideal.ieee]
  rw [if_neg (by decide +kernel), if_neg (by decide +kernel)]
  exact ⟨_, rfl⟩

theorem clip_real (lo hi : ℝ) (y : EReal) : ∃ r : ℝ, min (hi : EReal) (max (lo : EReal) y) = (r : EReal) := by
  induction y using EReal.rec with
  | bot => exact ⟨min hi lo, by rw [max_eq_left bot_le]; exact (EReal.coe_strictMono.monotone.map_min).symm⟩
  | top => exact ⟨hi, by rw [max_eq_right le_top, min_eq_left le_top]⟩
  | coe y => exact ⟨min hi (max lo y), by rw [EReal.coe_strictMono.monotone.map_min, EReal.coe_strictMono.monotone.map_max]⟩

theorem v16_real (x0 : Vec Ideal S3x12288x24x128 .bf16) (x3 : Vec Ideal S3x24 .f32) (b : Fin 3) (s : Fin 12288) (h : Fin 24) (l : Fin 128) :
    ∃ r : ℝ, (val_main_v16 (F := Ideal) x0 x3 (ix4 b s h l) : EReal) = (r : EReal) := by
  rw [RefValues.v16_apply, hi_word', lo_word']
  exact clip_real _ _ _

/-- A code of a group is the reference's clipped element. -/
theorem codes_val (hB : Blk x t blk) (s : Vec Ideal S3x24 .f32) (i : grid0.Coords) (w : ℕ) (hw : w < 24) (g : Fin 32) (j : ℕ) (hj : j < 4) (b : Fin 3) (p : Fin 384) (h : Fin 24)
    (hi : (i 0).val = b.val) (hOk : Ok (s (ix2 (n0 := 3) (n1 := 24) b h)))
    (hb : b.val = t / 96) (hp : p.val = 4 * (t % 96) + w / 12 + 2 * (j / 2)) (hh : h.val = 2 * (w % 12) + j % 2) (r l : Fin 128) (hr : r.val = 4 * g.val + j) :
    (codes (F := Ideal) (sliceOf blk w 0 hw (by decide)) (sliceOf blk w 1 hw (by decide)) (invOf s i (w % 12) (Nat.mod_lt _ (by decide))) (ix2 r l) : EReal)
      = val_main_v16 (F := Ideal) x s (ix4 b ⟨g.val * 384 + p.val, by omega⟩ h l) := by
  rw [codes_apply, tile_val hB w hw g j hj b p h hb hp hh r l hr, RefValues.v16_apply, hi_word, lo_word, hi_word', lo_word', RefValues.v11_apply]
  have e : invOf (F := Ideal) s i (w % 12) (Nat.mod_lt _ (by decide)) (ix3 (n0 := 1) (n1 := 16) (n2 := 128) 0 ⟨r.val % 16, by omega⟩ l) = InvScale.refInv (s (ix2 (n0 := 3) (n1 := 24) b h)) := by
    unfold invOf
    rw [invRow_apply, scaleOf_eq, scaleOf_eq, ← InvScale.invPow_eq _ hOk]
    congr 1
    have eb : (⟨(i 0).val, (i 0).isLt⟩ : Fin 3) = b := Fin.ext hi
    rw [eb]
    split_ifs with h1
    · congr 2
      exact Fin.ext (by simp only at h1 ⊢; omega)
    · congr 2
      exact Fin.ext (by simp only at h1 ⊢; omega)
  rw [e]
  rfl

/-- A block of codes, element by element. -/
theorem codeBlk_apply (y : (w : ℕ) → w < 24 → FVec Ideal S128x128 .fp8e4m3) (f : Fin 32) (r : Fin 96) (l : Fin 128) :
    codeBlk (F := Ideal) y (ix4 (n0 := 1) (n1 := 32) (n2 := 96) (n3 := 128) 0 f r l)
      = y (r.val % 48 / 2) (by omega) (ix2 ⟨4 * f.val + (2 * (r.val / 48) + r.val % 2), by omega⟩ l) := by
  have hr := r.isLt
  have key : ∀ (w w' : ℕ) (hw : w < 24) (hw' : w' < 24) (q q' : Fin 128), w = w' → q = q' → y w hw (ix2 q l) = y w' hw' (ix2 q' l) := by
    rintro w _ hw hw' q _ rfl rfl
    rfl
  show (if r.val / 48 = 0 then code0 (pairCodes (y (2 * (r.val % 48 / 4)) _) (y (2 * (r.val % 48 / 4) + 1) _)) else code1 (pairCodes (y (2 * (r.val % 48 / 4)) _) (y (2 * (r.val % 48 / 4) + 1) _)))
    (ix4 (n0 := 1) (n1 := 32) (n2 := 4) (n3 := 128) 0 f ⟨r.val % 4, by omega⟩ l) = _
  by_cases h0 : r.val / 48 = 0
  · rw [if_pos h0, code0_apply, pairCodes_apply]
    by_cases h1 : r.val % 4 / 2 = 0
    · rw [if_pos h1]
      exact key _ _ _ _ _ _ (by omega) (Fin.ext (by simp only [Fin.val_zero]; omega))
    · rw [if_neg h1]
      exact key _ _ _ _ _ _ (by omega) (Fin.ext (by simp only [Fin.val_zero]; omega))
  · rw [if_neg h0, code1_apply, pairCodes_apply]
    by_cases h1 : r.val % 4 / 2 = 0
    · rw [if_pos h1]
      exact key _ _ _ _ _ _ (by omega) (Fin.ext (by simp only [Fin.val_one]; omega))
    · rw [if_neg h1]
      exact key _ _ _ _ _ _ (by omega) (Fin.ext (by simp only [Fin.val_one]; omega))

/-- A block of outputs, element by element. -/
theorem outBlk_apply (L : Loads Ideal) (f : Fin 32) (r : Fin 96) (l : Fin 128) :
    outBlk (F := Ideal) L (ix4 (n0 := 1) (n1 := 32) (n2 := 96) (n3 := 128) 0 f r l)
      = L.o (r.val % 48 / 2) (by omega) (ix4 f ⟨r.val / 48, by omega⟩ ⟨r.val % 2, by omega⟩ l) := by
  have hr := r.isLt
  show (if r.val / 48 = 0 then out0 (L.o (r.val % 48 / 2) _) else out1 (L.o (r.val % 48 / 2) _)) (ix4 (n0 := 1) (n1 := 32) (n2 := 2) (n3 := 128) 0 f ⟨r.val % 2, by omega⟩ l) = _
  by_cases h0 : r.val / 48 = 0
  · rw [if_pos h0, out0_apply]
    congr 2
    exact Fin.ext h0.symm
  · rw [if_neg h0, out1_apply]
    congr 2
    exact Fin.ext (by show 1 = r.val / 48; omega)

end Cert.Cells

end
-- ==== Proof.Softmax.lean ====
/-
  The softmax a group of rows computes, over the extended reals. A group keeps 32 keys among 128 rows: those of one
  remainder modulo four. The other rows' scores are −∞, so they add nothing to the maximum, to the sum or to the output.
  The kernel's exponential is in base two, its scores carry the factor 1 / log 2.
-/
module

public import Idealize.ShloMosaic.Lib.IdealHost
public import Idealize.ShloMosaic.PureOps.Ideal.Laws
public import Mathlib.Analysis.SpecialFunctions.Pow.Real

@[expose] public section

noncomputable section

namespace Cert.Softmax

open Idealize.ShloMosaic

/-- A sum over 128 rows whose terms vanish off one remainder modulo four. -/
theorem sum_rows (F : Fin 128 → EReal) (j : ℕ) (hj : j < 4) (h : ∀ r : Fin 128, r.val % 4 ≠ j → F r = 0) :
    ∑ r, F r = ∑ g : Fin 32, F ⟨4 * g.val + j, by omega⟩ := by
  symm
  refine Finset.sum_of_injOn (fun g : Fin 32 => (⟨4 * g.val + j, by omega⟩ : Fin 128)) ?_ ?_ ?_ ?_
  · intro a _ b _ e
    have := congrArg Fin.val e
    apply Fin.ext
    simp only at this
    omega
  · intro a _
    simp
  · intro r _ hr
    refine h r fun e => hr ⟨⟨r.val / 4, by omega⟩, by simp, Fin.ext ?_⟩
    show 4 * (r.val / 4) + j = r.val
    omega
  · intro a _
    rfl

/-- A maximum over 128 rows that are −∞ off one remainder modulo four. -/
theorem max_rows (T : Fin 128 → EReal) (j : ℕ) (hj : j < 4) (h : ∀ r : Fin 128, r.val % 4 ≠ j → T r = ⊥) :
    Finset.univ.fold max ⊥ T = Finset.univ.fold max ⊥ fun g : Fin 32 => T ⟨4 * g.val + j, by omega⟩ := by
  apply eq_of_forall_ge_iff
  intro z
  rw [Finset.fold_max_le, Finset.fold_max_le]
  refine and_congr_right fun _ => ⟨fun H g _ => H _ (Finset.mem_univ _), fun H r _ => ?_⟩
  by_cases e : r.val % 4 = j
  · have := H ⟨r.val / 4, by omega⟩ (Finset.mem_univ _)
    have e' : (⟨4 * (r.val / 4) + j, by omega⟩ : Fin 128) = r := Fin.ext (by show 4 * (r.val / 4) + j = r.val; omega)
    simp only [e'] at this
    exact this
  · rw [h r e]
    exact bot_le

/-- The maximum of real scores is the greatest of them. -/
theorem max_real (s : Fin 32 → ℝ) (g₀ : Fin 32) (h : ∀ g, s g ≤ s g₀) : Finset.univ.fold max ⊥ (fun g => (s g : EReal)) = (s g₀ : EReal) := by
  apply eq_of_forall_ge_iff
  intro z
  rw [Finset.fold_max_le]
  exact ⟨fun H => H.2 g₀ (Finset.mem_univ _), fun H => ⟨bot_le, fun g _ => (EReal.coe_le_coe_iff.mpr (h g)).trans H⟩⟩

theorem log2_pos : 0 < Real.log 2 := Real.log_pos (by norm_num)

/-- Base two with the factor 1 / log 2 is the exponential. -/
theorem exp2_scaled (a : ℝ) : Ideal.exp2 ((a * (Real.log 2)⁻¹ : ℝ) : EReal) = ((Real.exp a : ℝ) : EReal) := by
  show ((Real.rpow 2 (a * (Real.log 2)⁻¹) : ℝ) : EReal) = _
  congr 1
  show (2 : ℝ) ^ (a * (Real.log 2)⁻¹) = _
  rw [Real.rpow_def_of_pos (by norm_num)]
  congr 1
  field_simp [log2_pos.ne']

theorem sum_coe {ι : Type*} (s : Finset ι) (f : ι → ℝ) : ∑ g ∈ s, ((f g : ℝ) : EReal) = ((∑ g ∈ s, f g : ℝ) : EReal) := by
  classical
  induction s using Finset.induction with
  | empty => simp
  | insert a s ha ih => rw [Finset.sum_insert ha, Finset.sum_insert ha, ih, EReal.coe_add]

/-- The softmax over the rows of a group, weighted by the values, is the softmax over its 32 keys. -/
theorem rows_eq (D : Fin 32 → ℝ) (c : ℝ) (j : ℕ) (hj : j < 4) (T V : Fin 128 → EReal)
    (hT : ∀ g : Fin 32, T ⟨4 * g.val + j, by omega⟩ = (D g : EReal) * ((c : EReal) * (((Real.log 2)⁻¹ : ℝ) : EReal)))
    (hB : ∀ r : Fin 128, r.val % 4 ≠ j → T r = ⊥) :
    ∑ r, Ideal.exp2 (T r - Finset.univ.fold max ⊥ T) * Ideal.div 1 (∑ r', Ideal.exp2 (T r' - Finset.univ.fold max ⊥ T)) * V r
      = ∑ g : Fin 32, V ⟨4 * g.val + j, by omega⟩ *
          Ideal.div (Ideal.exp ((D g : EReal) * c - max ⊥ (Finset.univ.fold max ⊥ fun g' : Fin 32 => (D g' : EReal) * c)))
            (∑ g' : Fin 32, Ideal.exp ((D g' : EReal) * c - max ⊥ (Finset.univ.fold max ⊥ fun g' : Fin 32 => (D g' : EReal) * c))) := by
  obtain ⟨g₀, hg⟩ := Finite.exists_max fun g => D g * c
  have hL : 0 < (Real.log 2)⁻¹ := inv_pos.mpr log2_pos
  have hT' : ∀ g : Fin 32, T ⟨4 * g.val + j, by omega⟩ = ((D g * c * (Real.log 2)⁻¹ : ℝ) : EReal) := by
    intro g
    rw [hT g, ← EReal.coe_mul, ← EReal.coe_mul, mul_assoc]
  have hM : Finset.univ.fold max ⊥ T = ((D g₀ * c * (Real.log 2)⁻¹ : ℝ) : EReal) := by
    rw [max_rows T j hj hB]
    simp only [hT']
    exact max_real (fun g => D g * c * (Real.log 2)⁻¹) g₀ fun g => mul_le_mul_of_nonneg_right (hg g) hL.le
  have hR : (Finset.univ.fold max ⊥ fun g' : Fin 32 => (D g' : EReal) * c) = ((D g₀ * c : ℝ) : EReal) := by
    simp only [← EReal.coe_mul]
    exact max_real (fun g => D g * c) g₀ hg
  have hE : ∀ g : Fin 32, Ideal.exp2 (T ⟨4 * g.val + j, by omega⟩ - Finset.univ.fold max ⊥ T) = ((Real.exp (D g * c - D g₀ * c) : ℝ) : EReal) := by
    intro g
    rw [hM, hT', ← EReal.coe_sub, ← sub_mul, exp2_scaled]
  have hZ : ∀ r : Fin 128, r.val % 4 ≠ j → Ideal.exp2 (T r - Finset.univ.fold max ⊥ T) = 0 := by
    intro r hr
    rw [hB r hr, EReal.bot_sub]
    rfl
  have hX : ∀ g : Fin 32, Ideal.exp ((D g : EReal) * c - max ⊥ (Finset.univ.fold max ⊥ fun g' : Fin 32 => (D g' : EReal) * c))
      = ((Real.exp (D g * c - D g₀ * c) : ℝ) : EReal) := by
    intro g
    rw [hR, max_eq_right bot_le, ← EReal.coe_mul, ← EReal.coe_sub]
    rfl
  rw [sum_rows _ j hj hZ, sum_rows _ j hj fun r hr => by rw [hZ r hr, zero_mul, zero_mul]]
  simp only [hE, hX]
  refine Finset.sum_congr rfl fun g _ => ?_
  rw [sum_coe, Ideal.mul_one_div, mul_comm]
  rw [← EReal.coe_zero]
  intro h
  have := EReal.coe_eq_coe_iff.mp h
  have hp : 0 < ∑ g : Fin 32, Real.exp (D g * c - D g₀ * c) := Finset.sum_pos (fun g _ => Real.exp_pos _) Finset.univ_nonempty
  exact hp.ne' this

end Cert.Softmax

end
-- ==== Proof.Outs.lean ====
/-
  The output of a group is the reference's.
-/
module

public import proofs.«01_k».proof.Proof.Cells
public import proofs.«01_k».proof.Proof.Softmax

@[expose] public section

set_option maxRecDepth 16384

noncomputable section

namespace Cert.Cells

open Idealize.ShloMosaic Idealize.ShloMosaic.TcCoe Cert.KernelIdeal Cert.KernelIdeal.Gen Cert.KernelIdeal.Block Cert.Group
open Cert.InvScale (Ok)
open Cert.ReferenceIdeal.Read

/-- An output of a group, with its scores. -/
theorem group_sum (k8 q8 : FVec Ideal S128x128 .fp8e4m3) (c : Vec Ideal S1x8x128 .f32) (va vb : Vec Ideal S1x32x2x128 .bf16)
    (f : Fin 32) (i u : Fin 2) (l q : Fin 128) (hq : q.val = 4 * f.val + 2 * i.val + u.val) :
    (group (F := Ideal) k8 q8 c va vb (ix4 f i u l) : EReal) =
      ∑ r : Fin 128, Ideal.exp2 ((scores (F := Ideal) k8 q8 c (ix2 r q) : EReal) - Finset.univ.fold max ⊥ (fun r' : Fin 128 => (scores (F := Ideal) k8 q8 c (ix2 r' q) : EReal)))
        * Ideal.div 1 (∑ r' : Fin 128, Ideal.exp2 ((scores (F := Ideal) k8 q8 c (ix2 r' q) : EReal) - Finset.univ.fold max ⊥ (fun r' : Fin 128 => (scores (F := Ideal) k8 q8 c (ix2 r' q) : EReal))))
        * (tile (F := Ideal) va vb (ix2 r l) : EReal) := by
  rw [group_apply]
  have e : (⟨4 * f.val + 2 * i.val + u.val, by omega⟩ : Fin 128) = q := Fin.ext hq.symm
  rw [e]
  refine Finset.sum_congr rfl fun r _ => ?_
  simp only [probs_apply, expo_apply]

variable {xq xk xv : Vec Ideal S3x12288x24x128 .bf16} {t : ℕ} {bq bk bv : Vec Ideal S1x32x96x128 .bf16}

/-- The factor of a column of scores. -/
theorem fac_val (s s' : Vec Ideal S3x24 .f32) (i : grid0.Coords) (hp : ℕ) (hp12 : hp < 12) (j : Fin 8) (q : Fin 128) (b : Fin 3) (h : Fin 24)
    (hi : (i 0).val = b.val) (hh : h.val = 2 * hp + q.val % 2) :
    (facOf (F := Ideal) s s' i hp hp12 (ix3 (n0 := 1) (n1 := 8) (n2 := 128) 0 j q) : EReal)
      = (s (ix2 (n0 := 3) (n1 := 24) b h) : EReal) * s' (ix2 (n0 := 3) (n1 := 24) b h) * Ideal.ofBits .f32 1035273459#32 * (((Real.log 2)⁻¹ : ℝ) : EReal) := by
  unfold facOf
  rw [scaleRow_apply, scaleOf_eq, scaleOf_eq, scaleOf_eq, scaleOf_eq]
  have eb : (⟨(i 0).val, (i 0).isLt⟩ : Fin 3) = b := Fin.ext hi
  rw [eb]
  by_cases h1 : q.val % 2 = 1
  · have e : (⟨2 * hp + 1, by omega⟩ : Fin 24) = h := Fin.ext (by show 2 * hp + 1 = h.val; omega)
    rw [if_pos h1, e]
  · have e : (⟨2 * hp, by omega⟩ : Fin 24) = h := Fin.ext (by show 2 * hp = h.val; omega)
    rw [if_neg h1, e]

/-- An output of a group is the reference's. -/
theorem out_val (hq : Blk xq t bq) (hk : Blk xk t bk) (hv : Blk xv t bv) (s s' : Vec Ideal S3x24 .f32) (i : grid0.Coords) (w : ℕ) (hw : w < 24)
    (f : Fin 32) (a u : Fin 2) (b : Fin 3) (p : Fin 384) (h : Fin 24) (l : Fin 128)
    (hi : (i 0).val = b.val) (hOk : Ok (s (ix2 (n0 := 3) (n1 := 24) b h))) (hOk' : Ok (s' (ix2 (n0 := 3) (n1 := 24) b h)))
    (hb : b.val = t / 96) (hp : p.val = 4 * (t % 96) + w / 12 + 2 * a.val) (hh : h.val = 2 * (w % 12) + u.val) :
    ((loadsAt s s' bq bk bv i).o w hw (ix4 f a u l) : EReal) = val_main_v64 (F := Ideal) xq xk xv s s' (ix5 b f p h l) := by
  have ha := a.isLt
  have hu := u.isLt
  have hj : 2 * a.val + u.val < 4 := by omega
  show (group (F := Ideal) ((loadsAt s s' bq bk bv i).k8 w hw) ((loadsAt s s' bq bk bv i).q8 w hw) (facOf s s' i (w % 12) (Nat.mod_lt _ (by decide)))
    (sliceOf bv w 0 hw (by decide)) (sliceOf bv w 1 hw (by decide)) (ix4 f a u l) : EReal) = _
  have hQ : ∀ d : Fin 128, ((loadsAt s s' bq bk bv i).q8 w hw (ix2 ⟨4 * f.val + 2 * a.val + u.val, by omega⟩ d) : EReal)
      = val_main_v16 (F := Ideal) xq s (ix4 b ⟨f.val * 384 + p.val, by omega⟩ h d) := fun d =>
    codes_val hq s i w hw f (2 * a.val + u.val) hj b p h hi hOk hb (by omega) (by omega) _ d (by show 4 * f.val + 2 * a.val + u.val = _; omega)
  have hK : ∀ (g : Fin 32) (d : Fin 128), ((loadsAt s s' bq bk bv i).k8 w hw (ix2 ⟨4 * g.val + (2 * a.val + u.val), by omega⟩ d) : EReal)
      = val_main_v16 (F := Ideal) xk s' (ix4 b ⟨g.val * 384 + p.val, by omega⟩ h d) := fun g d =>
    codes_val hk s' i w hw g (2 * a.val + u.val) hj b p h hi hOk' hb (by omega) (by omega) _ d rfl
  have hV : ∀ g : Fin 32, (tile (F := Ideal) (sliceOf bv w 0 hw (by decide)) (sliceOf bv w 1 hw (by decide)) (ix2 ⟨4 * g.val + (2 * a.val + u.val), by omega⟩ l) : EReal)
      = xv (ix4 (n0 := 3) (n1 := 12288) (n2 := 24) (n3 := 128) b ⟨g.val * 384 + p.val, by omega⟩ h l) := fun g =>
    tile_val hv w hw g (2 * a.val + u.val) hj b p h hb (by omega) (by omega) _ l rfl
  have hC : ∀ j : Fin 8, (facOf (F := Ideal) s s' i (w % 12) (Nat.mod_lt _ (by decide)) (ix3 (n0 := 1) (n1 := 8) (n2 := 128) 0 j ⟨4 * f.val + 2 * a.val + u.val, by omega⟩) : EReal)
      = (s (ix2 (n0 := 3) (n1 := 24) b h) : EReal) * s' (ix2 (n0 := 3) (n1 := 24) b h) * Ideal.ofBits .f32 1035273459#32 * (((Real.log 2)⁻¹ : ℝ) : EReal) := fun j =>
    fac_val s s' i (w % 12) (Nat.mod_lt _ (by decide)) j _ b h hi (by simp only; omega)
  generalize (loadsAt s s' bq bk bv i).q8 w hw = q8 at hQ ⊢
  generalize (loadsAt s s' bq bk bv i).k8 w hw = k8 at hK ⊢
  generalize facOf (F := Ideal) s s' i (w % 12) (Nat.mod_lt _ (by decide)) = c at hC ⊢
  obtain ⟨cs, hcs⟩ := hOk.real
  obtain ⟨cs', hcs'⟩ := hOk'.real
  obtain ⟨cf, hcf⟩ := factor_real
  choose Q hQr using fun d : Fin 128 => v16_real xq s b ⟨f.val * 384 + p.val, by omega⟩ h d
  choose K hKr using fun (g : Fin 32) (d : Fin 128) => v16_real xk s' b ⟨g.val * 384 + p.val, by omega⟩ h d
  have hD : ∀ g : Fin 32, (∑ d : Fin 128, (val_main_v16 (F := Ideal) xq s (ix4 b ⟨f.val * 384 + p.val, by omega⟩ h d) : EReal) * val_main_v33 (F := Ideal) xk s' (ix4 b ⟨g.val * 384 + p.val, by omega⟩ h d))
      = ((∑ d : Fin 128, Q d * K g d : ℝ) : EReal) := by
    intro g
    rw [RefValues.v33_eq, ← Softmax.sum_coe]
    refine Finset.sum_congr rfl fun d _ => ?_
    rw [hQr, hKr, EReal.coe_mul]
  have hc : (s (ix2 (n0 := 3) (n1 := 24) b h) : EReal) * s' (ix2 (n0 := 3) (n1 := 24) b h) * Ideal.ofBits .f32 1035273459#32 = ((cs * cs' * cf : ℝ) : EReal) := by
    rw [hcs, hcs', hcf, EReal.coe_mul, EReal.coe_mul]
  have hS : ∀ g : Fin 32, (val_main_v48 (F := Ideal) xq xk s s' (ix5 b p h f g) : EReal) = ((∑ d : Fin 128, Q d * K g d : ℝ) : EReal) * ((cs * cs' * cf : ℝ) : EReal) := by
    intro g
    rw [RefValues.v48_apply, hD, hc]
  rw [group_sum k8 q8 c _ _ f a u l ⟨4 * f.val + 2 * a.val + u.val, by omega⟩ rfl]
  rw [Softmax.rows_eq (fun g => ∑ d : Fin 128, Q d * K g d) (cs * cs' * cf) (2 * a.val + u.val) hj
    (fun r => (scores (F := Ideal) k8 q8 c (ix2 r ⟨4 * f.val + 2 * a.val + u.val, by omega⟩) : EReal))
    (fun r => (tile (F := Ideal) (sliceOf bv w 0 hw (by decide)) (sliceOf bv w 1 hw (by decide)) (ix2 r l) : EReal)) ?_ ?_]
  · rw [RefValues.v64_apply]
    refine Finset.sum_congr rfl fun g _ => ?_
    simp only [RefValues.v59_apply, RefValues.v55_apply, RefValues.v51_apply, RefValues.v49_apply, hS, neg_inf]
    rw [hV]
  · intro g
    rw [scores_apply, if_pos (by simp only; omega), hC, hc]
    congr 1
    rw [← Softmax.sum_coe]
    refine Finset.sum_congr rfl fun d _ => ?_
    rw [hK, hQ, hQr, hKr, EReal.coe_mul, mul_comm]
  · intro r hr
    rw [scores_apply, if_neg (by simp only; omega)]

end Cert.Cells

end
-- ==== Proof.Maxima.lean ====
/-
  The two arrays of maxima are the reference's: both are the least bound of the absolute values of a batch entry's head.
-/
module

public import proofs.«01_k».proof.Proof.Cells

@[expose] public section

set_option maxRecDepth 16384

noncomputable section

namespace Cert.Cells

open Idealize.ShloMosaic Idealize.ShloMosaic.TcCoe Cert.KernelIdeal Cert.KernelIdeal.Gen Cert.KernelIdeal.Block Cert.Group
open Cert.ReferenceIdeal.Read

theorem abs_nonneg (a : EReal) : 0 ≤ max a (-a) := by
  rcases le_total 0 a with h | h
  · exact le_max_of_le_left h
  · exact le_max_of_le_right (EReal.neg_nonneg.mpr h)

/-- A running maximum after a group is bounded as the one before and the group's absolute values are. -/
theorem updMax_le (old : Vec Ideal S1x16x128 .bf16) (a b : Vec Ideal S1x32x2x128 .bf16) (j : Fin 16) (l : Fin 128) (z : EReal) :
    (updMax (F := Ideal) old a b (ix3 (n0 := 1) 0 j l) : EReal) ≤ z ↔ (old (ix3 (n0 := 1) (n1 := 16) (n2 := 128) 0 j l) : EReal) ≤ z
      ∧ ∀ n : Fin 8, max (tile (F := Ideal) a b (ix2 ⟨16 * n.val + j.val, by omega⟩ l) : EReal) (-tile (F := Ideal) a b (ix2 ⟨16 * n.val + j.val, by omega⟩ l)) ≤ z := by
  rw [updMax_apply, max_le_iff, Finset.fold_max_le]
  refine and_congr_right fun _ => ⟨fun H n => ?_, fun H => ⟨bot_le, fun n _ => ?_⟩⟩
  · have := H.2 n (Finset.mem_univ _)
    rw [blocks_apply] at this
    exact this
  · rw [blocks_apply]
    exact H n

/-- The absolute value of element `s` of the sequence at lane `l`. -/
def absAt (x : Vec Ideal S3x12288x24x128 .bf16) (b : Fin 3) (h : Fin 24) (s : Fin 12288) (l : Fin 128) : EReal :=
  max (x (ix4 (n0 := 3) (n1 := 12288) (n2 := 24) (n3 := 128) b s h l) : EReal) (-x (ix4 (n0 := 3) (n1 := 12288) (n2 := 24) (n3 := 128) b s h l))

/-- The elements of the sequence that row `j` of the running maxima meets at point `k` of a batch entry. -/
def seqAt (k : ℕ) (hk : k < 96) (j : Fin 16) (q : Fin 2) (n : Fin 8) : Fin 12288 :=
  ⟨(4 * n.val + j.val / 4) * 384 + (4 * k + q.val + 2 * (j.val % 4 / 2)), by omega⟩

theorem group_abs {x : Vec Ideal S3x12288x24x128 .bf16} {t : ℕ} {blk : Vec Ideal S1x32x96x128 .bf16} (hB : Blk x t blk) (b : Fin 3) (hb : b.val = t / 96)
    (h : ℕ) (hh : h < 12) (j : Fin 16) (l : Fin 128) (q : Fin 2) (w : ℕ) (hw : w < 24) (ew : w = 12 * q.val + h) (n : Fin 8) :
    max (tile (F := Ideal) (sliceOf blk w 0 hw (by decide)) (sliceOf blk w 1 hw (by decide)) (ix2 ⟨16 * n.val + j.val, by omega⟩ l) : EReal)
        (-tile (F := Ideal) (sliceOf blk w 0 hw (by decide)) (sliceOf blk w 1 hw (by decide)) (ix2 ⟨16 * n.val + j.val, by omega⟩ l))
      = absAt x b ⟨2 * h + j.val % 2, by omega⟩ (seqAt (t % 96) (Nat.mod_lt _ (by decide)) j q n) l := by
  rw [tile_val hB w hw ⟨4 * n.val + j.val / 4, by omega⟩ (j.val % 4) (Nat.mod_lt _ (by decide)) b ⟨4 * (t % 96) + q.val + 2 * (j.val % 4 / 2), by omega⟩ ⟨2 * h + j.val % 2, by omega⟩ hb
    (by simp only; omega) (by simp only; omega) _ l (by simp only; omega)]
  rfl

theorem stepMax_le {x : Vec Ideal S3x12288x24x128 .bf16} {t : ℕ} {blk : Vec Ideal S1x32x96x128 .bf16} (hB : Blk x t blk) (b : Fin 3) (hb : b.val = t / 96)
    (old : (h : ℕ) → h < 12 → Vec Ideal S1x16x128 .bf16) (h : ℕ) (hh : h < 12) (j : Fin 16) (l : Fin 128) (z : EReal) :
    (stepMax (F := Ideal) (sliceOf blk) old h hh (ix3 (n0 := 1) 0 j l) : EReal) ≤ z ↔ (old h hh (ix3 (n0 := 1) (n1 := 16) (n2 := 128) 0 j l) : EReal) ≤ z
      ∧ ∀ (q : Fin 2) (n : Fin 8), absAt x b ⟨2 * h + j.val % 2, by omega⟩ (seqAt (t % 96) (Nat.mod_lt _ (by decide)) j q n) l ≤ z := by
  unfold stepMax
  rw [updMax_le, updMax_le, and_assoc]
  simp only [group_abs hB b hb h hh j l 0 (0 + h) (by omega) (by show 0 + h = 12 * 0 + h; omega), group_abs hB b hb h hh j l 1 (12 + h) (by omega) (by show 12 + h = 12 * 1 + h; omega)]
  refine and_congr_right fun _ => ⟨fun H q n => ?_, fun H => ⟨H 0, H 1⟩⟩
  match q with
  | 0 => exact H.1 n
  | 1 => exact H.2 n

section Run

variable {x : Vec Ideal S3x12288x24x128 .bf16} {mx : (n : ℕ) → n < cfg0.N → (h : ℕ) → h < 12 → Vec Ideal S1x16x128 .bf16}
  {blk : Fin cfg0.N → Vec Ideal S1x32x96x128 .bf16} {z0 : Vec Ideal S12x16x128 .bf16}

theorem run_le (hB : ∀ t : Fin cfg0.N, Blk x t.val (blk t)) (h0 : ∀ y, (z0 y : EReal) = 0)
    (hA : ∀ t : Fin cfg0.N, t.val % 96 = 0 → mx t.val t.isLt = stepMax (sliceOf (blk t)) (rowOf z0))
    (hS : ∀ t : Fin cfg0.N, ¬t.val % 96 = 0 → mx t.val t.isLt = stepMax (sliceOf (blk t)) (mx (t.val - 1) (Nat.lt_of_le_of_lt (Nat.sub_le _ _) t.isLt)))
    (b : Fin 3) (h : ℕ) (hh : h < 12) (j : Fin 16) (l : Fin 128) (z : EReal) :
    ∀ (k : ℕ) (hk : k < 96) (hn : 96 * b.val + k < cfg0.N), (mx (96 * b.val + k) hn h hh (ix3 (n0 := 1) (n1 := 16) (n2 := 128) 0 j l) : EReal) ≤ z ↔ 0 ≤ z
      ∧ ∀ (k' : ℕ) (hk' : k' < 96), k' ≤ k → ∀ (q : Fin 2) (n : Fin 8), absAt x b ⟨2 * h + j.val % 2, by omega⟩ (seqAt k' hk' j q n) l ≤ z := by
  intro k
  induction k with
  | zero =>
    intro hk hn
    have e := hA ⟨96 * b.val + 0, hn⟩ (by simp only; omega)
    simp only at e
    rw [e, stepMax_le (hB _) b (by simp only; omega)]
    have em : ∀ hm, seqAt ((96 * b.val + 0) % 96) hm j = seqAt 0 (by decide) j := by
      have : (96 * b.val + 0) % 96 = 0 := by omega
      rw [this]
      exact fun _ => rfl
    simp only [em]
    have ez : (rowOf z0 h hh (ix3 (n0 := 1) (n1 := 16) (n2 := 128) 0 j l) : EReal) = 0 := h0 _
    rw [ez]
    refine and_congr_right fun _ => ⟨fun H k' hk' hle q n => ?_, fun H => H 0 (by decide) (le_refl _)⟩
    have : k' = 0 := by omega
    subst this
    exact H q n
  | succ k ih =>
    intro hk hn
    have e := hS ⟨96 * b.val + (k + 1), hn⟩ (by simp only; omega)
    simp only at e
    rw [e, stepMax_le (hB _) b (by simp only; omega)]
    have em : ∀ hm, seqAt ((96 * b.val + (k + 1)) % 96) hm j = seqAt (k + 1) hk j := by
      have : (96 * b.val + (k + 1)) % 96 = k + 1 := by omega
      rw [this]
      exact fun _ => rfl
    simp only [em]
    have i := ih (by omega) (by omega)
    have i' : (mx (96 * b.val + (k + 1) - 1) (Nat.lt_of_le_of_lt (Nat.sub_le _ _) hn) h hh (ix3 (n0 := 1) (n1 := 16) (n2 := 128) 0 j l) : EReal) ≤ z ↔ _ := i
    rw [i', and_assoc]
    refine and_congr_right fun _ => ⟨fun H k' hk' hle q n => ?_, fun H => ⟨fun k' hk' hle => H k' hk' (by omega), H (k + 1) hk (le_refl _)⟩⟩
    by_cases hc : k' = k + 1
    · subst hc
      exact H.2 q n
    · exact H.1 k' hk' (by omega) q n

theorem lane_word : ∀ (k : Fin 128) (n : Fin 24), IntOp.cmpi CmpIPredicate.eq (BitVec.ofNat 32 k.val) (BitVec.ofNat 32 n.val) = if k.val = n.val then 1#1 else 0#1 := by
  decide +kernel

/-- A lane of the row of maxima. -/
theorem accMax_apply (y : (h : ℕ) → h < 12 → Vec Ideal S1x16x128 .bf16) (k : Fin 128) (hk : k.val < 24) : ∀ (n : ℕ) (hn : n ≤ 24),
    (accMax (F := Ideal) y n hn (ix2 (n0 := 1) 0 k) : EReal) = if k.val < n then (headMax (BitVec.ofNat 1 (k.val % 2)) (y (k.val / 2) (by omega)) : EReal) else 0 := by
  intro n
  induction n with
  | zero =>
    intro hn
    rw [if_neg (by omega)]
    pointwise [accMax]
  | succ n ih =>
    intro hn
    have i := ih (by omega)
    unfold accMax
    generalize accMax (F := Ideal) y n _ = acc at i ⊢
    have hw := lane_word k ⟨n, by omega⟩
    have hx : ∀ v : Ideal .f32, (select (cmpi .eq (iota .tc S1x128 32 [1] iota_S1x128_d1_w32) (broadcast S1x128 (BitVec.ofNat 32 n))) (broadcast S1x128 v) acc (ix2 (n0 := 1) 0 k) : Ideal .f32)
        = if k.val = n then v else acc (ix2 (n0 := 1) (n1 := 128) 0 k) := by
      intro v
      pointwise
      rw [hw]
      by_cases hc : k.val = n
      · rw [if_pos hc, if_pos hc]; rfl
      · rw [if_neg hc, if_neg hc]; rfl
    rw [hx, i]
    by_cases hc : k.val = n
    · subst hc
      rw [if_pos rfl, if_pos (by omega)]
    · rw [if_neg hc]
      by_cases hd : k.val < n
      · rw [if_pos hd, if_pos (by omega)]
      · rw [if_neg hd, if_neg (by omega)]

theorem amaxRow_apply (y : (h : ℕ) → h < 12 → Vec Ideal S1x16x128 .bf16) (k : Fin 24) :
    (amaxRow (F := Ideal) y (ix2 (n0 := 1) (n1 := 24) 0 k) : EReal) = headMax (BitVec.ofNat 1 (k.val % 2)) (y (k.val / 2) (by omega)) := by
  have e := accMax_apply y ⟨k.val, by omega⟩ k.isLt 24 (le_refl _)
  rw [if_pos k.isLt] at e
  unfold amaxRow
  generalize accMax (F := Ideal) y 24 _ = acc at e ⊢
  rw [← e]
  pointwise

/-- The array of maxima is the reference's. -/
theorem max_val (hB : ∀ t : Fin cfg0.N, Blk x t.val (blk t)) (h0 : ∀ y, (z0 y : EReal) = 0)
    (hA : ∀ t : Fin cfg0.N, t.val % 96 = 0 → mx t.val t.isLt = stepMax (sliceOf (blk t)) (rowOf z0))
    (hS : ∀ t : Fin cfg0.N, ¬t.val % 96 = 0 → mx t.val t.isLt = stepMax (sliceOf (blk t)) (mx (t.val - 1) (Nat.lt_of_le_of_lt (Nat.sub_le _ _) t.isLt)))
    (b : Fin 3) (h : Fin 24) : (maxArr (F := Ideal) mx (ix2 (n0 := 3) (n1 := 24) b h) : EReal) = val_main_v36 (F := Ideal) x (ix2 b h) := by
  apply eq_of_forall_ge_iff
  intro z
  have hN : cfg0.N = 288 := N_0
  have e1 : (maxArr (F := Ideal) mx (ix2 (n0 := 3) (n1 := 24) b h) : EReal) = headMax (BitVec.ofNat 1 (h.val % 2)) (mx (96 * b.val + 95) (by rw [hN]; omega) (h.val / 2) (by omega)) :=
    amaxRow_apply _ h
  rw [e1, headMax_le _ (Nat.mod_lt _ (by decide)), RefValues.v36_apply, neg_inf, Finset.fold_max_le]
  have hr := fun (j : Fin 16) (l : Fin 128) => run_le hB h0 hA hS b (h.val / 2) (by omega) j l z 95 (by decide) (by rw [hN]; omega)
  simp only [hr]
  have key : ∀ i : S3x12288x24x128.Idx, Cert.ReferenceIdeal.Gen.reducesTo_S3x12288x24x128_S3x24_d1_3.drop i = ix2 b h → i = ix4 (n0 := 3) (n1 := 12288) (n2 := 24) (n3 := 128) b (i 1) h (i 3) := by
    intro i hi
    have d0 : (Cert.ReferenceIdeal.Gen.reducesTo_S3x12288x24x128_S3x24_d1_3.drop i 0 : ℕ) = i 0 := Shape.ReducesTo.drop_apply_val_of_eq Cert.ReferenceIdeal.Gen.reducesTo_S3x12288x24x128_S3x24_d1_3 i 0 0
    have d1 : (Cert.ReferenceIdeal.Gen.reducesTo_S3x12288x24x128_S3x24_d1_3.drop i 1 : ℕ) = i 2 := Shape.ReducesTo.drop_apply_val_of_eq Cert.ReferenceIdeal.Gen.reducesTo_S3x12288x24x128_S3x24_d1_3 i 1 2
    rw [hi] at d0 d1
    funext a
    match a with
    | ⟨0, _⟩ => exact Fin.ext d0.symm
    | ⟨1, _⟩ => rfl
    | ⟨2, _⟩ => exact Fin.ext d1.symm
    | ⟨3, _⟩ => rfl
  have key' : ∀ (s : Fin 12288) (l : Fin 128), Cert.ReferenceIdeal.Gen.reducesTo_S3x12288x24x128_S3x24_d1_3.drop (ix4 (n0 := 3) (n1 := 12288) (n2 := 24) (n3 := 128) b s h l) = ix2 b h := by
    intro s l
    funext a
    match a with
    | ⟨0, _⟩ => exact Fin.ext (Shape.ReducesTo.drop_apply_val_of_eq Cert.ReferenceIdeal.Gen.reducesTo_S3x12288x24x128_S3x24_d1_3 (ix4 (n0 := 3) (n1 := 12288) (n2 := 24) (n3 := 128) b s h l) 0 0)
    | ⟨1, _⟩ => exact Fin.ext (Shape.ReducesTo.drop_apply_val_of_eq Cert.ReferenceIdeal.Gen.reducesTo_S3x12288x24x128_S3x24_d1_3 (ix4 (n0 := 3) (n1 := 12288) (n2 := 24) (n3 := 128) b s h l) 1 2)
  have all : (⊥ ≤ z ∧ ∀ i ∈ ({i | Cert.ReferenceIdeal.Gen.reducesTo_S3x12288x24x128_S3x24_d1_3.drop i = ix2 b h} : Finset S3x12288x24x128.Idx), max (x i : EReal) (-x i) ≤ z)
      ↔ ∀ (s : Fin 12288) (l : Fin 128), absAt x b h s l ≤ z := by
    constructor
    · intro H s l
      exact H.2 _ (Finset.mem_filter.mpr ⟨Finset.mem_univ _, key' s l⟩)
    · refine fun H => ⟨bot_le, fun i hi => ?_⟩
      rw [key i (Finset.mem_filter.mp hi).2]
      exact H _ _
  refine Iff.trans ?_ all.symm
  constructor
  · rintro ⟨-, H⟩ s l
    have := (H ⟨4 * (s.val / 384 % 4) + 2 * (s.val % 384 / 2 % 2) + h.val % 2, by omega⟩ l (by simp only; omega)).2 (s.val % 384 / 4) (by omega) (by omega)
      ⟨s.val % 384 % 2, by omega⟩ ⟨s.val / 384 / 4, by omega⟩
    have es : seqAt (s.val % 384 / 4) (by omega) ⟨4 * (s.val / 384 % 4) + 2 * (s.val % 384 / 2 % 2) + h.val % 2, by omega⟩ ⟨s.val % 384 % 2, by omega⟩ ⟨s.val / 384 / 4, by omega⟩ = s :=
      Fin.ext (by unfold seqAt; simp only; omega)
    have eh : (⟨2 * (h.val / 2) + (4 * (s.val / 384 % 4) + 2 * (s.val % 384 / 2 % 2) + h.val % 2) % 2, by omega⟩ : Fin 24) = h := Fin.ext (by simp only; omega)
    simp only [es, eh] at this
    exact this
  · intro H
    have hz : 0 ≤ z := (abs_nonneg _).trans (H 0 0)
    refine ⟨hz, fun j l hj => ⟨hz, fun k' hk' hle q n => ?_⟩⟩
    have eh : (⟨2 * (h.val / 2) + j.val % 2, by omega⟩ : Fin 24) = h := Fin.ext (by simp only; omega)
    rw [eh]
    exact H _ _

end Run

end Cert.Cells

end
-- ==== Proof.Results.lean ====
/-
  The five arrays the idealized kernel leaves are the five the reference computes of the same arguments.
-/
module

public import proofs.«01_k».proof.Proof.Outs
public import proofs.«01_k».proof.Proof.Maxima

@[expose] public section

set_option maxRecDepth 16384

noncomputable section

namespace Cert.Results

open Idealize.ShloMosaic Idealize.ShloMosaic.TcCoe Idealize.ShloMosaic.Tactic Cert.KernelIdeal Cert.KernelIdeal.Gen Cert.KernelIdeal.Block Cert.Cells
open Cert.InvScale (Ok)
open Cert.ReferenceIdeal.Read

/-- The blocks of one argument at the grid's points make up an array as `arrOf` says. -/
theorem arr_ext {e : EltTy} (blk : Fin cfg0.N → Vec Ideal S1x32x96x128 e) (Y : Vec Ideal S3x32x9216x128 e)
    (h : ∀ (t : Fin cfg0.N) (b : Fin 3) (f : Fin 32) (r : Fin 96) (l : Fin 128) (R : Fin 9216), b.val = t.val / 96 → R.val = 96 * (t.val % 96) + r.val →
      blk t (ix4 (n0 := 1) (n1 := 32) (n2 := 96) (n3 := 128) 0 f r l) = Y (ix4 (n0 := 3) (n1 := 32) (n2 := 9216) (n3 := 128) b f R l)) : arrOf blk = Y := by
  funext y
  obtain ⟨b, f, R, l, rfl⟩ : ∃ (b : Fin 3) (f : Fin 32) (R : Fin 9216) (l : Fin 128), y = ix4 (n0 := 3) (n1 := 32) (n2 := 9216) (n3 := 128) b f R l := by
    refine ⟨y 0, y 1, y 2, y 3, ?_⟩
    funext a
    match a with
    | ⟨0, _⟩ => rfl
    | ⟨1, _⟩ => rfl
    | ⟨2, _⟩ => rfl
    | ⟨3, _⟩ => rfl
  exact h (ptOf b.val R.val b.isLt R.isLt) b f ⟨R.val % 96, Nat.mod_lt _ (by decide)⟩ l R (by show b.val = (96 * b.val + R.val / 96) / 96; omega)
    (by show R.val = 96 * ((96 * b.val + R.val / 96) % 96) + R.val % 96; omega)

variable (m : (ℓ : Loc nD τ sig) → Buf (Elt Ideal) ℓ) (c : Dev nD)

/-- The arguments. -/
abbrev q : Vec Ideal S3x12288x24x128 .bf16 := m ((c : Thread nD τ).loc main_arg0)
abbrev k : Vec Ideal S3x12288x24x128 .bf16 := m ((c : Thread nD τ).loc main_arg1)
abbrev v : Vec Ideal S3x12288x24x128 .bf16 := m ((c : Thread nD τ).loc main_arg2)
abbrev qs : Vec Ideal S3x24 .f32 := m ((c : Thread nD τ).loc main_arg3)
abbrev ks : Vec Ideal S3x24 .f32 := m ((c : Thread nD τ).loc main_arg4)

theorem blk_q (t : Fin cfg0.N) : Blk (q m c) t.val (iblk m c 2 t) := blk_of _ t _ (iblk_2 m c t)
theorem blk_k (t : Fin cfg0.N) : Blk (k m c) t.val (iblk m c 3 t) := blk_of _ t _ (iblk_3 m c t)
theorem blk_v (t : Fin cfg0.N) : Blk (v m c) t.val (iblk m c 4 t) := blk_of _ t _ (iblk_4 m c t)

theorem idx_0 : ∀ t : Fin cfg0.N, win0_0.index t = ![0, 0] := by decide +kernel
theorem idx_1 : ∀ t : Fin cfg0.N, win0_1.index t = ![0, 0] := by decide +kernel

/-- The scales' block is the scales. -/
theorem blk_qs (t : Fin cfg0.N) : (iblk m c 0 t : Vec Ideal S3x24 .f32) = qs m c := by
  funext y
  have e : V m c main_arg3 y = qs m c y := by rw [V_main_arg3]
  refine Eq.trans ?_ e
  blk_simp [iblk]
  congr 1
  blk_ext [idx_0 t]
theorem blk_ks (t : Fin cfg0.N) : (iblk m c 1 t : Vec Ideal S3x24 .f32) = ks m c := by
  funext y
  have e : V m c main_arg4 y = ks m c y := by rw [V_main_arg4]
  refine Eq.trans ?_ e
  blk_simp [iblk]
  congr 1
  blk_ext [idx_1 t]

theorem q8_at (t : Fin cfg0.N) (w : ℕ) (hw : w < 24) : (ldAt m c t).q8 w hw = codes (F := Ideal) (sliceOf (iblk m c 2 t) w 0 hw (by decide)) (sliceOf (iblk m c 2 t) w 1 hw (by decide))
    (invOf (qs m c) (grid0.coords t) (w % 12) (Nat.mod_lt _ (by decide))) := by
  rw [← blk_qs m c t]
  rfl
theorem k8_at (t : Fin cfg0.N) (w : ℕ) (hw : w < 24) : (ldAt m c t).k8 w hw = codes (F := Ideal) (sliceOf (iblk m c 3 t) w 0 hw (by decide)) (sliceOf (iblk m c 3 t) w 1 hw (by decide))
    (invOf (ks m c) (grid0.coords t) (w % 12) (Nat.mod_lt _ (by decide))) := by
  rw [← blk_ks m c t]
  rfl

variable (hq : ∀ (b : Fin 3) (h : Fin 24), Ok (qs m c (ix2 (n0 := 3) (n1 := 24) b h))) (hk : ∀ (b : Fin 3) (h : Fin 24), Ok (ks m c (ix2 (n0 := 3) (n1 := 24) b h)))

include hq in
/-- The query's codes. -/
theorem codes_q : arrOf (fun t => codeBlk (ldAt m c t).q8) = val_main_v68 (F := Ideal) (q m c) (qs m c) := by
  refine arr_ext _ _ fun t b f r l R hb hR => ?_
  have hr := r.isLt
  rw [codeBlk_apply, RefValues.v68_apply, q8_at]
  refine codes_val (blk_q m c t) (qs m c) (grid0.coords t) (r.val % 48 / 2) (by omega) f (2 * (r.val / 48) + r.val % 2) (by omega) b ⟨R.val / 24, by omega⟩ ⟨R.val % 24, by omega⟩
    ((coords_0 t).trans hb.symm) (hq _ _) hb ?_ ?_ ⟨4 * f.val + (2 * (r.val / 48) + r.val % 2), by omega⟩ l rfl
  · simp only; omega
  · simp only; omega

include hk in
/-- The key's codes. -/
theorem codes_k : arrOf (fun t => codeBlk (ldAt m c t).k8) = val_main_v69 (F := Ideal) (k m c) (ks m c) := by
  rw [RefValues.v69_eq]
  refine arr_ext _ _ fun t b f r l R hb hR => ?_
  have hr := r.isLt
  rw [codeBlk_apply, RefValues.v68_apply, k8_at]
  refine codes_val (blk_k m c t) (ks m c) (grid0.coords t) (r.val % 48 / 2) (by omega) f (2 * (r.val / 48) + r.val % 2) (by omega) b ⟨R.val / 24, by omega⟩ ⟨R.val % 24, by omega⟩
    ((coords_0 t).trans hb.symm) (hk _ _) hb ?_ ?_ ⟨4 * f.val + (2 * (r.val / 48) + r.val % 2), by omega⟩ l rfl
  · simp only; omega
  · simp only; omega

include hq hk in
/-- The output. -/
theorem outs : arrOf (fun t => outBlk (ldAt m c t)) = val_main_v67 (F := Ideal) (q m c) (k m c) (v m c) (qs m c) (ks m c) := by
  refine arr_ext _ _ fun t b f r l R hb hR => ?_
  have hr := r.isLt
  rw [outBlk_apply, RefValues.v67_apply]
  have e : ldAt m c t = loadsAt (qs m c) (ks m c) (iblk m c 2 t) (iblk m c 3 t) (iblk m c 4 t) (grid0.coords t) := by
    unfold ldAt
    rw [blk_qs, blk_ks]
  rw [e]
  refine out_val (blk_q m c t) (blk_k m c t) (blk_v m c t) (qs m c) (ks m c) (grid0.coords t) (r.val % 48 / 2) (by omega) f ⟨r.val / 48, by omega⟩ ⟨r.val % 2, by omega⟩
    b ⟨R.val / 24, by omega⟩ ⟨R.val % 24, by omega⟩ l ((coords_0 t).trans hb.symm) (hq _ _) (hk _ _) hb ?_ ?_
  · simp only; omega
  · simp only; omega

theorem pay127 (y : S12x16x128.Idx) : ((k0_pay127 (F := Ideal)) y : EReal) = 0 := by
  unfold k0_pay127
  pointwise
theorem pay128 (y : S12x16x128.Idx) : ((k0_pay128 (F := Ideal)) y : EReal) = 0 := by
  unfold k0_pay128
  pointwise

theorem ext2 (X Y : Vec Ideal S3x24 .f32) (h : ∀ (b : Fin 3) (n : Fin 24), (X (ix2 (n0 := 3) (n1 := 24) b n) : EReal) = Y (ix2 (n0 := 3) (n1 := 24) b n)) : X = Y := by
  funext y
  have e : y = ix2 (n0 := 3) (n1 := 24) (y 0) (y 1) := by
    funext a
    match a with
    | ⟨0, _⟩ => rfl
    | ⟨1, _⟩ => rfl
  rw [e]
  exact h _ _

/-- The query's maxima. -/
theorem max_q : maxArr (qmax m c) = val_main_v36 (F := Ideal) (q m c) :=
  ext2 _ _ fun b h => max_val (blk := fun t => iblk m c 2 t) (blk_q m c) pay127 (qmax_A m c) (qmax_B m c) b h

/-- The key's maxima. -/
theorem max_k : maxArr (kmax m c) = val_main_v39 (F := Ideal) (k m c) :=
  ext2 _ _ fun b h => max_val (blk := fun t => iblk m c 3 t) (blk_k m c) pay128 (kmax_A m c) (kmax_B m c) b h

end Cert.Results

end
-- ==== Proof.Scales.lean ====
/-
  The claims' precondition read at a scale: it is zero, or of a size from 2^−127 to below 2^127.
-/
module

public import proofs.«01_k».proof.Proof.InvScale
public import proofs.«01_k».proof.Proof.Gen.Pre_scales_ok
public import Idealize.ShloMosaic.Lib.WordCmp
public import Idealize.ShloMosaic.Lib.Pointwise

@[expose] public section

set_option maxRecDepth 16384

noncomputable section

namespace Cert.InvScale

open Idealize.ShloMosaic Idealize.ShloMosaic.TcCoe Cert.Pre_scales_ok

theorem lo_word : Ideal.ofBits .f32 4194304#32 = (((2 : ℝ) ^ (-127 : ℤ) : ℝ) : EReal) := word_half
theorem hi_word : Ideal.ofBits .f32 2130706432#32 = (((2 : ℝ) ^ (127 : ℤ) : ℝ) : EReal) := word_pow 254 (by decide) (by decide)

theorem ok_of (s : EReal) (h : s = 0 ∨ (Ideal.ofBits .f32 4194304#32 ≤ max s (-s) ∧ max s (-s) < Ideal.ofBits .f32 2130706432#32)) : Ok s := by
  rcases h with h | ⟨h1, h2⟩
  · exact Or.inl h
  · refine Or.inr ?_
    rw [lo_word] at h1
    rw [hi_word] at h2
    generalize max s (-s) = a at h1 h2 ⊢
    induction a using EReal.rec with
    | bot => exact absurd (le_bot_iff.mp h1) (EReal.coe_ne_bot _)
    | top => exact absurd h2 not_top_lt
    | coe x => exact ⟨x, rfl, EReal.coe_le_coe_iff.mp h1, EReal.coe_lt_coe_iff.mp h2⟩

/-- The precondition of the claims, decoded. -/
theorem ok_of_pre [Cert.Pre_scales_ok.Facts] (x0 x1 x2 : FVec Ideal S3x12288x24x128 .bf16) (x3 x4 : FVec Ideal S3x24 .f32)
    (h : fn (F := Ideal) x0 x1 x2 x3 x4 = fun _ => 1#1) (b : Fin 3) (n : Fin 24) :
    Ok (x3 (ix2 b n) : EReal) ∧ Ok (x4 (ix2 b n) : EReal) := by
  have e := congrFun h (ix2 b n)
  pointwise [fn, fn_part1] at e
  simp only [WordCmp.ori_ofBool, WordCmp.andi_ofBool, WordCmp.ofBool_eq_one_iff, Bool.and_eq_true, Bool.or_eq_true, decide_eq_true_eq] at e
  exact ⟨ok_of _ e.1, ok_of _ e.2⟩

end Cert.InvScale

end
-- ==== Proof.lean ====
module

public import proofs.«01_k».proof.Defs
public import proofs.«01_k».proof.Proof.Ref
public import proofs.«01_k».proof.Proof.Bits.Frame
public import proofs.«01_k».proof.Proof.Results
public import proofs.«01_k».proof.Proof.Scales
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_scales_ok
public import Idealize.ShloMosaic.Adequacy
public import Idealize.ShloMosaic.Init

@[expose] public section

noncomputable section

namespace Cert.Proof

open Idealize.ShloMosaic Idealize.ShloMosaic.TcCoe Idealize.SL.Sem
open Cert.ReferenceIdeal.Read

/-- The idealized kernel runs, leaves its arguments and every counter at zero. -/
theorem frame_ideal : quiescent_KernelIdeal (hKernelIdeal := Cert.KernelIdeal.Gen.facts) := fun m g _ =>
  (θ_run (Cert.KernelIdeal.defs (F := Ideal)) _ _).mono (fun _ h => ⟨fun c => (h.1 c).2, h.2⟩) (Cert.KernelIdeal.Block.run (F := Ideal) m g)

/-- The reference runs, leaves its arguments and every counter at zero. -/
theorem frame_reference : quiescent_ReferenceIdeal (hReferenceIdeal := Cert.ReferenceIdeal.Gen.facts) := fun m g _ =>
  (θ_run (Cert.ReferenceIdeal.defs (F := Ideal)) _ _).mono
    (fun r h => ⟨fun c => (h c).2.2.2.2.2, sem_eq_zero_of_no_sems (by decide) r.2⟩) (Cert.ReferenceIdeal.Value.run (F := Ideal) m g)

/-- From the same arguments the idealized kernel and the reference leave the same five results. -/
theorem algebraic : algebraic_KernelIdeal_ReferenceIdeal_pre_scales_ok (hKernelIdeal := Cert.KernelIdeal.Gen.facts) (hReferenceIdeal := Cert.ReferenceIdeal.Gen.facts) (hPre_scales_ok := Cert.Pre_scales_ok.Gen.facts) := by
  intro m g m' g' hpre hm
  have hok := fun c => @Cert.InvScale.ok_of_pre Cert.Pre_scales_ok.Gen.facts _ _ _ _ _ (hpre c)
  refine ⟨fun c => val_main_v67 (F := Ideal) (Results.q m c) (Results.k m c) (Results.v m c) (Results.qs m c) (Results.ks m c),
    fun c => val_main_v68 (F := Ideal) (Results.q m c) (Results.qs m c), fun c => val_main_v69 (F := Ideal) (Results.k m c) (Results.ks m c),
    fun c => val_main_v36 (F := Ideal) (Results.q m c), fun c => val_main_v39 (F := Ideal) (Results.k m c), ?_, ?_⟩
  · refine (θ_run _ _ _).mono (fun r h c => ?_) (Cert.KernelIdeal.Block.run (F := Ideal) m g)
    obtain ⟨⟨h0, h1, h2, h3, h4⟩, ha⟩ := h.1 c
    exact ⟨h0.trans (Results.outs m c (fun b n => (hok c b n).1) (fun b n => (hok c b n).2)), h1.trans (Results.codes_q m c fun b n => (hok c b n).1),
      h2.trans (Results.codes_k m c fun b n => (hok c b n).2), h3.trans (Results.max_q m c), h4.trans (Results.max_k m c), ha⟩
  · refine (θ_run _ _ _).mono (fun r h c => ?_) (Cert.ReferenceIdeal.Value.run (F := Ideal) m' g')
    obtain ⟨h0, h1, h2, h3, h4, ha⟩ := h c
    obtain ⟨e0, e1, e2, e3, e4⟩ := hm c
    refine ⟨h0.trans ?_, h1.trans ?_, h2.trans ?_, h3.trans ?_, h4.trans ?_, ha⟩
    · rw [val_main_v67_eq, e0, e1, e2, e3, e4]
    · rw [e0, e3]; exact val_main_v68_eq _ _
    · rw [e1, e4]; exact val_main_v69_eq _ _
    · rw [e0]; exact val_main_v36_eq _
    · rw [e1]; exact val_main_v39_eq _

theorem claim : Cert.Claim :=
  ⟨Cert.Kernel.Gen.facts, Cert.KernelIdeal.Gen.facts, Cert.ReferenceIdeal.Gen.facts, Cert.Pre_scales_ok.Gen.facts,
    fun m ρ _ => Cert.Kernel.Gen.frame m ρ, frame_ideal, fun m ρ _ => frame_ideal m ρ trivial,
    frame_reference, fun m ρ _ => frame_reference m ρ trivial,
    IdealRules.named_const.statement Cert.KernelIdeal.κ "log2e" .f32 0x3FB8AA3B#32 (((Real.log 2)⁻¹ : ℝ) : EReal) rfl, algebraic⟩

end Cert.Proof

end
